-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_v32) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v92) = v0 c
          ∧ r.2.mem ((c.tc : Thread Cert.Reference3Ideal.nD Cert.Reference3Ideal.τ).loc Cert.Reference3Ideal.main_v93) = v1 c
          ∧ r.2.mem ((c.tc : Thread Cert.Reference3Ideal.nD Cert.Reference3Ideal.τ).loc Cert.Reference3Ideal.main_v66) = v2 c
          ∧ r.2.mem ((c.tc : Thread Cert.Reference3Ideal.nD Cert.Reference3Ideal.τ).loc Cert.Reference3Ideal.main_v69) = v3 c
          ∧ r.2.mem ((c.tc : Thread Cert.Reference3Ideal.nD Cert.Reference3Ideal.τ).loc Cert.Reference3Ideal.main_v94) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)) (v2 : (c : Dev Cert.Kernel4Ideal.nD) → Buf (Elt Ideal) ((c.tc : Thread Cert.Kernel4Ideal.nD Cert.Kernel4Ideal.τ).loc Cert.Kernel4Ideal.main_v26_2)) (v3 : (c : Dev Cert.Kernel4Ideal.nD) → Buf (Elt Ideal) ((c.tc : Thread Cert.Kernel4Ideal.nD Cert.Kernel4Ideal.τ).loc Cert.Kernel4Ideal.main_v26_3)) (v4 : (c : Dev Cert.Kernel4Ideal.nD) → Buf (Elt Ideal) ((c.tc : Thread Cert.Kernel4Ideal.nD Cert.Kernel4Ideal.τ).loc Cert.Kernel4Ideal.main_v26_4)) (v5 : (c : Dev Cert.Kernel4Ideal.nD) → Buf (Elt Ideal) ((c.tc : Thread Cert.Kernel4Ideal.nD Cert.Kernel4Ideal.τ).loc Cert.Kernel4Ideal.main_v26_5)) (v6 : (c : Dev Cert.Kernel4Ideal.nD) → Buf (Elt Ideal) ((c.tc : Thread Cert.Kernel4Ideal.nD Cert.Kernel4Ideal.τ).loc Cert.Kernel4Ideal.main_v26_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_v26_2) = v2 c
          ∧ r.2.mem ((c.tc : Thread Cert.Kernel4Ideal.nD Cert.Kernel4Ideal.τ).loc Cert.Kernel4Ideal.main_v26_3) = v3 c
          ∧ r.2.mem ((c.tc : Thread Cert.Kernel4Ideal.nD Cert.Kernel4Ideal.τ).loc Cert.Kernel4Ideal.main_v26_4) = v4 c
          ∧ r.2.mem ((c.tc : Thread Cert.Kernel4Ideal.nD Cert.Kernel4Ideal.τ).loc Cert.Kernel4Ideal.main_v26_5) = v5 c
          ∧ r.2.mem ((c.tc : Thread Cert.Kernel4Ideal.nD Cert.Kernel4Ideal.τ).loc Cert.Kernel4Ideal.main_v26_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v745) = v0 c
          ∧ r.2.mem ((c.tc : Thread Cert.Reference4Ideal.nD Cert.Reference4Ideal.τ).loc Cert.Reference4Ideal.main_v746) = v1 c
          ∧ r.2.mem ((c.tc : Thread Cert.Reference4Ideal.nD Cert.Reference4Ideal.τ).loc Cert.Reference4Ideal.main_v719) = v2 c
          ∧ r.2.mem ((c.tc : Thread Cert.Reference4Ideal.nD Cert.Reference4Ideal.τ).loc Cert.Reference4Ideal.main_v722) = v3 c
          ∧ r.2.mem ((c.tc : Thread Cert.Reference4Ideal.nD Cert.Reference4Ideal.τ).loc Cert.Reference4Ideal.main_v747) = v4 c
          ∧ r.2.mem ((c.tc : Thread Cert.Reference4Ideal.nD Cert.Reference4Ideal.τ).loc Cert.Reference4Ideal.main_v706) = v5 c
          ∧ r.2.mem ((c.tc : Thread Cert.Reference4Ideal.nD Cert.Reference4Ideal.τ).loc Cert.Reference4Ideal.main_v748) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S1x1024 : S_.BroadcastsInDim S1x1024 (![] : Fin 0 → Fin S1x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x2816 .f32) (main_arg2 : FVec F S2816x1024 .f32) (main_arg3 : FVec F S1x1024 .f32) (main_arg4 : FVec F S1024 .f32) : IVec S4096x1024 1 × IVec S4096x2816 1 × IVec S2816x1024 1 × IVec S1x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_finite2.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024 : S_.BroadcastsInDim S1024 (![] : Fin 0 → Fin S1024.rank)

variable [Facts]

def fn {F : FTy → Type} [FloatOps F] (main_arg0 : FVec F S4096x2816 .f32) (main_arg1 : FVec F S2816x1024 .f32) (main_arg2 : FVec F S4096x1024 .f32) (main_arg3 : FVec F S1x1024 .f32) (main_arg4 : FVec F S1024 .f32) (main_arg5 : FVec F S4096x1024 .f32) : IVec S4096x2816 1 × IVec S2816x1024 1 × IVec S4096x1024 1 × IVec S1x1024 1 × IVec S1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite3.lean ====
abbrev S4096x2816 : Shape := ⟨2, ![4096, 2816]⟩
abbrev S3x5632 : Shape := ⟨2, ![3, 5632]⟩
abbrev S1024x5632 : Shape := ⟨2, ![1024, 5632]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S3x5632 : S_.BroadcastsInDim S3x5632 (![] : Fin 0 → Fin S3x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1024 : S_.BroadcastsInDim S1024 (![] : Fin 0 → Fin S1024.rank)
  bcast_S_S1x1024 : S_.BroadcastsInDim S1x1024 (![] : Fin 0 → Fin S1x1024.rank)

variable [Facts]

def fn_part1 {F : FTy → Type} [FloatOps F] (main_arg6 : FVec F S1024 .f32) (main_arg7 : FVec F S1x1024 .f32) (main_arg8 : FVec F S1x1024 .f32) (main_v2 : IVec S4096x2816 1) (main_v5 : IVec S4096x2816 1) (main_v8 : IVec S3x5632 1) (main_v11 : IVec S1024x5632 1) (main_v14 : IVec S4096x1024 1) (main_v17 : IVec S4096x1024 1) : IVec S4096x2816 1 × IVec S4096x2816 1 × IVec S3x5632 1 × IVec S1024x5632 1 × IVec S4096x1024 1 × IVec S4096x1024 1 × IVec S1024 1 × IVec S1x1024 1 × IVec S1x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  (main_v2, main_v5, main_v8, main_v11, main_v14, main_v17, main_v20, main_v23, main_v26)

def fn {F : FTy → Type} [FloatOps F] (main_arg0 : FVec F S4096x2816 .f32) (main_arg1 : FVec F S4096x2816 .f32) (main_arg2 : FVec F S3x5632 .f32) (main_arg3 : FVec F S1024x5632 .f32) (main_arg4 : FVec F S4096x1024 .f32) (main_arg5 : FVec F S4096x1024 .f32) (main_arg6 : FVec F S1024 .f32) (main_arg7 : FVec F S1x1024 .f32) (main_arg8 : FVec F S1x1024 .f32) : IVec S4096x2816 1 × IVec S4096x2816 1 × IVec S3x5632 1 × IVec S1024x5632 1 × IVec S4096x1024 1 × IVec S4096x1024 1 × IVec S1024 1 × IVec S1x1024 1 × IVec S1x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_arg8 main_v2 main_v5 main_v8 main_v11 main_v14 main_v17
-- ==== Pre_finite4.lean ====
abbrev S4096x1024 : Shape := ⟨2, ![4096, 1024]⟩
abbrev S4096x768 : Shape := ⟨2, ![4096, 768]⟩
abbrev S4096x384 : Shape := ⟨2, ![4096, 384]⟩
abbrev S4096x256 : Shape := ⟨2, ![4096, 256]⟩
abbrev S1024 : Shape := ⟨1, ![1024]⟩
abbrev S1x1024 : Shape := ⟨2, ![1, 1024]⟩
abbrev S31x384 : Shape := ⟨2, ![31, 384]⟩
abbrev S1024x1792 : Shape := ⟨2, ![1024, 1792]⟩
abbrev S_ : Shape := ⟨0, ![]⟩

class Facts : Prop where
  bcast_S_S4096x1024 : S_.BroadcastsInDim S4096x1024 (![] : Fin 0 → Fin S4096x1024.rank)
  bcast_S_S4096x768 : S_.BroadcastsInDim S4096x768 (![] : Fin 0 → Fin S4096x768.rank)
  bcast_S_S4096x384 : S_.BroadcastsInDim S4096x384 (![] : Fin 0 → Fin S4096x384.rank)
  bcast_S_S4096x256 : S_.BroadcastsInDim S4096x256 (![] : Fin 0 → Fin S4096x256.rank)
  bcast_S_S1024 : S_.BroadcastsInDim S1024 (![] : Fin 0 → Fin S1024.rank)
  bcast_S_S1x1024 : S_.BroadcastsInDim S1x1024 (![] : Fin 0 → Fin S1x1024.rank)
  bcast_S_S31x384 : S_.BroadcastsInDim S31x384 (![] : Fin 0 → Fin S31x384.rank)
  bcast_S_S1024x1792 : S_.BroadcastsInDim S1024x1792 (![] : Fin 0 → Fin S1024x1792.rank)

variable [Facts]

def fn_part1 {F : FTy → Type} [FloatOps F] (main_arg6 : FVec F S1x1024 .f32) (main_arg7 : FVec F S1x1024 .f32) (main_arg8 : FVec F S31x384 .f32) (main_arg9 : FVec F S1024x1792 .f32) (main_v2 : IVec S4096x1024 1) (main_v5 : IVec S4096x768 1) (main_v8 : IVec S4096x384 1) (main_v11 : IVec S4096x256 1) (main_v14 : IVec S4096x1024 1) (main_v17 : IVec S1024 1) : IVec S4096x1024 1 × IVec S4096x768 1 × IVec S4096x384 1 × IVec S4096x256 1 × IVec S4096x1024 1 × IVec S1024 1 × IVec S1x1024 1 × IVec S1x1024 1 × IVec S31x384 1 × IVec S1024x1792 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S31x384 .f32 := Host.absf main_arg8
  let main_cst_7 : FVec F S_ .f32 := constant S_ .f32 0x7F800000#32
  let main_v25 : FVec F S31x384 .f32 := broadcastInDim S31x384 ![] bcast_S_S31x384 main_cst_7
  let main_v26 : IVec S31x384 1 := cmpf .olt main_v24 main_v25
  let main_v27 : FVec F S1024x1792 .f32 := Host.absf main_arg9
  let main_cst_8 : FVec F S_ .f32 := constant S_ .f32 0x7F800000#32
  let main_v28 : FVec F S1024x1792 .f32 := broadcastInDim S1024x1792 ![] bcast_S_S1024x1792 main_cst_8
  let main_v29 : IVec S1024x1792 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S4096x768 .f32) (main_arg2 : FVec F S4096x384 .f32) (main_arg3 : FVec F S4096x256 .f32) (main_arg4 : FVec F S4096x1024 .f32) (main_arg5 : FVec F S1024 .f32) (main_arg6 : FVec F S1x1024 .f32) (main_arg7 : FVec F S1x1024 .f32) (main_arg8 : FVec F S31x384 .f32) (main_arg9 : FVec F S1024x1792 .f32) : IVec S4096x1024 1 × IVec S4096x768 1 × IVec S4096x384 1 × IVec S4096x256 1 × IVec S4096x1024 1 × IVec S1024 1 × IVec S1x1024 1 × IVec S1x1024 1 × IVec S31x384 1 × IVec S1024x1792 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x768 .f32 := Host.absf main_arg1
  let main_cst_0 : FVec F S_ .f32 := constant S_ .f32 0x7F800000#32
  let main_v4 : FVec F S4096x768 .f32 := broadcastInDim S4096x768 ![] bcast_S_S4096x768 main_cst_0
  let main_v5 : IVec S4096x768 1 := cmpf .olt main_v3 main_v4
  let main_v6 : FVec F S4096x384 .f32 := Host.absf main_arg2
  let main_cst_1 : FVec F S_ .f32 := constant S_ .f32 0x7F800000#32
  let main_v7 : FVec F S4096x384 .f32 := broadcastInDim S4096x384 ![] bcast_S_S4096x384 main_cst_1
  let main_v8 : IVec S4096x384 1 := cmpf .olt main_v6 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_v2 main_v5 main_v8 main_v11 main_v14 main_v17
-- ==== Kernel.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S1024 : Shape := ⟨1, ![1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S2816x1024, .bf16⟩
  | .hbm, ⟨8, _⟩ => ⟨S4096x1024, .bf16⟩
  | .hbm, ⟨9, _⟩ => ⟨S4096x2816, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S512x1024, .bf16⟩
  | .local _ .vmem, ⟨8, _⟩ => ⟨S512x1024, .bf16⟩
  | .local _ .vmem, ⟨9, _⟩ => ⟨S512x2816, .f32⟩
  | .local _ .vmem, ⟨10, _⟩ => ⟨S512x2816, .f32⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | .hbm, ⟨60, _⟩ => ⟨S4096x2816, .f32⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S1024x2816 : Shape := ⟨2, ![1024, 2816]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S4096x2816, .bf16⟩
  | .hbm, ⟨7, _⟩ => ⟨S2816x1024, .bf16⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S1x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v41 : BitVec 1 := Scalar.cmpi .eq arg0 c3_i32
  let v42 : BitVec 32 := Scalar.extui v41
  let c0_i32_25 : BitVec 32 := 0#32
  let v43 : BitVec 1 := Scalar.cmpi .ne v42 c0_i32_25
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_cst_7 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel3.lean ====
abbrev S4096x2816 : Shape := ⟨2, ![4096, 2816]⟩
abbrev S3x5632 : Shape := ⟨2, ![3, 5632]⟩
abbrev S1024x5632 : Shape := ⟨2, ![1024, 5632]⟩
abbrev S4096x1024 : Shape := ⟨2, ![4096, 1024]⟩
abbrev S1024 : Shape := ⟨1, ![1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S_ : Shape := ⟨0, ![]⟩
abbrev S4096x5632 : Shape := ⟨2, ![4096, 5632]⟩
abbrev S256x2816 : Shape := ⟨2, ![256, 2816]⟩
abbrev S8x2816 : Shape := ⟨2, ![8, 2816]⟩
abbrev S256x1024 : Shape := ⟨2, ![256, 1024]⟩
abbrev S256x5632 : Shape := ⟨2, ![256, 5632]⟩
abbrev S264x1408 : Shape := ⟨2, ![264, 1408]⟩
abbrev S256x1408 : Shape := ⟨2, ![256, 1408]⟩
abbrev S8x1408 : Shape := ⟨2, ![8, 1408]⟩
abbrev S1x1408 : Shape := ⟨2, ![1, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 21
  | .vmem => 24
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x5632, .f32⟩
  | .hbm, ⟨3, _⟩ => ⟨S1024x5632, .f32⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S4096x1024, .f32⟩
  | .hbm, ⟨17, _⟩ => ⟨S4096x5632, .bf16⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x2816, .f32⟩
  | .local _ .vmem, ⟨5, _⟩ => ⟨S256x2816, .f32⟩
  | .local _ .vmem, ⟨6, _⟩ => ⟨S8x2816, .f32⟩
  | .local _ .vmem, ⟨7, _⟩ => ⟨S8x2816, .f32⟩
  | .local _ .vmem, ⟨8, _⟩ => ⟨S3x5632, .f32⟩
  | .local _ .vmem, ⟨9, _⟩ => ⟨S4x1024x1408, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x5632, .bf16⟩
  | .local _ .vmem, ⟨19, _⟩ => ⟨S256x5632, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S264x1408, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S4096x2816 : Shape := ⟨2, ![4096, 2816]⟩
abbrev S3x5632 : Shape := ⟨2, ![3, 5632]⟩
abbrev S1024x5632 : Shape := ⟨2, ![1024, 5632]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S5632 : Shape := ⟨1, ![5632]⟩
abbrev S2x5632 : Shape := ⟨2, ![2, 5632]⟩
abbrev S4098x5632 : Shape := ⟨2, ![4098, 5632]⟩
abbrev S1x5632 : Shape := ⟨2, ![1, 5632]⟩

abbrev nBuf : Space → Nat
  | .hbm => 122
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x5632, .f32⟩
  | .hbm, ⟨3, _⟩ => ⟨S1024x5632, .f32⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x5632, .f32⟩
  | .hbm, ⟨37, _⟩ => ⟨S_, .f32⟩
  | .hbm, ⟨38, _⟩ => ⟨S5632, .f32⟩
  | .hbm, ⟨39, _⟩ => ⟨S_, .f32⟩
  | .hbm, ⟨40, _⟩ => ⟨S2x5632, .f32⟩
  | .hbm, ⟨41, _⟩ => ⟨S4098x5632, .f32⟩
  | .hbm, ⟨42, _⟩ => ⟨S_, .f32⟩
  | .hbm, ⟨43, _⟩ => ⟨S2x5632, .f32⟩
  | .hbm, ⟨44, _⟩ => ⟨S1x5632, .f32⟩
  | .hbm, ⟨45, _⟩ => ⟨S5632, .f32⟩
  | .hbm, ⟨46, _⟩ => ⟨S4096x5632, .f32⟩
  | .hbm, ⟨47, _⟩ => ⟨S1x5632, .f32⟩
  | .hbm, ⟨48, _⟩ => ⟨S4096x5632, .f32⟩
  | .hbm, ⟨49, _⟩ => ⟨S4096x5632, .f32⟩
  | .hbm, ⟨50, _⟩ => ⟨S1x5632, .f32⟩
  | .hbm, ⟨51, _⟩ => ⟨S5632, .f32⟩
  | .hbm, ⟨52, _⟩ => ⟨S4096x5632, .f32⟩
  | .hbm, ⟨53, _⟩ => ⟨S1x5632, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S1x5632, .f32⟩
  | .hbm, ⟨58, _⟩ => ⟨S5632, .f32⟩
  | .hbm, ⟨59, _⟩ => ⟨S4096x5632, .f32⟩
  | .hbm, ⟨60, _⟩ => ⟨S1x5632, .f32⟩
  | .hbm, ⟨61, _⟩ => ⟨S4096x5632, .f32⟩
  | .hbm, ⟨62, _⟩ => ⟨S4096x5632, .f32⟩
  | .hbm, ⟨63, _⟩ => ⟨S4096x5632, .f32⟩
  | .hbm, ⟨64, _⟩ => ⟨S1x5632, .f32⟩
  | .hbm, ⟨65, _⟩ => ⟨S4096x5632, .f32⟩
  | .hbm, ⟨66, _⟩ => ⟨S4096x5632, .f32⟩
  | .hbm, ⟨67, _⟩ => ⟨S4096x5632, .f32⟩
  | .hbm, ⟨68, _⟩ => ⟨S4096x5632, .f32⟩
  | .hbm, ⟨69, _⟩ => ⟨S4096x5632, .f32⟩
  | .hbm, ⟨70, _⟩ => ⟨S_, .f32⟩
  | .hbm, ⟨71, _⟩ => ⟨S4098x5632, .f32⟩
  | .hbm, ⟨72, _⟩ => ⟨S4096x5632, .f32⟩
  | .hbm, ⟨73, _⟩ => ⟨S4096x5632, .f32⟩
  | .hbm, ⟨74, _⟩ => ⟨S_, .f32⟩
  | .hbm, ⟨75, _⟩ => ⟨S4098x5632, .f32⟩
  | .hbm, ⟨76, _⟩ => ⟨S4098x5632, .f32⟩
  | .hbm, ⟨77, _⟩ => ⟨S4096x5632, .f32⟩
  | .hbm, ⟨78, _⟩ => ⟨S4096x5632, .f32⟩
  | .hbm, ⟨79, _⟩ => ⟨S_, .f32⟩
  | .hbm, ⟨80, _⟩ => ⟨S4098x5632, .f32⟩
  | .hbm, ⟨81, _⟩ => ⟨S4098x5632, .f32⟩
  | .hbm, ⟨82, _⟩ => ⟨S2x5632, .f32⟩
  | .hbm, ⟨83, _⟩ => ⟨S4096x5632, .f32⟩
  | .hbm, ⟨84, _⟩ => ⟨S4096x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S1024, .f32⟩
  | .hbm, ⟨102, _⟩ => ⟨S4096x1024, .f32⟩
  | .hbm, ⟨103, _⟩ => ⟨S_, .f32⟩
  | .hbm, ⟨104, _⟩ => ⟨S4096, .f32⟩
  | .hbm, ⟨105, _⟩ => ⟨S4096x1, .f32⟩
  | .hbm, ⟨106, _⟩ => ⟨S4096x1024, .f32⟩
  | .hbm, ⟨107, _⟩ => ⟨S4096x1024, .f32⟩
  | .hbm, ⟨108, _⟩ => ⟨S4096x1, .f32⟩
  | .hbm, ⟨109, _⟩ => ⟨S_, .f32⟩
  | .hbm, ⟨110, _⟩ => ⟨S4096x1, .f32⟩
  | .hbm, ⟨111, _⟩ => ⟨S4096x1, .f32⟩
  | .hbm, ⟨112, _⟩ => ⟨S_, .f32⟩
  | .hbm, ⟨113, _⟩ => ⟨S4096, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x5632, .bf16⟩
  | .hbm, ⟨121, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_15 : Ref sig .tc := ⟨.hbm, 109, rfl⟩
abbrev main_v84 : Ref sig .tc := ⟨.hbm, 110, rfl⟩
abbrev main_v85 : Ref sig .tc := ⟨.hbm, 111, rfl⟩
abbrev main_cst_16 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩

abbrev nD : Nat := 1
abbrev τ : Topo := Topo.v7x

variable {F : FTy → Type} [FloatOps F]
-- ==== Kernel4.lean ====
abbrev S4096x1024 : Shape := ⟨2, ![4096, 1024]⟩
abbrev S4096x768 : Shape := ⟨2, ![4096, 768]⟩
abbrev S4096x384 : Shape := ⟨2, ![4096, 384]⟩
abbrev S4096x256 : Shape := ⟨2, ![4096, 256]⟩
abbrev S1024 : Shape := ⟨1, ![1024]⟩
abbrev S1x1024 : Shape := ⟨2, ![1, 1024]⟩
abbrev S31x384 : Shape := ⟨2, ![31, 384]⟩
abbrev S1024x1792 : Shape := ⟨2, ![1024, 1792]⟩
abbrev S_ : Shape := ⟨0, ![]⟩
abbrev S4096 : Shape := ⟨1, ![4096]⟩
abbrev S4096x1 : Shape := ⟨2, ![4096, 1]⟩
abbrev S4096x1792 : Shape := ⟨2, ![4096, 1792]⟩
abbrev S1792x1024 : Shape := ⟨2, ![1792, 1024]⟩
abbrev S1x384 : Shape := ⟨2, ![1, 384]⟩
abbrev S256x1792 : Shape := ⟨2, ![256, 1792]⟩
abbrev S32x1792 : Shape := ⟨2, ![32, 1792]⟩
abbrev S256x768 : Shape := ⟨2, ![256, 768]⟩
abbrev S256x384 : Shape := ⟨2, ![256, 384]⟩
abbrev S32x384 : Shape := ⟨2, ![32, 384]⟩
abbrev S256x256 : Shape := ⟨2, ![256, 256]⟩
abbrev S32x256 : Shape := ⟨2, ![32, 256]⟩
abbrev S256x1024 : Shape := ⟨2, ![256, 1024]⟩
abbrev S288x384 : Shape := ⟨2, ![288, 384]⟩
abbrev S288x256 : Shape := ⟨2, ![288, 256]⟩
abbrev S7x280x384 : Shape := ⟨3, ![7, 280, 384]⟩
abbrev S280x384 : Shape := ⟨2, ![280, 384]⟩
abbrev S1x280x384 : Shape := ⟨3, ![1, 280, 384]⟩
abbrev S384 : Shape := ⟨1, ![384]⟩
abbrev S1x256x384 : Shape := ⟨3, ![1, 256, 384]⟩
abbrev S1x32x384 : Shape := ⟨3, ![1, 32, 384]⟩
abbrev S256 : Shape := ⟨1, ![256]⟩
abbrev S256x1 : Shape := ⟨2, ![256, 1]⟩

abbrev nBuf : Space → Nat
  | .hbm => 48
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S4096x768, .f32⟩
  | .hbm, ⟨2, _⟩ => ⟨S4096x384, .f32⟩
  | .hbm, ⟨3, _⟩ => ⟨S4096x256, .f32⟩
  | .hbm, ⟨4, _⟩ => ⟨S4096x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S31x384, .f32⟩
  | .hbm, ⟨9, _⟩ => ⟨S1024x1792, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1792, .f32⟩
  | .hbm, ⟨34, _⟩ => ⟨S4096x768, .bf16⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1792x1024, .f32⟩
  | .hbm, ⟨40, _⟩ => ⟨S1792x1024, .bf16⟩
  | .hbm, ⟨41, _⟩ => ⟨S4096x1024, .f32⟩
  | .hbm, ⟨42, _⟩ => ⟨S4096x1792, .bf16⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S31x384, .f32⟩
  | .hbm, ⟨47, _⟩ => ⟨S1x384, .f32⟩
  | .local _ .vmem, ⟨0, _⟩ => ⟨S256x1792, .f32⟩
  | .local _ .vmem, ⟨1, _⟩ => ⟨S256x1792, .f32⟩
  | .local _ .vmem, ⟨2, _⟩ => ⟨S32x1792, .f32⟩
  | .local _ .vmem, ⟨3, _⟩ => ⟨S32x1792, .f32⟩
  | .local _ .vmem, ⟨4, _⟩ => ⟨S256x768, .bf16⟩
  | .local _ .vmem, ⟨5, _⟩ => ⟨S256x768, .bf16⟩
  | .local _ .vmem, ⟨6, _⟩ => ⟨S256x384, .f32⟩
  | .local _ .vmem, ⟨7, _⟩ => ⟨S256x384, .f32⟩
  | .local _ .vmem, ⟨8, _⟩ => ⟨S32x384, .f32⟩
  | .local _ .vmem, ⟨9, _⟩ => ⟨S32x384, .f32⟩
  | .local _ .vmem, ⟨10, _⟩ => ⟨S256x256, .f32⟩
  | .local _ .vmem, ⟨11, _⟩ => ⟨S256x256, .f32⟩
  | .local _ .vmem, ⟨12, _⟩ => ⟨S32x256, .f32⟩
  | .local _ .vmem, ⟨13, _⟩ => ⟨S32x256, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S31x384, .f32⟩
  | .local _ .vmem, ⟨21, _⟩ => ⟨S1792x1024, .bf16⟩
  | .local _ .vmem, ⟨22, _⟩ => ⟨S256x1024, .f32⟩
  | .local _ .vmem, ⟨23, _⟩ => ⟨S256x1024, .f32⟩
  | .local _ .vmem, ⟨24, _⟩ => ⟨S256x1792, .bf16⟩
  | .local _ .vmem, ⟨25, _⟩ => ⟨S256x1792, .bf16⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S31x384, .f32⟩
  | .local _ .vmem, ⟨30, _⟩ => ⟨S1x384, .f32⟩
  | .local _ .vmem, ⟨31, _⟩ => ⟨S288x384, .f32⟩
  | .local _ .vmem, ⟨32, _⟩ => ⟨S288x384, .f32⟩
  | .local _ .vmem, ⟨33, _⟩ => ⟨S288x256, .f32⟩
  | .local _ .vmem, ⟨34, _⟩ => ⟨S7x280x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v26_3 : Ref sig .tc := ⟨.hbm, 44, rfl⟩
abbrev main_v26_4 : Ref sig .tc := ⟨.hbm, 45, rfl⟩
abbrev main_v26_5 : Ref sig .tc := ⟨.hbm, 46, rfl⟩
abbrev main_v26_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S31x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1792x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1792 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S31x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference4Ideal.lean ====
abbrev S4096x1024 : Shape := ⟨2, ![4096, 1024]⟩
abbrev S4096x768 : Shape := ⟨2, ![4096, 768]⟩
abbrev S4096x384 : Shape := ⟨2, ![4096, 384]⟩
abbrev S4096x256 : Shape := ⟨2, ![4096, 256]⟩
abbrev S1024 : Shape := ⟨1, ![1024]⟩
abbrev S1x1024 : Shape := ⟨2, ![1, 1024]⟩
abbrev S31x384 : Shape := ⟨2, ![31, 384]⟩
abbrev S1024x1792 : Shape := ⟨2, ![1024, 1792]⟩
abbrev S_ : Shape := ⟨0, ![]⟩
abbrev S4096 : Shape := ⟨1, ![4096]⟩
abbrev S4096x1 : Shape := ⟨2, ![4096, 1]⟩
abbrev S4096x1792 : Shape := ⟨2, ![4096, 1792]⟩
abbrev S384 : Shape := ⟨1, ![384]⟩
abbrev S30x384 : Shape := ⟨2, ![30, 384]⟩
abbrev S4126x384 : Shape := ⟨2, ![4126, 384]⟩
abbrev S1x384 : Shape := ⟨2, ![1, 384]⟩
abbrev S1x256 : Shape := ⟨2, ![1, 256]⟩
abbrev S4097x256 : Shape := ⟨2, ![4097, 256]⟩
abbrev S4096x64 : Shape := ⟨2, ![4096, 64]⟩
abbrev S1x64 : Shape := ⟨2, ![1, 64]⟩
abbrev S4095x64 : Shape := ⟨2, ![4095, 64]⟩
abbrev S3x64 : Shape := ⟨2, ![3, 64]⟩
abbrev S4093x64 : Shape := ⟨2, ![4093, 64]⟩
abbrev S7x64 : Shape := ⟨2, ![7, 64]⟩
abbrev S4089x64 : Shape := ⟨2, ![4089, 64]⟩
abbrev S15x64 : Shape := ⟨2, ![15, 64]⟩
abbrev S4081x64 : Shape := ⟨2, ![4081, 64]⟩

abbrev nBuf : Space → Nat
  | .hbm => 933
  | .vmem => 0
  | .smem => 0
  | _ => 0

abbrev hbmTy0_0 (i : Nat) : BufTy := match i % 128 with
  | 0 => ⟨S4096x1024, .f32⟩
  | 1 => ⟨S4096x768, .f32⟩
  | 2 => ⟨S4096x384, .f32⟩
  | 3 => ⟨S4096x256, .f32⟩
  | 4 => ⟨S4096x1024, .f32⟩
  | 5 => ⟨S1024, .f32⟩
  | 6 => ⟨S1x1024, .f32⟩
  | 7 => ⟨S1x1024, .f32⟩
  | 8 => ⟨S31x384, .f32⟩
  | 9 => ⟨S1024x1792, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S_, .f32⟩
  | 31 => ⟨S1x1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S4096x1792, .f32⟩
  | 38 => ⟨S_, .f32⟩
  | 39 => ⟨S384, .f32⟩
  | 40 => ⟨S4096x768, .f32⟩
  | 41 => ⟨S4096x768, .f32⟩
  | 42 => ⟨S4096x384, .f32⟩
  | 43 => ⟨S4096x384, .f32⟩
  | 44 => ⟨S4096x384, .f32⟩
  | 45 => ⟨S4096x384, .f32⟩
  | 46 => ⟨S_, .f32⟩
  | 47 => ⟨S4096x384, .f32⟩
  | 48 => ⟨S4096x384, .f32⟩
  | 49 => ⟨S_, .f32⟩
  | 50 => ⟨S4096x384, .f32⟩
  | 51 => ⟨S4096x384, .f32⟩
  | 52 => ⟨S_, .f32⟩
  | 53 => ⟨S4096x384, .f32⟩
  | 54 => ⟨S4096x384, .f32⟩
  | 55 => ⟨S4096x384, .f32⟩
  | 56 => ⟨S4096x384, .f32⟩
  | 57 => ⟨S_, .f32⟩
  | 58 => ⟨S30x384, .f32⟩
  | 59 => ⟨S4126x384, .f32⟩
  | 60 => ⟨S_, .f32⟩
  | 61 => ⟨S30x384, .f32⟩
  | 62 => ⟨S1x384, .f32⟩
  | 63 => ⟨S384, .f32⟩
  | 64 => ⟨S4096x384, .f32⟩
  | 65 => ⟨S1x384, .f32⟩
  | 66 => ⟨S4096x384, .f32⟩
  | 67 => ⟨S4096x384, .f32⟩
  | 68 => ⟨S1x384, .f32⟩
  | 69 => ⟨S384, .f32⟩
  | 70 => ⟨S4096x384, .f32⟩
  | 71 => ⟨S1x384, .f32⟩
  | 72 => ⟨S4096x384, .f32⟩
  | 73 => ⟨S4096x384, .f32⟩
  | 74 => ⟨S4096x384, .f32⟩
  | 75 => ⟨S1x384, .f32⟩
  | 76 => ⟨S384, .f32⟩
  | 77 => ⟨S4096x384, .f32⟩
  | 78 => ⟨S1x384, .f32⟩
  | 79 => ⟨S4096x384, .f32⟩
  | 80 => ⟨S4096x384, .f32⟩
  | 81 => ⟨S4096x384, .f32⟩
  | 82 => ⟨S1x384, .f32⟩
  | 83 => ⟨S384, .f32⟩
  | 84 => ⟨S4096x384, .f32⟩
  | 85 => ⟨S1x384, .f32⟩
  | 86 => ⟨S4096x384, .f32⟩
  | 87 => ⟨S4096x384, .f32⟩
  | 88 => ⟨S4096x384, .f32⟩
  | 89 => ⟨S1x384, .f32⟩
  | 90 => ⟨S384, .f32⟩
  | 91 => ⟨S4096x384, .f32⟩
  | 92 => ⟨S1x384, .f32⟩
  | 93 => ⟨S4096x384, .f32⟩
  | 94 => ⟨S4096x384, .f32⟩
  | 95 => ⟨S4096x384, .f32⟩
  | 96 => ⟨S1x384, .f32⟩
  | 97 => ⟨S384, .f32⟩
  | 98 => ⟨S4096x384, .f32⟩
  | 99 => ⟨S1x384, .f32⟩
  | 100 => ⟨S4096x384, .f32⟩
  | 101 => ⟨S4096x384, .f32⟩
  | 102 => ⟨S4096x384, .f32⟩
  | 103 => ⟨S1x384, .f32⟩
  | 104 => ⟨S384, .f32⟩
  | 105 => ⟨S4096x384, .f32⟩
  | 106 => ⟨S1x384, .f32⟩
  | 107 => ⟨S4096x384, .f32⟩
  | 108 => ⟨S4096x384, .f32⟩
  | 109 => ⟨S4096x384, .f32⟩
  | 110 => ⟨S1x384, .f32⟩
  | 111 => ⟨S384, .f32⟩
  | 112 => ⟨S4096x384, .f32⟩
  | 113 => ⟨S1x384, .f32⟩
  | 114 => ⟨S4096x384, .f32⟩
  | 115 => ⟨S4096x384, .f32⟩
  | 116 => ⟨S4096x384, .f32⟩
  | 117 => ⟨S1x384, .f32⟩
  | 118 => ⟨S384, .f32⟩
  | 119 => ⟨S4096x384, .f32⟩
  | 120 => ⟨S1x384, .f32⟩
  | 121 => ⟨S4096x384, .f32⟩
  | 122 => ⟨S4096x384, .f32⟩
  | 123 => ⟨S4096x384, .f32⟩
  | 124 => ⟨S1x384, .f32⟩
  | 125 => ⟨S384, .f32⟩
  | 126 => ⟨S4096x384, .f32⟩
  | 127 => ⟨S1x384, .f32⟩
  | _ => ⟨S4096x1024, .f32⟩

abbrev hbmTy0_1 (i : Nat) : BufTy := match i % 128 with
  | 0 => ⟨S4096x384, .f32⟩
  | 1 => ⟨S4096x384, .f32⟩
  | 2 => ⟨S4096x384, .f32⟩
  | 3 => ⟨S1x384, .f32⟩
  | 4 => ⟨S384, .f32⟩
  | 5 => ⟨S4096x384, .f32⟩
  | 6 => ⟨S1x384, .f32⟩
  | 7 => ⟨S4096x384, .f32⟩
  | 8 => ⟨S4096x384, .f32⟩
  | 9 => ⟨S4096x384, .f32⟩
  | 10 => ⟨S1x384, .f32⟩
  | 11 => ⟨S384, .f32⟩
  | 12 => ⟨S4096x384, .f32⟩
  | 13 => ⟨S1x384, .f32⟩
  | 14 => ⟨S4096x384, .f32⟩
  | 15 => ⟨S4096x384, .f32⟩
  | 16 => ⟨S4096x384, .f32⟩
  | 17 => ⟨S1x384, .f32⟩
  | 18 => ⟨S384, .f32⟩
  | 19 => ⟨S4096x384, .f32⟩
  | 20 => ⟨S1x384, .f32⟩
  | 21 => ⟨S4096x384, .f32⟩
  | 22 => ⟨S4096x384, .f32⟩
  | 23 => ⟨S4096x384, .f32⟩
  | 24 => ⟨S1x384, .f32⟩
  | 25 => ⟨S384, .f32⟩
  | 26 => ⟨S4096x384, .f32⟩
  | 27 => ⟨S1x384, .f32⟩
  | 28 => ⟨S4096x384, .f32⟩
  | 29 => ⟨S4096x384, .f32⟩
  | 30 => ⟨S4096x384, .f32⟩
  | 31 => ⟨S1x384, .f32⟩
  | 32 => ⟨S384, .f32⟩
  | 33 => ⟨S4096x384, .f32⟩
  | 34 => ⟨S1x384, .f32⟩
  | 35 => ⟨S4096x384, .f32⟩
  | 36 => ⟨S4096x384, .f32⟩
  | 37 => ⟨S4096x384, .f32⟩
  | 38 => ⟨S1x384, .f32⟩
  | 39 => ⟨S384, .f32⟩
  | 40 => ⟨S4096x384, .f32⟩
  | 41 => ⟨S1x384, .f32⟩
  | 42 => ⟨S4096x384, .f32⟩
  | 43 => ⟨S4096x384, .f32⟩
  | 44 => ⟨S4096x384, .f32⟩
  | 45 => ⟨S1x384, .f32⟩
  | 46 => ⟨S384, .f32⟩
  | 47 => ⟨S4096x384, .f32⟩
  | 48 => ⟨S1x384, .f32⟩
  | 49 => ⟨S4096x384, .f32⟩
  | 50 => ⟨S4096x384, .f32⟩
  | 51 => ⟨S4096x384, .f32⟩
  | 52 => ⟨S1x384, .f32⟩
  | 53 => ⟨S384, .f32⟩
  | 54 => ⟨S4096x384, .f32⟩
  | 55 => ⟨S1x384, .f32⟩
  | 56 => ⟨S4096x384, .f32⟩
  | 57 => ⟨S4096x384, .f32⟩
  | 58 => ⟨S4096x384, .f32⟩
  | 59 => ⟨S1x384, .f32⟩
  | 60 => ⟨S384, .f32⟩
  | 61 => ⟨S4096x384, .f32⟩
  | 62 => ⟨S1x384, .f32⟩
  | 63 => ⟨S4096x384, .f32⟩
  | 64 => ⟨S4096x384, .f32⟩
  | 65 => ⟨S4096x384, .f32⟩
  | 66 => ⟨S1x384, .f32⟩
  | 67 => ⟨S384, .f32⟩
  | 68 => ⟨S4096x384, .f32⟩
  | 69 => ⟨S1x384, .f32⟩
  | 70 => ⟨S4096x384, .f32⟩
  | 71 => ⟨S4096x384, .f32⟩
  | 72 => ⟨S4096x384, .f32⟩
  | 73 => ⟨S1x384, .f32⟩
  | 74 => ⟨S384, .f32⟩
  | 75 => ⟨S4096x384, .f32⟩
  | 76 => ⟨S1x384, .f32⟩
  | 77 => ⟨S4096x384, .f32⟩
  | 78 => ⟨S4096x384, .f32⟩
  | 79 => ⟨S4096x384, .f32⟩
  | 80 => ⟨S1x384, .f32⟩
  | 81 => ⟨S384, .f32⟩
  | 82 => ⟨S4096x384, .f32⟩
  | 83 => ⟨S1x384, .f32⟩
  | 84 => ⟨S4096x384, .f32⟩
  | 85 => ⟨S4096x384, .f32⟩
  | 86 => ⟨S4096x384, .f32⟩
  | 87 => ⟨S1x384, .f32⟩
  | 88 => ⟨S384, .f32⟩
  | 89 => ⟨S4096x384, .f32⟩
  | 90 => ⟨S1x384, .f32⟩
  | 91 => ⟨S4096x384, .f32⟩
  | 92 => ⟨S4096x384, .f32⟩
  | 93 => ⟨S4096x384, .f32⟩
  | 94 => ⟨S1x384, .f32⟩
  | 95 => ⟨S384, .f32⟩
  | 96 => ⟨S4096x384, .f32⟩
  | 97 => ⟨S1x384, .f32⟩
  | 98 => ⟨S4096x384, .f32⟩
  | 99 => ⟨S4096x384, .f32⟩
  | 100 => ⟨S4096x384, .f32⟩
  | 101 => ⟨S1x384, .f32⟩
  | 102 => ⟨S384, .f32⟩
  | 103 => ⟨S4096x384, .f32⟩
  | 104 => ⟨S1x384, .f32⟩
  | 105 => ⟨S4096x384, .f32⟩
  | 106 => ⟨S4096x384, .f32⟩
  | 107 => ⟨S4096x384, .f32⟩
  | 108 => ⟨S1x384, .f32⟩
  | 109 => ⟨S384, .f32⟩
  | 110 => ⟨S4096x384, .f32⟩
  | 111 => ⟨S1x384, .f32⟩
  | 112 => ⟨S4096x384, .f32⟩
  | 113 => ⟨S4096x384, .f32⟩
  | 114 => ⟨S4096x384, .f32⟩
  | 115 => ⟨S1x384, .f32⟩
  | 116 => ⟨S384, .f32⟩
  | 117 => ⟨S4096x384, .f32⟩
  | 118 => ⟨S1x384, .f32⟩
  | 119 => ⟨S4096x384, .f32⟩
  | 120 => ⟨S4096x384, .f32⟩
  | 121 => ⟨S4096x384, .f32⟩
  | 122 => ⟨S1x384, .f32⟩
  | 123 => ⟨S384, .f32⟩
  | 124 => ⟨S4096x384, .f32⟩
  | 125 => ⟨S1x384, .f32⟩
  | 126 => ⟨S4096x384, .f32⟩
  | 127 => ⟨S4096x384, .f32⟩
  | _ => ⟨S4096x1024, .f32⟩

abbrev hbmTy0_2 (i : Nat) : BufTy := match i % 128 with
  | 0 => ⟨S4096x384, .f32⟩
  | 1 => ⟨S1x384, .f32⟩
  | 2 => ⟨S384, .f32⟩
  | 3 => ⟨S4096x384, .f32⟩
  | 4 => ⟨S1x384, .f32⟩
  | 5 => ⟨S4096x384, .f32⟩
  | 6 => ⟨S4096x384, .f32⟩
  | 7 => ⟨S4096x384, .f32⟩
  | 8 => ⟨S1x384, .f32⟩
  | 9 => ⟨S384, .f32⟩
  | 10 => ⟨S4096x384, .f32⟩
  | 11 => ⟨S1x384, .f32⟩
  | 12 => ⟨S4096x384, .f32⟩
  | 13 => ⟨S4096x384, .f32⟩
  | 14 => ⟨S4096x384, .f32⟩
  | 15 => ⟨S1x384, .f32⟩
  | 16 => ⟨S384, .f32⟩
  | 17 => ⟨S4096x384, .f32⟩
  | 18 => ⟨S1x384, .f32⟩
  | 19 => ⟨S4096x384, .f32⟩
  | 20 => ⟨S4096x384, .f32⟩
  | 21 => ⟨S4096x384, .f32⟩
  | 22 => ⟨S1x384, .f32⟩
  | 23 => ⟨S4096x384, .f32⟩
  | 24 => ⟨S4096x384, .f32⟩
  | 25 => ⟨S4096x256, .f32⟩
  | 26 => ⟨S_, .f32⟩
  | 27 => ⟨S1x256, .f32⟩
  | 28 => ⟨S_, .f32⟩
  | 29 => ⟨S_, .f32⟩
  | 30 => ⟨S4096x256, .f32⟩
  | 31 => ⟨S4097x256, .f32⟩
  | 32 => ⟨S_, .f32⟩
  | 33 => ⟨S1x256, .f32⟩
  | 34 => ⟨S4096, .i32⟩
  | 35 => ⟨S_, .i32⟩
  | 36 => ⟨S4096, .i32⟩
  | 37 => ⟨S4096, .i32⟩
  | 38 => ⟨S4096x64, .f32⟩
  | 39 => ⟨S_, .f32⟩
  | 40 => ⟨S1x64, .f32⟩
  | 41 => ⟨S4095x64, .f32⟩
  | 42 => ⟨S4096x64, .f32⟩
  | 43 => ⟨S_, .f32⟩
  | 44 => ⟨S1x64, .f32⟩
  | 45 => ⟨S_, .i32⟩
  | 46 => ⟨S4096, .i32⟩
  | 47 => ⟨S4096, .i32⟩
  | 48 => ⟨S4096, .f32⟩
  | 49 => ⟨S4096x1, .f32⟩
  | 50 => ⟨S4096x64, .f32⟩
  | 51 => ⟨S4096x64, .f32⟩
  | 52 => ⟨S4096x64, .f32⟩
  | 53 => ⟨S4096x64, .f32⟩
  | 54 => ⟨S_, .f32⟩
  | 55 => ⟨S3x64, .f32⟩
  | 56 => ⟨S4093x64, .f32⟩
  | 57 => ⟨S4096x64, .f32⟩
  | 58 => ⟨S_, .f32⟩
  | 59 => ⟨S3x64, .f32⟩
  | 60 => ⟨S_, .i32⟩
  | 61 => ⟨S4096, .i32⟩
  | 62 => ⟨S4096, .i32⟩
  | 63 => ⟨S4096, .f32⟩
  | 64 => ⟨S4096x1, .f32⟩
  | 65 => ⟨S4096x64, .f32⟩
  | 66 => ⟨S4096x64, .f32⟩
  | 67 => ⟨S4096x64, .f32⟩
  | 68 => ⟨S4096x64, .f32⟩
  | 69 => ⟨S_, .f32⟩
  | 70 => ⟨S7x64, .f32⟩
  | 71 => ⟨S4089x64, .f32⟩
  | 72 => ⟨S4096x64, .f32⟩
  | 73 => ⟨S_, .f32⟩
  | 74 => ⟨S7x64, .f32⟩
  | 75 => ⟨S_, .i32⟩
  | 76 => ⟨S4096, .i32⟩
  | 77 => ⟨S4096, .i32⟩
  | 78 => ⟨S4096, .f32⟩
  | 79 => ⟨S4096x1, .f32⟩
  | 80 => ⟨S4096x64, .f32⟩
  | 81 => ⟨S4096x64, .f32⟩
  | 82 => ⟨S4096x64, .f32⟩
  | 83 => ⟨S4096x64, .f32⟩
  | 84 => ⟨S_, .f32⟩
  | 85 => ⟨S15x64, .f32⟩
  | 86 => ⟨S4081x64, .f32⟩
  | 87 => ⟨S4096x64, .f32⟩
  | 88 => ⟨S_, .f32⟩
  | 89 => ⟨S15x64, .f32⟩
  | 90 => ⟨S_, .i32⟩
  | 91 => ⟨S4096, .i32⟩
  | 92 => ⟨S4096, .i32⟩
  | 93 => ⟨S4096, .f32⟩
  | 94 => ⟨S4096x1, .f32⟩
  | 95 => ⟨S4096x64, .f32⟩
  | 96 => ⟨S4096x64, .f32⟩
  | 97 => ⟨S4096x64, .f32⟩
  | 98 => ⟨S4096x256, .f32⟩
  | 99 => ⟨S4096x256, .f32⟩
  | 100 => ⟨S4096x256, .f32⟩
  | 101 => ⟨S4096x256, .f32⟩
  | 102 => ⟨S4096x64, .f32⟩
  | 103 => ⟨S4096x64, .f32⟩
  | 104 => ⟨S4096x64, .f32⟩
  | 105 => ⟨S4096x64, .f32⟩
  | 106 => ⟨S4096x64, .f32⟩
  | 107 => ⟨S4096x64, .f32⟩
  | 108 => ⟨S4096x64, .f32⟩
  | 109 => ⟨S15x64, .f32⟩
  | 110 => ⟨S4081x64, .f32⟩
  | 111 => ⟨S_, .f32⟩
  | 112 => ⟨S4097x256, .f32⟩
  | 113 => ⟨S_, .f32⟩
  | 114 => ⟨S4097x256, .f32⟩
  | 115 => ⟨S4097x256, .f32⟩
  | 116 => ⟨S4096x64, .f32⟩
  | 117 => ⟨S4096x64, .f32⟩
  | 118 => ⟨S4096x64, .f32⟩
  | 119 => ⟨S7x64, .f32⟩
  | 120 => ⟨S4089x64, .f32⟩
  | 121 => ⟨S_, .f32⟩
  | 122 => ⟨S4097x256, .f32⟩
  | 123 => ⟨S4097x256, .f32⟩
  | 124 => ⟨S_, .f32⟩
  | 125 => ⟨S4097x256, .f32⟩
  | 126 => ⟨S4097x256, .f32⟩
  | 127 => ⟨S4096x64, .f32⟩
  | _ => ⟨S4096x1024, .f32⟩

abbrev hbmTy0_3 (i : Nat) : BufTy := match i % 128 with
  | 0 => ⟨S4096x64, .f32⟩
  | 1 => ⟨S4096x64, .f32⟩
  | 2 => ⟨S3x64, .f32⟩
  | 3 => ⟨S4093x64, .f32⟩
  | 4 => ⟨S_, .f32⟩
  | 5 => ⟨S4097x256, .f32⟩
  | 6 => ⟨S4097x256, .f32⟩
  | 7 => ⟨S_, .f32⟩
  | 8 => ⟨S4097x256, .f32⟩
  | 9 => ⟨S4097x256, .f32⟩
  | 10 => ⟨S4096x64, .f32⟩
  | 11 => ⟨S4096x64, .f32⟩
  | 12 => ⟨S4096x64, .f32⟩
  | 13 => ⟨S1x64, .f32⟩
  | 14 => ⟨S4095x64, .f32⟩
  | 15 => ⟨S_, .f32⟩
  | 16 => ⟨S4097x256, .f32⟩
  | 17 => ⟨S4097x256, .f32⟩
  | 18 => ⟨S_, .f32⟩
  | 19 => ⟨S4097x256, .f32⟩
  | 20 => ⟨S4097x256, .f32⟩
  | 21 => ⟨S1x256, .f32⟩
  | 22 => ⟨S4096x256, .f32⟩
  | 23 => ⟨S_, .f32⟩
  | 24 => ⟨S_, .f32⟩
  | 25 => ⟨S4096x256, .f32⟩
  | 26 => ⟨S4096x256, .f32⟩
  | 27 => ⟨S_, .f32⟩
  | 28 => ⟨S4096x1792, .f32⟩
  | 29 => ⟨S4096x384, .f32⟩
  | 30 => ⟨S_, .f32⟩
  | 31 => ⟨S384, .f32⟩
  | 32 => ⟨S1x384, .f32⟩
  | 33 => ⟨S_, .f32⟩
  | 34 => ⟨S384, .f32⟩
  | 35 => ⟨S4096x384, .f32⟩
  | 36 => ⟨S4096x384, .f32⟩
  | 37 => ⟨S4096x384, .f32⟩
  | 38 => ⟨S_, .f32⟩
  | 39 => ⟨S384, .f32⟩
  | 40 => ⟨S1x384, .f32⟩
  | 41 => ⟨S_, .f32⟩
  | 42 => ⟨S384, .f32⟩
  | 43 => ⟨S_, .f32⟩
  | 44 => ⟨S4126x384, .f32⟩
  | 45 => ⟨S1x384, .f32⟩
  | 46 => ⟨S_, .f32⟩
  | 47 => ⟨S31x384, .f32⟩
  | 48 => ⟨S4096x384, .f32⟩
  | 49 => ⟨S4096x384, .f32⟩
  | 50 => ⟨S4096x384, .f32⟩
  | 51 => ⟨S_, .f32⟩
  | 52 => ⟨S384, .f32⟩
  | 53 => ⟨S1x384, .f32⟩
  | 54 => ⟨S_, .f32⟩
  | 55 => ⟨S384, .f32⟩
  | 56 => ⟨S_, .f32⟩
  | 57 => ⟨S4126x384, .f32⟩
  | 58 => ⟨S4126x384, .f32⟩
  | 59 => ⟨S1x384, .f32⟩
  | 60 => ⟨S_, .f32⟩
  | 61 => ⟨S31x384, .f32⟩
  | 62 => ⟨S31x384, .f32⟩
  | 63 => ⟨S4096x384, .f32⟩
  | 64 => ⟨S4096x384, .f32⟩
  | 65 => ⟨S4096x384, .f32⟩
  | 66 => ⟨S_, .f32⟩
  | 67 => ⟨S384, .f32⟩
  | 68 => ⟨S1x384, .f32⟩
  | 69 => ⟨S_, .f32⟩
  | 70 => ⟨S384, .f32⟩
  | 71 => ⟨S_, .f32⟩
  | 72 => ⟨S4126x384, .f32⟩
  | 73 => ⟨S4126x384, .f32⟩
  | 74 => ⟨S1x384, .f32⟩
  | 75 => ⟨S_, .f32⟩
  | 76 => ⟨S31x384, .f32⟩
  | 77 => ⟨S31x384, .f32⟩
  | 78 => ⟨S4096x384, .f32⟩
  | 79 => ⟨S4096x384, .f32⟩
  | 80 => ⟨S4096x384, .f32⟩
  | 81 => ⟨S_, .f32⟩
  | 82 => ⟨S384, .f32⟩
  | 83 => ⟨S1x384, .f32⟩
  | 84 => ⟨S_, .f32⟩
  | 85 => ⟨S384, .f32⟩
  | 86 => ⟨S_, .f32⟩
  | 87 => ⟨S4126x384, .f32⟩
  | 88 => ⟨S4126x384, .f32⟩
  | 89 => ⟨S1x384, .f32⟩
  | 90 => ⟨S_, .f32⟩
  | 91 => ⟨S31x384, .f32⟩
  | 92 => ⟨S31x384, .f32⟩
  | 93 => ⟨S4096x384, .f32⟩
  | 94 => ⟨S4096x384, .f32⟩
  | 95 => ⟨S4096x384, .f32⟩
  | 96 => ⟨S_, .f32⟩
  | 97 => ⟨S384, .f32⟩
  | 98 => ⟨S1x384, .f32⟩
  | 99 => ⟨S_, .f32⟩
  | 100 => ⟨S384, .f32⟩
  | 101 => ⟨S_, .f32⟩
  | 102 => ⟨S4126x384, .f32⟩
  | 103 => ⟨S4126x384, .f32⟩
  | 104 => ⟨S1x384, .f32⟩
  | 105 => ⟨S_, .f32⟩
  | 106 => ⟨S31x384, .f32⟩
  | 107 => ⟨S31x384, .f32⟩
  | 108 => ⟨S4096x384, .f32⟩
  | 109 => ⟨S4096x384, .f32⟩
  | 110 => ⟨S4096x384, .f32⟩
  | 111 => ⟨S_, .f32⟩
  | 112 => ⟨S384, .f32⟩
  | 113 => ⟨S1x384, .f32⟩
  | 114 => ⟨S_, .f32⟩
  | 115 => ⟨S384, .f32⟩
  | 116 => ⟨S_, .f32⟩
  | 117 => ⟨S4126x384, .f32⟩
  | 118 => ⟨S4126x384, .f32⟩
  | 119 => ⟨S1x384, .f32⟩
  | 120 => ⟨S_, .f32⟩
  | 121 => ⟨S31x384, .f32⟩
  | 122 => ⟨S31x384, .f32⟩
  | 123 => ⟨S4096x384, .f32⟩
  | 124 => ⟨S4096x384, .f32⟩
  | 125 => ⟨S4096x384, .f32⟩
  | 126 => ⟨S_, .f32⟩
  | 127 => ⟨S384, .f32⟩
  | _ => ⟨S4096x1024, .f32⟩

abbrev hbmTy0_4 (i : Nat) : BufTy := match i % 128 with
  | 0 => ⟨S1x384, .f32⟩
  | 1 => ⟨S_, .f32⟩
  | 2 => ⟨S384, .f32⟩
  | 3 => ⟨S_, .f32⟩
  | 4 => ⟨S4126x384, .f32⟩
  | 5 => ⟨S4126x384, .f32⟩
  | 6 => ⟨S1x384, .f32⟩
  | 7 => ⟨S_, .f32⟩
  | 8 => ⟨S31x384, .f32⟩
  | 9 => ⟨S31x384, .f32⟩
  | 10 => ⟨S4096x384, .f32⟩
  | 11 => ⟨S4096x384, .f32⟩
  | 12 => ⟨S4096x384, .f32⟩
  | 13 => ⟨S_, .f32⟩
  | 14 => ⟨S384, .f32⟩
  | 15 => ⟨S1x384, .f32⟩
  | 16 => ⟨S_, .f32⟩
  | 17 => ⟨S384, .f32⟩
  | 18 => ⟨S_, .f32⟩
  | 19 => ⟨S4126x384, .f32⟩
  | 20 => ⟨S4126x384, .f32⟩
  | 21 => ⟨S1x384, .f32⟩
  | 22 => ⟨S_, .f32⟩
  | 23 => ⟨S31x384, .f32⟩
  | 24 => ⟨S31x384, .f32⟩
  | 25 => ⟨S4096x384, .f32⟩
  | 26 => ⟨S4096x384, .f32⟩
  | 27 => ⟨S4096x384, .f32⟩
  | 28 => ⟨S_, .f32⟩
  | 29 => ⟨S384, .f32⟩
  | 30 => ⟨S1x384, .f32⟩
  | 31 => ⟨S_, .f32⟩
  | 32 => ⟨S384, .f32⟩
  | 33 => ⟨S_, .f32⟩
  | 34 => ⟨S4126x384, .f32⟩
  | 35 => ⟨S4126x384, .f32⟩
  | 36 => ⟨S1x384, .f32⟩
  | 37 => ⟨S_, .f32⟩
  | 38 => ⟨S31x384, .f32⟩
  | 39 => ⟨S31x384, .f32⟩
  | 40 => ⟨S4096x384, .f32⟩
  | 41 => ⟨S4096x384, .f32⟩
  | 42 => ⟨S4096x384, .f32⟩
  | 43 => ⟨S_, .f32⟩
  | 44 => ⟨S384, .f32⟩
  | 45 => ⟨S1x384, .f32⟩
  | 46 => ⟨S_, .f32⟩
  | 47 => ⟨S384, .f32⟩
  | 48 => ⟨S_, .f32⟩
  | 49 => ⟨S4126x384, .f32⟩
  | 50 => ⟨S4126x384, .f32⟩
  | 51 => ⟨S1x384, .f32⟩
  | 52 => ⟨S_, .f32⟩
  | 53 => ⟨S31x384, .f32⟩
  | 54 => ⟨S31x384, .f32⟩
  | 55 => ⟨S4096x384, .f32⟩
  | 56 => ⟨S4096x384, .f32⟩
  | 57 => ⟨S4096x384, .f32⟩
  | 58 => ⟨S_, .f32⟩
  | 59 => ⟨S384, .f32⟩
  | 60 => ⟨S1x384, .f32⟩
  | 61 => ⟨S_, .f32⟩
  | 62 => ⟨S384, .f32⟩
  | 63 => ⟨S_, .f32⟩
  | 64 => ⟨S4126x384, .f32⟩
  | 65 => ⟨S4126x384, .f32⟩
  | 66 => ⟨S1x384, .f32⟩
  | 67 => ⟨S_, .f32⟩
  | 68 => ⟨S31x384, .f32⟩
  | 69 => ⟨S31x384, .f32⟩
  | 70 => ⟨S4096x384, .f32⟩
  | 71 => ⟨S4096x384, .f32⟩
  | 72 => ⟨S4096x384, .f32⟩
  | 73 => ⟨S_, .f32⟩
  | 74 => ⟨S384, .f32⟩
  | 75 => ⟨S1x384, .f32⟩
  | 76 => ⟨S_, .f32⟩
  | 77 => ⟨S384, .f32⟩
  | 78 => ⟨S_, .f32⟩
  | 79 => ⟨S4126x384, .f32⟩
  | 80 => ⟨S4126x384, .f32⟩
  | 81 => ⟨S1x384, .f32⟩
  | 82 => ⟨S_, .f32⟩
  | 83 => ⟨S31x384, .f32⟩
  | 84 => ⟨S31x384, .f32⟩
  | 85 => ⟨S4096x384, .f32⟩
  | 86 => ⟨S4096x384, .f32⟩
  | 87 => ⟨S4096x384, .f32⟩
  | 88 => ⟨S_, .f32⟩
  | 89 => ⟨S384, .f32⟩
  | 90 => ⟨S1x384, .f32⟩
  | 91 => ⟨S_, .f32⟩
  | 92 => ⟨S384, .f32⟩
  | 93 => ⟨S_, .f32⟩
  | 94 => ⟨S4126x384, .f32⟩
  | 95 => ⟨S4126x384, .f32⟩
  | 96 => ⟨S1x384, .f32⟩
  | 97 => ⟨S_, .f32⟩
  | 98 => ⟨S31x384, .f32⟩
  | 99 => ⟨S31x384, .f32⟩
  | 100 => ⟨S4096x384, .f32⟩
  | 101 => ⟨S4096x384, .f32⟩
  | 102 => ⟨S4096x384, .f32⟩
  | 103 => ⟨S_, .f32⟩
  | 104 => ⟨S384, .f32⟩
  | 105 => ⟨S1x384, .f32⟩
  | 106 => ⟨S_, .f32⟩
  | 107 => ⟨S384, .f32⟩
  | 108 => ⟨S_, .f32⟩
  | 109 => ⟨S4126x384, .f32⟩
  | 110 => ⟨S4126x384, .f32⟩
  | 111 => ⟨S1x384, .f32⟩
  | 112 => ⟨S_, .f32⟩
  | 113 => ⟨S31x384, .f32⟩
  | 114 => ⟨S31x384, .f32⟩
  | 115 => ⟨S4096x384, .f32⟩
  | 116 => ⟨S4096x384, .f32⟩
  | 117 => ⟨S4096x384, .f32⟩
  | 118 => ⟨S_, .f32⟩
  | 119 => ⟨S384, .f32⟩
  | 120 => ⟨S1x384, .f32⟩
  | 121 => ⟨S_, .f32⟩
  | 122 => ⟨S384, .f32⟩
  | 123 => ⟨S_, .f32⟩
  | 124 => ⟨S4126x384, .f32⟩
  | 125 => ⟨S4126x384, .f32⟩
  | 126 => ⟨S1x384, .f32⟩
  | 127 => ⟨S_, .f32⟩
  | _ => ⟨S4096x1024, .f32⟩

abbrev hbmTy0_5 (i : Nat) : BufTy := match i % 128 with
  | 0 => ⟨S31x384, .f32⟩
  | 1 => ⟨S31x384, .f32⟩
  | 2 => ⟨S4096x384, .f32⟩
  | 3 => ⟨S4096x384, .f32⟩
  | 4 => ⟨S4096x384, .f32⟩
  | 5 => ⟨S_, .f32⟩
  | 6 => ⟨S384, .f32⟩
  | 7 => ⟨S1x384, .f32⟩
  | 8 => ⟨S_, .f32⟩
  | 9 => ⟨S384, .f32⟩
  | 10 => ⟨S_, .f32⟩
  | 11 => ⟨S4126x384, .f32⟩
  | 12 => ⟨S4126x384, .f32⟩
  | 13 => ⟨S1x384, .f32⟩
  | 14 => ⟨S_, .f32⟩
  | 15 => ⟨S31x384, .f32⟩
  | 16 => ⟨S31x384, .f32⟩
  | 17 => ⟨S4096x384, .f32⟩
  | 18 => ⟨S4096x384, .f32⟩
  | 19 => ⟨S4096x384, .f32⟩
  | 20 => ⟨S_, .f32⟩
  | 21 => ⟨S384, .f32⟩
  | 22 => ⟨S1x384, .f32⟩
  | 23 => ⟨S_, .f32⟩
  | 24 => ⟨S384, .f32⟩
  | 25 => ⟨S_, .f32⟩
  | 26 => ⟨S4126x384, .f32⟩
  | 27 => ⟨S4126x384, .f32⟩
  | 28 => ⟨S1x384, .f32⟩
  | 29 => ⟨S_, .f32⟩
  | 30 => ⟨S31x384, .f32⟩
  | 31 => ⟨S31x384, .f32⟩
  | 32 => ⟨S4096x384, .f32⟩
  | 33 => ⟨S4096x384, .f32⟩
  | 34 => ⟨S4096x384, .f32⟩
  | 35 => ⟨S_, .f32⟩
  | 36 => ⟨S384, .f32⟩
  | 37 => ⟨S1x384, .f32⟩
  | 38 => ⟨S_, .f32⟩
  | 39 => ⟨S384, .f32⟩
  | 40 => ⟨S_, .f32⟩
  | 41 => ⟨S4126x384, .f32⟩
  | 42 => ⟨S4126x384, .f32⟩
  | 43 => ⟨S1x384, .f32⟩
  | 44 => ⟨S_, .f32⟩
  | 45 => ⟨S31x384, .f32⟩
  | 46 => ⟨S31x384, .f32⟩
  | 47 => ⟨S4096x384, .f32⟩
  | 48 => ⟨S4096x384, .f32⟩
  | 49 => ⟨S4096x384, .f32⟩
  | 50 => ⟨S_, .f32⟩
  | 51 => ⟨S384, .f32⟩
  | 52 => ⟨S1x384, .f32⟩
  | 53 => ⟨S_, .f32⟩
  | 54 => ⟨S384, .f32⟩
  | 55 => ⟨S_, .f32⟩
  | 56 => ⟨S4126x384, .f32⟩
  | 57 => ⟨S4126x384, .f32⟩
  | 58 => ⟨S1x384, .f32⟩
  | 59 => ⟨S_, .f32⟩
  | 60 => ⟨S31x384, .f32⟩
  | 61 => ⟨S31x384, .f32⟩
  | 62 => ⟨S4096x384, .f32⟩
  | 63 => ⟨S4096x384, .f32⟩
  | 64 => ⟨S4096x384, .f32⟩
  | 65 => ⟨S_, .f32⟩
  | 66 => ⟨S384, .f32⟩
  | 67 => ⟨S1x384, .f32⟩
  | 68 => ⟨S_, .f32⟩
  | 69 => ⟨S384, .f32⟩
  | 70 => ⟨S_, .f32⟩
  | 71 => ⟨S4126x384, .f32⟩
  | 72 => ⟨S4126x384, .f32⟩
  | 73 => ⟨S1x384, .f32⟩
  | 74 => ⟨S_, .f32⟩
  | 75 => ⟨S31x384, .f32⟩
  | 76 => ⟨S31x384, .f32⟩
  | 77 => ⟨S4096x384, .f32⟩
  | 78 => ⟨S4096x384, .f32⟩
  | 79 => ⟨S4096x384, .f32⟩
  | 80 => ⟨S_, .f32⟩
  | 81 => ⟨S384, .f32⟩
  | 82 => ⟨S1x384, .f32⟩
  | 83 => ⟨S_, .f32⟩
  | 84 => ⟨S384, .f32⟩
  | 85 => ⟨S_, .f32⟩
  | 86 => ⟨S4126x384, .f32⟩
  | 87 => ⟨S4126x384, .f32⟩
  | 88 => ⟨S1x384, .f32⟩
  | 89 => ⟨S_, .f32⟩
  | 90 => ⟨S31x384, .f32⟩
  | 91 => ⟨S31x384, .f32⟩
  | 92 => ⟨S4096x384, .f32⟩
  | 93 => ⟨S4096x384, .f32⟩
  | 94 => ⟨S4096x384, .f32⟩
  | 95 => ⟨S_, .f32⟩
  | 96 => ⟨S384, .f32⟩
  | 97 => ⟨S1x384, .f32⟩
  | 98 => ⟨S_, .f32⟩
  | 99 => ⟨S384, .f32⟩
  | 100 => ⟨S_, .f32⟩
  | 101 => ⟨S4126x384, .f32⟩
  | 102 => ⟨S4126x384, .f32⟩
  | 103 => ⟨S1x384, .f32⟩
  | 104 => ⟨S_, .f32⟩
  | 105 => ⟨S31x384, .f32⟩
  | 106 => ⟨S31x384, .f32⟩
  | 107 => ⟨S4096x384, .f32⟩
  | 108 => ⟨S4096x384, .f32⟩
  | 109 => ⟨S4096x384, .f32⟩
  | 110 => ⟨S_, .f32⟩
  | 111 => ⟨S384, .f32⟩
  | 112 => ⟨S1x384, .f32⟩
  | 113 => ⟨S_, .f32⟩
  | 114 => ⟨S384, .f32⟩
  | 115 => ⟨S_, .f32⟩
  | 116 => ⟨S4126x384, .f32⟩
  | 117 => ⟨S4126x384, .f32⟩
  | 118 => ⟨S1x384, .f32⟩
  | 119 => ⟨S_, .f32⟩
  | 120 => ⟨S31x384, .f32⟩
  | 121 => ⟨S31x384, .f32⟩
  | 122 => ⟨S4096x384, .f32⟩
  | 123 => ⟨S4096x384, .f32⟩
  | 124 => ⟨S4096x384, .f32⟩
  | 125 => ⟨S_, .f32⟩
  | 126 => ⟨S384, .f32⟩
  | 127 => ⟨S1x384, .f32⟩
  | _ => ⟨S4096x1024, .f32⟩

abbrev hbmTy0_6 (i : Nat) : BufTy := match i % 128 with
  | 0 => ⟨S_, .f32⟩
  | 1 => ⟨S384, .f32⟩
  | 2 => ⟨S_, .f32⟩
  | 3 => ⟨S4126x384, .f32⟩
  | 4 => ⟨S4126x384, .f32⟩
  | 5 => ⟨S1x384, .f32⟩
  | 6 => ⟨S_, .f32⟩
  | 7 => ⟨S31x384, .f32⟩
  | 8 => ⟨S31x384, .f32⟩
  | 9 => ⟨S4096x384, .f32⟩
  | 10 => ⟨S4096x384, .f32⟩
  | 11 => ⟨S4096x384, .f32⟩
  | 12 => ⟨S_, .f32⟩
  | 13 => ⟨S384, .f32⟩
  | 14 => ⟨S1x384, .f32⟩
  | 15 => ⟨S_, .f32⟩
  | 16 => ⟨S384, .f32⟩
  | 17 => ⟨S_, .f32⟩
  | 18 => ⟨S4126x384, .f32⟩
  | 19 => ⟨S4126x384, .f32⟩
  | 20 => ⟨S1x384, .f32⟩
  | 21 => ⟨S_, .f32⟩
  | 22 => ⟨S31x384, .f32⟩
  | 23 => ⟨S31x384, .f32⟩
  | 24 => ⟨S4096x384, .f32⟩
  | 25 => ⟨S4096x384, .f32⟩
  | 26 => ⟨S4096x384, .f32⟩
  | 27 => ⟨S_, .f32⟩
  | 28 => ⟨S384, .f32⟩
  | 29 => ⟨S1x384, .f32⟩
  | 30 => ⟨S_, .f32⟩
  | 31 => ⟨S384, .f32⟩
  | 32 => ⟨S_, .f32⟩
  | 33 => ⟨S4126x384, .f32⟩
  | 34 => ⟨S4126x384, .f32⟩
  | 35 => ⟨S1x384, .f32⟩
  | 36 => ⟨S_, .f32⟩
  | 37 => ⟨S31x384, .f32⟩
  | 38 => ⟨S31x384, .f32⟩
  | 39 => ⟨S4096x384, .f32⟩
  | 40 => ⟨S4096x384, .f32⟩
  | 41 => ⟨S4096x384, .f32⟩
  | 42 => ⟨S_, .f32⟩
  | 43 => ⟨S384, .f32⟩
  | 44 => ⟨S1x384, .f32⟩
  | 45 => ⟨S_, .f32⟩
  | 46 => ⟨S384, .f32⟩
  | 47 => ⟨S_, .f32⟩
  | 48 => ⟨S4126x384, .f32⟩
  | 49 => ⟨S4126x384, .f32⟩
  | 50 => ⟨S1x384, .f32⟩
  | 51 => ⟨S_, .f32⟩
  | 52 => ⟨S31x384, .f32⟩
  | 53 => ⟨S31x384, .f32⟩
  | 54 => ⟨S4096x384, .f32⟩
  | 55 => ⟨S4096x384, .f32⟩
  | 56 => ⟨S4096x384, .f32⟩
  | 57 => ⟨S_, .f32⟩
  | 58 => ⟨S384, .f32⟩
  | 59 => ⟨S1x384, .f32⟩
  | 60 => ⟨S_, .f32⟩
  | 61 => ⟨S384, .f32⟩
  | 62 => ⟨S_, .f32⟩
  | 63 => ⟨S4126x384, .f32⟩
  | 64 => ⟨S4126x384, .f32⟩
  | 65 => ⟨S1x384, .f32⟩
  | 66 => ⟨S_, .f32⟩
  | 67 => ⟨S31x384, .f32⟩
  | 68 => ⟨S31x384, .f32⟩
  | 69 => ⟨S4096x384, .f32⟩
  | 70 => ⟨S4096x384, .f32⟩
  | 71 => ⟨S4096x384, .f32⟩
  | 72 => ⟨S_, .f32⟩
  | 73 => ⟨S384, .f32⟩
  | 74 => ⟨S1x384, .f32⟩
  | 75 => ⟨S_, .f32⟩
  | 76 => ⟨S384, .f32⟩
  | 77 => ⟨S_, .f32⟩
  | 78 => ⟨S4126x384, .f32⟩
  | 79 => ⟨S4126x384, .f32⟩
  | 80 => ⟨S1x384, .f32⟩
  | 81 => ⟨S_, .f32⟩
  | 82 => ⟨S31x384, .f32⟩
  | 83 => ⟨S31x384, .f32⟩
  | 84 => ⟨S4096x384, .f32⟩
  | 85 => ⟨S4096x384, .f32⟩
  | 86 => ⟨S4096x384, .f32⟩
  | 87 => ⟨S_, .f32⟩
  | 88 => ⟨S384, .f32⟩
  | 89 => ⟨S1x384, .f32⟩
  | 90 => ⟨S_, .f32⟩
  | 91 => ⟨S384, .f32⟩
  | 92 => ⟨S_, .f32⟩
  | 93 => ⟨S4126x384, .f32⟩
  | 94 => ⟨S4126x384, .f32⟩
  | 95 => ⟨S1x384, .f32⟩
  | 96 => ⟨S_, .f32⟩
  | 97 => ⟨S31x384, .f32⟩
  | 98 => ⟨S31x384, .f32⟩
  | 99 => ⟨S4096x384, .f32⟩
  | 100 => ⟨S4096x384, .f32⟩
  | 101 => ⟨S4096x384, .f32⟩
  | 102 => ⟨S_, .f32⟩
  | 103 => ⟨S384, .f32⟩
  | 104 => ⟨S1x384, .f32⟩
  | 105 => ⟨S_, .f32⟩
  | 106 => ⟨S384, .f32⟩
  | 107 => ⟨S_, .f32⟩
  | 108 => ⟨S4126x384, .f32⟩
  | 109 => ⟨S4126x384, .f32⟩
  | 110 => ⟨S1x384, .f32⟩
  | 111 => ⟨S_, .f32⟩
  | 112 => ⟨S31x384, .f32⟩
  | 113 => ⟨S31x384, .f32⟩
  | 114 => ⟨S30x384, .f32⟩
  | 115 => ⟨S4096x384, .f32⟩
  | 116 => ⟨S4096x384, .f32⟩
  | 117 => ⟨S4096x384, .f32⟩
  | 118 => ⟨S4096x384, .f32⟩
  | 119 => ⟨S4096x768, .f32⟩
  | 120 => ⟨S_, .f32⟩
  | 121 => ⟨S4096x1792, .f32⟩
  | 122 => ⟨S4096x1792, .f32⟩
  | 123 => ⟨S_, .f32⟩
  | 124 => ⟨S4096x1792, .f32⟩
  | 125 => ⟨S4096x1792, .f32⟩
  | 126 => ⟨S4096x1024, .f32⟩
  | 127 => ⟨S_, .f32⟩
  | _ => ⟨S4096x1024, .f32⟩

abbrev hbmTy0_7 (i : Nat) : BufTy := match i % 128 with
  | 0 => ⟨S1024, .f32⟩
  | 1 => ⟨S1x1024, .f32⟩
  | 2 => ⟨S4096x1024, .f32⟩
  | 3 => ⟨S_, .f32⟩
  | 4 => ⟨S1024, .f32⟩
  | 5 => ⟨S1x1024, .f32⟩
  | 6 => ⟨S4096x1024, .f32⟩
  | 7 => ⟨S4096x1024, .f32⟩
  | 8 => ⟨S4096x1024, .f32⟩
  | 9 => ⟨S_, .f32⟩
  | 10 => ⟨S1024, .f32⟩
  | 11 => ⟨S1x1024, .f32⟩
  | 12 => ⟨S4096x1024, .f32⟩
  | 13 => ⟨S4096x1024, .f32⟩
  | 14 => ⟨S_, .f32⟩
  | 15 => ⟨S1024, .f32⟩
  | 16 => ⟨S4096x1024, .f32⟩
  | 17 => ⟨S_, .f32⟩
  | 18 => ⟨S4096, .f32⟩
  | 19 => ⟨S4096x1, .f32⟩
  | 20 => ⟨S4096x1024, .f32⟩
  | 21 => ⟨S4096x1024, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1792, .bf16⟩
  | 35 => ⟨S1x1024, .f32⟩
  | 36 => ⟨S1x384, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_cst_10 : Ref sig .tc := ⟨.hbm, 282, rfl⟩
abbrev main_v261 : Ref sig .tc := ⟨.hbm, 283, rfl⟩
abbrev main_call0_call0_cst : Ref sig .tc := ⟨.hbm, 284, rfl⟩
abbrev main_call0_call0_v0 : Ref sig .tc := ⟨.hbm, 285, rfl⟩
abbrev main_v262 : Ref sig .tc := ⟨.hbm, 286, rfl⟩
abbrev main_v263 : Ref sig .tc := ⟨.hbm, 287, rfl⟩
abbrev main_cst_11 : Ref sig .tc := ⟨.hbm, 288, rfl⟩
abbrev main_v264 : Ref sig .tc := ⟨.hbm, 289, rfl⟩
abbrev main_v265 : Ref sig .tc := ⟨.hbm, 290, rfl⟩
abbrev main_c : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_cst_12 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_cst_13 : Ref sig .tc := ⟨.hbm, 299, rfl⟩
abbrev main_v272 : Ref sig .tc := ⟨.hbm, 300, rfl⟩
abbrev main_c_14 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_cst_15 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_cst_16 : Ref sig .tc := ⟨.hbm, 314, rfl⟩
abbrev main_v284 : Ref sig .tc := ⟨.hbm, 315, rfl⟩
abbrev main_c_17 : Ref sig .tc := ⟨.hbm, 316, rfl⟩
abbrev main_v285 : Ref sig .tc := ⟨.hbm, 317, rfl⟩
abbrev main_v286 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_cst_18 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_cst_19 : Ref sig .tc := ⟨.hbm, 329, rfl⟩
abbrev main_v296 : Ref sig .tc := ⟨.hbm, 330, rfl⟩
abbrev main_c_20 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_v304 : Ref sig .tc := ⟨.hbm, 339, rfl⟩
abbrev main_cst_21 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_cst_22 : Ref sig .tc := ⟨.hbm, 344, rfl⟩
abbrev main_v308 : Ref sig .tc := ⟨.hbm, 345, rfl⟩
abbrev main_c_23 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_v327 : Ref sig .tc := ⟨.hbm, 365, rfl⟩
abbrev main_v328 : Ref sig .tc := ⟨.hbm, 366, rfl⟩
abbrev main_cst_24 : Ref sig .tc := ⟨.hbm, 367, rfl⟩
abbrev main_v329 : Ref sig .tc := ⟨.hbm, 368, rfl⟩
abbrev main_cst_25 : Ref sig .tc := ⟨.hbm, 369, rfl⟩
abbrev main_v330 : Ref sig .tc := ⟨.hbm, 370, rfl⟩
abbrev main_v331 : Ref sig .tc := ⟨.hbm, 371, rfl⟩
abbrev main_v332 : Ref sig .tc := ⟨.hbm, 372, rfl⟩
abbrev main_v333 : Ref sig .tc := ⟨.hbm, 373, rfl⟩
abbrev main_v334 : Ref sig .tc := ⟨.hbm, 374, rfl⟩
abbrev main_v335 : Ref sig .tc := ⟨.hbm, 375, rfl⟩
abbrev main_v336 : Ref sig .tc := ⟨.hbm, 376, rfl⟩
abbrev main_cst_26 : Ref sig .tc := ⟨.hbm, 377, rfl⟩
abbrev main_v337 : Ref sig .tc := ⟨.hbm, 378, rfl⟩
abbrev main_v338 : Ref sig .tc := ⟨.hbm, 379, rfl⟩
abbrev main_cst_27 : Ref sig .tc := ⟨.hbm, 380, rfl⟩
abbrev main_v339 : Ref sig .tc := ⟨.hbm, 381, rfl⟩
abbrev main_v340 : Ref sig .tc := ⟨.hbm, 382, rfl⟩
abbrev main_v341 : Ref sig .tc := ⟨.hbm, 383, rfl⟩
abbrev main_v342 : Ref sig .tc := ⟨.hbm, 384, rfl⟩
abbrev main_v343 : Ref sig .tc := ⟨.hbm, 385, rfl⟩
abbrev main_v344 : Ref sig .tc := ⟨.hbm, 386, rfl⟩
abbrev main_v345 : Ref sig .tc := ⟨.hbm, 387, rfl⟩
abbrev main_cst_28 : Ref sig .tc := ⟨.hbm, 388, rfl⟩
abbrev main_v346 : Ref sig .tc := ⟨.hbm, 389, rfl⟩
abbrev main_v347 : Ref sig .tc := ⟨.hbm, 390, rfl⟩
abbrev main_cst_29 : Ref sig .tc := ⟨.hbm, 391, rfl⟩
abbrev main_v348 : Ref sig .tc := ⟨.hbm, 392, rfl⟩
abbrev main_v349 : Ref sig .tc := ⟨.hbm, 393, rfl⟩
abbrev main_v350 : Ref sig .tc := ⟨.hbm, 394, rfl⟩
abbrev main_v351 : Ref sig .tc := ⟨.hbm, 395, rfl⟩
abbrev main_v352 : Ref sig .tc := ⟨.hbm, 396, rfl⟩
abbrev main_v353 : Ref sig .tc := ⟨.hbm, 397, rfl⟩
abbrev main_v354 : Ref sig .tc := ⟨.hbm, 398, rfl⟩
abbrev main_cst_30 : Ref sig .tc := ⟨.hbm, 399, rfl⟩
abbrev main_v355 : Ref sig .tc := ⟨.hbm, 400, rfl⟩
abbrev main_v356 : Ref sig .tc := ⟨.hbm, 401, rfl⟩
abbrev main_cst_31 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_v360 : Ref sig .tc := ⟨.hbm, 406, rfl⟩
abbrev main_call1_call0_cst : Ref sig .tc := ⟨.hbm, 407, rfl⟩
abbrev main_call1_call0_v0 : Ref sig .tc := ⟨.hbm, 408, rfl⟩
abbrev main_v361 : Ref sig .tc := ⟨.hbm, 409, rfl⟩
abbrev main_v362 : Ref sig .tc := ⟨.hbm, 410, rfl⟩
abbrev main_cst_32 : Ref sig .tc := ⟨.hbm, 411, rfl⟩
abbrev main_v363 : Ref sig .tc := ⟨.hbm, 412, rfl⟩
abbrev main_v364 : Ref sig .tc := ⟨.hbm, 413, rfl⟩
abbrev main_cst_33 : Ref sig .tc := ⟨.hbm, 414, rfl⟩
abbrev main_v365 : Ref sig .tc := ⟨.hbm, 415, rfl⟩
abbrev main_v366 : Ref sig .tc := ⟨.hbm, 416, rfl⟩
abbrev main_cst_34 : Ref sig .tc := ⟨.hbm, 417, rfl⟩
abbrev main_v367 : Ref sig .tc := ⟨.hbm, 418, rfl⟩
abbrev main_v368 : Ref sig .tc := ⟨.hbm, 419, rfl⟩
abbrev main_v369 : Ref sig .tc := ⟨.hbm, 420, rfl⟩
abbrev main_v370 : Ref sig .tc := ⟨.hbm, 421, rfl⟩
abbrev main_cst_35 : Ref sig .tc := ⟨.hbm, 422, rfl⟩
abbrev main_v371 : Ref sig .tc := ⟨.hbm, 423, rfl⟩
abbrev main_v372 : Ref sig .tc := ⟨.hbm, 424, rfl⟩
abbrev main_cst_36 : Ref sig .tc := ⟨.hbm, 425, rfl⟩
abbrev main_v373 : Ref sig .tc := ⟨.hbm, 426, rfl⟩
abbrev main_cst_37 : Ref sig .tc := ⟨.hbm, 427, rfl⟩
abbrev main_v374 : Ref sig .tc := ⟨.hbm, 428, rfl⟩
abbrev main_v375 : Ref sig .tc := ⟨.hbm, 429, rfl⟩
abbrev main_cst_38 : Ref sig .tc := ⟨.hbm, 430, rfl⟩
abbrev main_v376 : Ref sig .tc := ⟨.hbm, 431, rfl⟩
abbrev main_v377 : Ref sig .tc := ⟨.hbm, 432, rfl⟩
abbrev main_v378 : Ref sig .tc := ⟨.hbm, 433, rfl⟩
abbrev main_v379 : Ref sig .tc := ⟨.hbm, 434, rfl⟩
abbrev main_cst_39 : Ref sig .tc := ⟨.hbm, 435, rfl⟩
abbrev main_v380 : Ref sig .tc := ⟨.hbm, 436, rfl⟩
abbrev main_v381 : Ref sig .tc := ⟨.hbm, 437, rfl⟩
abbrev main_cst_40 : Ref sig .tc := ⟨.hbm, 438, rfl⟩
abbrev main_v382 : Ref sig .tc := ⟨.hbm, 439, rfl⟩
abbrev main_cst_41 : Ref sig .tc := ⟨.hbm, 440, rfl⟩
abbrev main_v383 : Ref sig .tc := ⟨.hbm, 441, rfl⟩
abbrev main_v384 : Ref sig .tc := ⟨.hbm, 442, rfl⟩
abbrev main_v385 : Ref sig .tc := ⟨.hbm, 443, rfl⟩
abbrev main_cst_42 : Ref sig .tc := ⟨.hbm, 444, rfl⟩
abbrev main_v386 : Ref sig .tc := ⟨.hbm, 445, rfl⟩
abbrev main_v387 : Ref sig .tc := ⟨.hbm, 446, rfl⟩
abbrev main_v388 : Ref sig .tc := ⟨.hbm, 447, rfl⟩
abbrev main_v389 : Ref sig .tc := ⟨.hbm, 448, rfl⟩
abbrev main_v390 : Ref sig .tc := ⟨.hbm, 449, rfl⟩
abbrev main_cst_43 : Ref sig .tc := ⟨.hbm, 450, rfl⟩
abbrev main_v391 : Ref sig .tc := ⟨.hbm, 451, rfl⟩
abbrev main_v392 : Ref sig .tc := ⟨.hbm, 452, rfl⟩
abbrev main_cst_44 : Ref sig .tc := ⟨.hbm, 453, rfl⟩
abbrev main_v393 : Ref sig .tc := ⟨.hbm, 454, rfl⟩
abbrev main_cst_45 : Ref sig .tc := ⟨.hbm, 455, rfl⟩
abbrev main_v394 : Ref sig .tc := ⟨.hbm, 456, rfl⟩
abbrev main_v395 : Ref sig .tc := ⟨.hbm, 457, rfl⟩
abbrev main_v396 : Ref sig .tc := ⟨.hbm, 458, rfl⟩
abbrev main_cst_46 : Ref sig .tc := ⟨.hbm, 459, rfl⟩
abbrev main_v397 : Ref sig .tc := ⟨.hbm, 460, rfl⟩
abbrev main_v398 : Ref sig .tc := ⟨.hbm, 461, rfl⟩
abbrev main_v399 : Ref sig .tc := ⟨.hbm, 462, rfl⟩
abbrev main_v400 : Ref sig .tc := ⟨.hbm, 463, rfl⟩
abbrev main_v401 : Ref sig .tc := ⟨.hbm, 464, rfl⟩
abbrev main_cst_47 : Ref sig .tc := ⟨.hbm, 465, rfl⟩
abbrev main_v402 : Ref sig .tc := ⟨.hbm, 466, rfl⟩
abbrev main_v403 : Ref sig .tc := ⟨.hbm, 467, rfl⟩
abbrev main_cst_48 : Ref sig .tc := ⟨.hbm, 468, rfl⟩
abbrev main_v404 : Ref sig .tc := ⟨.hbm, 469, rfl⟩
abbrev main_cst_49 : Ref sig .tc := ⟨.hbm, 470, rfl⟩
abbrev main_v405 : Ref sig .tc := ⟨.hbm, 471, rfl⟩
abbrev main_v406 : Ref sig .tc := ⟨.hbm, 472, rfl⟩
abbrev main_v407 : Ref sig .tc := ⟨.hbm, 473, rfl⟩
abbrev main_cst_50 : Ref sig .tc := ⟨.hbm, 474, rfl⟩
abbrev main_v408 : Ref sig .tc := ⟨.hbm, 475, rfl⟩
abbrev main_v409 : Ref sig .tc := ⟨.hbm, 476, rfl⟩
abbrev main_v410 : Ref sig .tc := ⟨.hbm, 477, rfl⟩
abbrev main_v411 : Ref sig .tc := ⟨.hbm, 478, rfl⟩
abbrev main_v412 : Ref sig .tc := ⟨.hbm, 479, rfl⟩
abbrev main_cst_51 : Ref sig .tc := ⟨.hbm, 480, rfl⟩
abbrev main_v413 : Ref sig .tc := ⟨.hbm, 481, rfl⟩
abbrev main_v414 : Ref sig .tc := ⟨.hbm, 482, rfl⟩
abbrev main_cst_52 : Ref sig .tc := ⟨.hbm, 483, rfl⟩
abbrev main_v415 : Ref sig .tc := ⟨.hbm, 484, rfl⟩
abbrev main_cst_53 : Ref sig .tc := ⟨.hbm, 485, rfl⟩
abbrev main_v416 : Ref sig .tc := ⟨.hbm, 486, rfl⟩
abbrev main_v417 : Ref sig .tc := ⟨.hbm, 487, rfl⟩
abbrev main_v418 : Ref sig .tc := ⟨.hbm, 488, rfl⟩
abbrev main_cst_54 : Ref sig .tc := ⟨.hbm, 489, rfl⟩
abbrev main_v419 : Ref sig .tc := ⟨.hbm, 490, rfl⟩
abbrev main_v420 : Ref sig .tc := ⟨.hbm, 491, rfl⟩
abbrev main_v421 : Ref sig .tc := ⟨.hbm, 492, rfl⟩
abbrev main_v422 : Ref sig .tc := ⟨.hbm, 493, rfl⟩
abbrev main_v423 : Ref sig .tc := ⟨.hbm, 494, rfl⟩
abbrev main_cst_55 : Ref sig .tc := ⟨.hbm, 495, rfl⟩
abbrev main_v424 : Ref sig .tc := ⟨.hbm, 496, rfl⟩
abbrev main_v425 : Ref sig .tc := ⟨.hbm, 497, rfl⟩
abbrev main_cst_56 : Ref sig .tc := ⟨.hbm, 498, rfl⟩
abbrev main_v426 : Ref sig .tc := ⟨.hbm, 499, rfl⟩
abbrev main_cst_57 : Ref sig .tc := ⟨.hbm, 500, rfl⟩
abbrev main_v427 : Ref sig .tc := ⟨.hbm, 501, rfl⟩
abbrev main_v428 : Ref sig .tc := ⟨.hbm, 502, rfl⟩
abbrev main_v429 : Ref sig .tc := ⟨.hbm, 503, rfl⟩
abbrev main_cst_58 : Ref sig .tc := ⟨.hbm, 504, rfl⟩
abbrev main_v430 : Ref sig .tc := ⟨.hbm, 505, rfl⟩
abbrev main_v431 : Ref sig .tc := ⟨.hbm, 506, rfl⟩
abbrev main_v432 : Ref sig .tc := ⟨.hbm, 507, rfl⟩
abbrev main_v433 : Ref sig .tc := ⟨.hbm, 508, rfl⟩
abbrev main_v434 : Ref sig .tc := ⟨.hbm, 509, rfl⟩
abbrev main_cst_59 : Ref sig .tc := ⟨.hbm, 510, rfl⟩
abbrev main_v435 : Ref sig .tc := ⟨.hbm, 511, rfl⟩
abbrev main_v436 : Ref sig .tc := ⟨.hbm, 512, rfl⟩
abbrev main_cst_60 : Ref sig .tc := ⟨.hbm, 513, rfl⟩
abbrev main_v437 : Ref sig .tc := ⟨.hbm, 514, rfl⟩
abbrev main_cst_61 : Ref sig .tc := ⟨.hbm, 515, rfl⟩
abbrev main_v438 : Ref sig .tc := ⟨.hbm, 516, rfl⟩
abbrev main_v439 : Ref sig .tc := ⟨.hbm, 517, rfl⟩
abbrev main_v440 : Ref sig .tc := ⟨.hbm, 518, rfl⟩
abbrev main_cst_62 : Ref sig .tc := ⟨.hbm, 519, rfl⟩
abbrev main_v441 : Ref sig .tc := ⟨.hbm, 520, rfl⟩
abbrev main_v442 : Ref sig .tc := ⟨.hbm, 521, rfl⟩
abbrev main_v443 : Ref sig .tc := ⟨.hbm, 522, rfl⟩
abbrev main_v444 : Ref sig .tc := ⟨.hbm, 523, rfl⟩
abbrev main_v445 : Ref sig .tc := ⟨.hbm, 524, rfl⟩
abbrev main_cst_63 : Ref sig .tc := ⟨.hbm, 525, rfl⟩
abbrev main_v446 : Ref sig .tc := ⟨.hbm, 526, rfl⟩
abbrev main_v447 : Ref sig .tc := ⟨.hbm, 527, rfl⟩
abbrev main_cst_64 : Ref sig .tc := ⟨.hbm, 528, rfl⟩
abbrev main_v448 : Ref sig .tc := ⟨.hbm, 529, rfl⟩
abbrev main_cst_65 : Ref sig .tc := ⟨.hbm, 530, rfl⟩
abbrev main_v449 : Ref sig .tc := ⟨.hbm, 531, rfl⟩
abbrev main_v450 : Ref sig .tc := ⟨.hbm, 532, rfl⟩
abbrev main_v451 : Ref sig .tc := ⟨.hbm, 533, rfl⟩
abbrev main_cst_66 : Ref sig .tc := ⟨.hbm, 534, rfl⟩
abbrev main_v452 : Ref sig .tc := ⟨.hbm, 535, rfl⟩
abbrev main_v453 : Ref sig .tc := ⟨.hbm, 536, rfl⟩
abbrev main_v454 : Ref sig .tc := ⟨.hbm, 537, rfl⟩
abbrev main_v455 : Ref sig .tc := ⟨.hbm, 538, rfl⟩
abbrev main_v456 : Ref sig .tc := ⟨.hbm, 539, rfl⟩
abbrev main_cst_67 : Ref sig .tc := ⟨.hbm, 540, rfl⟩
abbrev main_v457 : Ref sig .tc := ⟨.hbm, 541, rfl⟩
abbrev main_v458 : Ref sig .tc := ⟨.hbm, 542, rfl⟩
abbrev main_cst_68 : Ref sig .tc := ⟨.hbm, 543, rfl⟩
abbrev main_v459 : Ref sig .tc := ⟨.hbm, 544, rfl⟩
abbrev main_cst_69 : Ref sig .tc := ⟨.hbm, 545, rfl⟩
abbrev main_v460 : Ref sig .tc := ⟨.hbm, 546, rfl⟩
abbrev main_v461 : Ref sig .tc := ⟨.hbm, 547, rfl⟩
abbrev main_v462 : Ref sig .tc := ⟨.hbm, 548, rfl⟩
abbrev main_cst_70 : Ref sig .tc := ⟨.hbm, 549, rfl⟩
abbrev main_v463 : Ref sig .tc := ⟨.hbm, 550, rfl⟩
abbrev main_v464 : Ref sig .tc := ⟨.hbm, 551, rfl⟩
abbrev main_v465 : Ref sig .tc := ⟨.hbm, 552, rfl⟩
abbrev main_v466 : Ref sig .tc := ⟨.hbm, 553, rfl⟩
abbrev main_v467 : Ref sig .tc := ⟨.hbm, 554, rfl⟩
abbrev main_cst_71 : Ref sig .tc := ⟨.hbm, 555, rfl⟩
abbrev main_v468 : Ref sig .tc := ⟨.hbm, 556, rfl⟩
abbrev main_v469 : Ref sig .tc := ⟨.hbm, 557, rfl⟩
abbrev main_cst_72 : Ref sig .tc := ⟨.hbm, 558, rfl⟩
abbrev main_v470 : Ref sig .tc := ⟨.hbm, 559, rfl⟩
abbrev main_cst_73 : Ref sig .tc := ⟨.hbm, 560, rfl⟩
abbrev main_v471 : Ref sig .tc := ⟨.hbm, 561, rfl⟩
abbrev main_v472 : Ref sig .tc := ⟨.hbm, 562, rfl⟩
abbrev main_v473 : Ref sig .tc := ⟨.hbm, 563, rfl⟩
abbrev main_cst_74 : Ref sig .tc := ⟨.hbm, 564, rfl⟩
abbrev main_v474 : Ref sig .tc := ⟨.hbm, 565, rfl⟩
abbrev main_v475 : Ref sig .tc := ⟨.hbm, 566, rfl⟩
abbrev main_v476 : Ref sig .tc := ⟨.hbm, 567, rfl⟩
abbrev main_v477 : Ref sig .tc := ⟨.hbm, 568, rfl⟩
abbrev main_v478 : Ref sig .tc := ⟨.hbm, 569, rfl⟩
abbrev main_cst_75 : Ref sig .tc := ⟨.hbm, 570, rfl⟩
abbrev main_v479 : Ref sig .tc := ⟨.hbm, 571, rfl⟩
abbrev main_v480 : Ref sig .tc := ⟨.hbm, 572, rfl⟩
abbrev main_cst_76 : Ref sig .tc := ⟨.hbm, 573, rfl⟩
abbrev main_v481 : Ref sig .tc := ⟨.hbm, 574, rfl⟩
abbrev main_cst_77 : Ref sig .tc := ⟨.hbm, 575, rfl⟩
abbrev main_v482 : Ref sig .tc := ⟨.hbm, 576, rfl⟩
abbrev main_v483 : Ref sig .tc := ⟨.hbm, 577, rfl⟩
abbrev main_v484 : Ref sig .tc := ⟨.hbm, 578, rfl⟩
abbrev main_cst_78 : Ref sig .tc := ⟨.hbm, 579, rfl⟩
abbrev main_v485 : Ref sig .tc := ⟨.hbm, 580, rfl⟩
abbrev main_v486 : Ref sig .tc := ⟨.hbm, 581, rfl⟩
abbrev main_v487 : Ref sig .tc := ⟨.hbm, 582, rfl⟩
abbrev main_v488 : Ref sig .tc := ⟨.hbm, 583, rfl⟩
abbrev main_v489 : Ref sig .tc := ⟨.hbm, 584, rfl⟩
abbrev main_cst_79 : Ref sig .tc := ⟨.hbm, 585, rfl⟩
abbrev main_v490 : Ref sig .tc := ⟨.hbm, 586, rfl⟩
abbrev main_v491 : Ref sig .tc := ⟨.hbm, 587, rfl⟩
abbrev main_cst_80 : Ref sig .tc := ⟨.hbm, 588, rfl⟩
abbrev main_v492 : Ref sig .tc := ⟨.hbm, 589, rfl⟩
abbrev main_cst_81 : Ref sig .tc := ⟨.hbm, 590, rfl⟩
abbrev main_v493 : Ref sig .tc := ⟨.hbm, 591, rfl⟩
abbrev main_v494 : Ref sig .tc := ⟨.hbm, 592, rfl⟩
abbrev main_v495 : Ref sig .tc := ⟨.hbm, 593, rfl⟩
abbrev main_cst_82 : Ref sig .tc := ⟨.hbm, 594, rfl⟩
abbrev main_v496 : Ref sig .tc := ⟨.hbm, 595, rfl⟩
abbrev main_v497 : Ref sig .tc := ⟨.hbm, 596, rfl⟩
abbrev main_v498 : Ref sig .tc := ⟨.hbm, 597, rfl⟩
abbrev main_v499 : Ref sig .tc := ⟨.hbm, 598, rfl⟩
abbrev main_v500 : Ref sig .tc := ⟨.hbm, 599, rfl⟩
abbrev main_cst_83 : Ref sig .tc := ⟨.hbm, 600, rfl⟩
abbrev main_v501 : Ref sig .tc := ⟨.hbm, 601, rfl⟩
abbrev main_v502 : Ref sig .tc := ⟨.hbm, 602, rfl⟩
abbrev main_cst_84 : Ref sig .tc := ⟨.hbm, 603, rfl⟩
abbrev main_v503 : Ref sig .tc := ⟨.hbm, 604, rfl⟩
abbrev main_cst_85 : Ref sig .tc := ⟨.hbm, 605, rfl⟩
abbrev main_v504 : Ref sig .tc := ⟨.hbm, 606, rfl⟩
abbrev main_v505 : Ref sig .tc := ⟨.hbm, 607, rfl⟩
abbrev main_v506 : Ref sig .tc := ⟨.hbm, 608, rfl⟩
abbrev main_cst_86 : Ref sig .tc := ⟨.hbm, 609, rfl⟩
abbrev main_v507 : Ref sig .tc := ⟨.hbm, 610, rfl⟩
abbrev main_v508 : Ref sig .tc := ⟨.hbm, 611, rfl⟩
abbrev main_v509 : Ref sig .tc := ⟨.hbm, 612, rfl⟩
abbrev main_v510 : Ref sig .tc := ⟨.hbm, 613, rfl⟩
abbrev main_v511 : Ref sig .tc := ⟨.hbm, 614, rfl⟩
abbrev main_cst_87 : Ref sig .tc := ⟨.hbm, 615, rfl⟩
abbrev main_v512 : Ref sig .tc := ⟨.hbm, 616, rfl⟩
abbrev main_v513 : Ref sig .tc := ⟨.hbm, 617, rfl⟩
abbrev main_cst_88 : Ref sig .tc := ⟨.hbm, 618, rfl⟩
abbrev main_v514 : Ref sig .tc := ⟨.hbm, 619, rfl⟩
abbrev main_cst_89 : Ref sig .tc := ⟨.hbm, 620, rfl⟩
abbrev main_v515 : Ref sig .tc := ⟨.hbm, 621, rfl⟩
abbrev main_v516 : Ref sig .tc := ⟨.hbm, 622, rfl⟩
abbrev main_v517 : Ref sig .tc := ⟨.hbm, 623, rfl⟩
abbrev main_cst_90 : Ref sig .tc := ⟨.hbm, 624, rfl⟩
abbrev main_v518 : Ref sig .tc := ⟨.hbm, 625, rfl⟩
abbrev main_v519 : Ref sig .tc := ⟨.hbm, 626, rfl⟩
abbrev main_v520 : Ref sig .tc := ⟨.hbm, 627, rfl⟩
abbrev main_v521 : Ref sig .tc := ⟨.hbm, 628, rfl⟩
abbrev main_v522 : Ref sig .tc := ⟨.hbm, 629, rfl⟩
abbrev main_cst_91 : Ref sig .tc := ⟨.hbm, 630, rfl⟩
abbrev main_v523 : Ref sig .tc := ⟨.hbm, 631, rfl⟩
abbrev main_v524 : Ref sig .tc := ⟨.hbm, 632, rfl⟩
abbrev main_cst_92 : Ref sig .tc := ⟨.hbm, 633, rfl⟩
abbrev main_v525 : Ref sig .tc := ⟨.hbm, 634, rfl⟩
abbrev main_cst_93 : Ref sig .tc := ⟨.hbm, 635, rfl⟩
abbrev main_v526 : Ref sig .tc := ⟨.hbm, 636, rfl⟩
abbrev main_v527 : Ref sig .tc := ⟨.hbm, 637, rfl⟩
abbrev main_v528 : Ref sig .tc := ⟨.hbm, 638, rfl⟩
abbrev main_cst_94 : Ref sig .tc := ⟨.hbm, 639, rfl⟩
abbrev main_v529 : Ref sig .tc := ⟨.hbm, 640, rfl⟩
abbrev main_v530 : Ref sig .tc := ⟨.hbm, 641, rfl⟩
abbrev main_v531 : Ref sig .tc := ⟨.hbm, 642, rfl⟩
abbrev main_v532 : Ref sig .tc := ⟨.hbm, 643, rfl⟩
abbrev main_v533 : Ref sig .tc := ⟨.hbm, 644, rfl⟩
abbrev main_cst_95 : Ref sig .tc := ⟨.hbm, 645, rfl⟩
abbrev main_v534 : Ref sig .tc := ⟨.hbm, 646, rfl⟩
abbrev main_v535 : Ref sig .tc := ⟨.hbm, 647, rfl⟩
abbrev main_cst_96 : Ref sig .tc := ⟨.hbm, 648, rfl⟩
abbrev main_v536 : Ref sig .tc := ⟨.hbm, 649, rfl⟩
abbrev main_cst_97 : Ref sig .tc := ⟨.hbm, 650, rfl⟩
abbrev main_v537 : Ref sig .tc := ⟨.hbm, 651, rfl⟩
abbrev main_v538 : Ref sig .tc := ⟨.hbm, 652, rfl⟩
abbrev main_v539 : Ref sig .tc := ⟨.hbm, 653, rfl⟩
abbrev main_cst_98 : Ref sig .tc := ⟨.hbm, 654, rfl⟩
abbrev main_v540 : Ref sig .tc := ⟨.hbm, 655, rfl⟩
abbrev main_v541 : Ref sig .tc := ⟨.hbm, 656, rfl⟩
abbrev main_v542 : Ref sig .tc := ⟨.hbm, 657, rfl⟩
abbrev main_v543 : Ref sig .tc := ⟨.hbm, 658, rfl⟩
abbrev main_v544 : Ref sig .tc := ⟨.hbm, 659, rfl⟩
abbrev main_cst_99 : Ref sig .tc := ⟨.hbm, 660, rfl⟩
abbrev main_v545 : Ref sig .tc := ⟨.hbm, 661, rfl⟩
abbrev main_v546 : Ref sig .tc := ⟨.hbm, 662, rfl⟩
abbrev main_cst_100 : Ref sig .tc := ⟨.hbm, 663, rfl⟩
abbrev main_v547 : Ref sig .tc := ⟨.hbm, 664, rfl⟩
abbrev main_cst_101 : Ref sig .tc := ⟨.hbm, 665, rfl⟩
abbrev main_v548 : Ref sig .tc := ⟨.hbm, 666, rfl⟩
abbrev main_v549 : Ref sig .tc := ⟨.hbm, 667, rfl⟩
abbrev main_v550 : Ref sig .tc := ⟨.hbm, 668, rfl⟩
abbrev main_cst_102 : Ref sig .tc := ⟨.hbm, 669, rfl⟩
abbrev main_v551 : Ref sig .tc := ⟨.hbm, 670, rfl⟩
abbrev main_v552 : Ref sig .tc := ⟨.hbm, 671, rfl⟩
abbrev main_v553 : Ref sig .tc := ⟨.hbm, 672, rfl⟩
abbrev main_v554 : Ref sig .tc := ⟨.hbm, 673, rfl⟩
abbrev main_v555 : Ref sig .tc := ⟨.hbm, 674, rfl⟩
abbrev main_cst_103 : Ref sig .tc := ⟨.hbm, 675, rfl⟩
abbrev main_v556 : Ref sig .tc := ⟨.hbm, 676, rfl⟩
abbrev main_v557 : Ref sig .tc := ⟨.hbm, 677, rfl⟩
abbrev main_cst_104 : Ref sig .tc := ⟨.hbm, 678, rfl⟩
abbrev main_v558 : Ref sig .tc := ⟨.hbm, 679, rfl⟩
abbrev main_cst_105 : Ref sig .tc := ⟨.hbm, 680, rfl⟩
abbrev main_v559 : Ref sig .tc := ⟨.hbm, 681, rfl⟩
abbrev main_v560 : Ref sig .tc := ⟨.hbm, 682, rfl⟩
abbrev main_v561 : Ref sig .tc := ⟨.hbm, 683, rfl⟩
abbrev main_cst_106 : Ref sig .tc := ⟨.hbm, 684, rfl⟩
abbrev main_v562 : Ref sig .tc := ⟨.hbm, 685, rfl⟩
abbrev main_v563 : Ref sig .tc := ⟨.hbm, 686, rfl⟩
abbrev main_v564 : Ref sig .tc := ⟨.hbm, 687, rfl⟩
abbrev main_v565 : Ref sig .tc := ⟨.hbm, 688, rfl⟩
abbrev main_v566 : Ref sig .tc := ⟨.hbm, 689, rfl⟩
abbrev main_cst_107 : Ref sig .tc := ⟨.hbm, 690, rfl⟩
abbrev main_v567 : Ref sig .tc := ⟨.hbm, 691, rfl⟩
abbrev main_v568 : Ref sig .tc := ⟨.hbm, 692, rfl⟩
abbrev main_cst_108 : Ref sig .tc := ⟨.hbm, 693, rfl⟩
abbrev main_v569 : Ref sig .tc := ⟨.hbm, 694, rfl⟩
abbrev main_cst_109 : Ref sig .tc := ⟨.hbm, 695, rfl⟩
abbrev main_v570 : Ref sig .tc := ⟨.hbm, 696, rfl⟩
abbrev main_v571 : Ref sig .tc := ⟨.hbm, 697, rfl⟩
abbrev main_v572 : Ref sig .tc := ⟨.hbm, 698, rfl⟩
abbrev main_cst_110 : Ref sig .tc := ⟨.hbm, 699, rfl⟩
abbrev main_v573 : Ref sig .tc := ⟨.hbm, 700, rfl⟩
abbrev main_v574 : Ref sig .tc := ⟨.hbm, 701, rfl⟩
abbrev main_v575 : Ref sig .tc := ⟨.hbm, 702, rfl⟩
abbrev main_v576 : Ref sig .tc := ⟨.hbm, 703, rfl⟩
abbrev main_v577 : Ref sig .tc := ⟨.hbm, 704, rfl⟩
abbrev main_cst_111 : Ref sig .tc := ⟨.hbm, 705, rfl⟩
abbrev main_v578 : Ref sig .tc := ⟨.hbm, 706, rfl⟩
abbrev main_v579 : Ref sig .tc := ⟨.hbm, 707, rfl⟩
abbrev main_cst_112 : Ref sig .tc := ⟨.hbm, 708, rfl⟩
abbrev main_v580 : Ref sig .tc := ⟨.hbm, 709, rfl⟩
abbrev main_cst_113 : Ref sig .tc := ⟨.hbm, 710, rfl⟩
abbrev main_v581 : Ref sig .tc := ⟨.hbm, 711, rfl⟩
abbrev main_v582 : Ref sig .tc := ⟨.hbm, 712, rfl⟩
abbrev main_v583 : Ref sig .tc := ⟨.hbm, 713, rfl⟩
abbrev main_cst_114 : Ref sig .tc := ⟨.hbm, 714, rfl⟩
abbrev main_v584 : Ref sig .tc := ⟨.hbm, 715, rfl⟩
abbrev main_v585 : Ref sig .tc := ⟨.hbm, 716, rfl⟩
abbrev main_v586 : Ref sig .tc := ⟨.hbm, 717, rfl⟩
abbrev main_v587 : Ref sig .tc := ⟨.hbm, 718, rfl⟩
abbrev main_v588 : Ref sig .tc := ⟨.hbm, 719, rfl⟩
abbrev main_cst_115 : Ref sig .tc := ⟨.hbm, 720, rfl⟩
abbrev main_v589 : Ref sig .tc := ⟨.hbm, 721, rfl⟩
abbrev main_v590 : Ref sig .tc := ⟨.hbm, 722, rfl⟩
abbrev main_cst_116 : Ref sig .tc := ⟨.hbm, 723, rfl⟩
abbrev main_v591 : Ref sig .tc := ⟨.hbm, 724, rfl⟩
abbrev main_cst_117 : Ref sig .tc := ⟨.hbm, 725, rfl⟩
abbrev main_v592 : Ref sig .tc := ⟨.hbm, 726, rfl⟩
abbrev main_v593 : Ref sig .tc := ⟨.hbm, 727, rfl⟩
abbrev main_v594 : Ref sig .tc := ⟨.hbm, 728, rfl⟩
abbrev main_cst_118 : Ref sig .tc := ⟨.hbm, 729, rfl⟩
abbrev main_v595 : Ref sig .tc := ⟨.hbm, 730, rfl⟩
abbrev main_v596 : Ref sig .tc := ⟨.hbm, 731, rfl⟩
abbrev main_v597 : Ref sig .tc := ⟨.hbm, 732, rfl⟩
abbrev main_v598 : Ref sig .tc := ⟨.hbm, 733, rfl⟩
abbrev main_v599 : Ref sig .tc := ⟨.hbm, 734, rfl⟩
abbrev main_cst_119 : Ref sig .tc := ⟨.hbm, 735, rfl⟩
abbrev main_v600 : Ref sig .tc := ⟨.hbm, 736, rfl⟩
abbrev main_v601 : Ref sig .tc := ⟨.hbm, 737, rfl⟩
abbrev main_cst_120 : Ref sig .tc := ⟨.hbm, 738, rfl⟩
abbrev main_v602 : Ref sig .tc := ⟨.hbm, 739, rfl⟩
abbrev main_cst_121 : Ref sig .tc := ⟨.hbm, 740, rfl⟩
abbrev main_v603 : Ref sig .tc := ⟨.hbm, 741, rfl⟩
abbrev main_v604 : Ref sig .tc := ⟨.hbm, 742, rfl⟩
abbrev main_v605 : Ref sig .tc := ⟨.hbm, 743, rfl⟩
abbrev main_cst_122 : Ref sig .tc := ⟨.hbm, 744, rfl⟩
abbrev main_v606 : Ref sig .tc := ⟨.hbm, 745, rfl⟩
abbrev main_v607 : Ref sig .tc := ⟨.hbm, 746, rfl⟩
abbrev main_v608 : Ref sig .tc := ⟨.hbm, 747, rfl⟩
abbrev main_v609 : Ref sig .tc := ⟨.hbm, 748, rfl⟩
abbrev main_v610 : Ref sig .tc := ⟨.hbm, 749, rfl⟩
abbrev main_cst_123 : Ref sig .tc := ⟨.hbm, 750, rfl⟩
abbrev main_v611 : Ref sig .tc := ⟨.hbm, 751, rfl⟩
abbrev main_v612 : Ref sig .tc := ⟨.hbm, 752, rfl⟩
abbrev main_cst_124 : Ref sig .tc := ⟨.hbm, 753, rfl⟩
abbrev main_v613 : Ref sig .tc := ⟨.hbm, 754, rfl⟩
abbrev main_cst_125 : Ref sig .tc := ⟨.hbm, 755, rfl⟩
abbrev main_v614 : Ref sig .tc := ⟨.hbm, 756, rfl⟩
abbrev main_v615 : Ref sig .tc := ⟨.hbm, 757, rfl⟩
abbrev main_v616 : Ref sig .tc := ⟨.hbm, 758, rfl⟩
abbrev main_cst_126 : Ref sig .tc := ⟨.hbm, 759, rfl⟩
abbrev main_v617 : Ref sig .tc := ⟨.hbm, 760, rfl⟩
abbrev main_v618 : Ref sig .tc := ⟨.hbm, 761, rfl⟩
abbrev main_v619 : Ref sig .tc := ⟨.hbm, 762, rfl⟩
abbrev main_v620 : Ref sig .tc := ⟨.hbm, 763, rfl⟩
abbrev main_v621 : Ref sig .tc := ⟨.hbm, 764, rfl⟩
abbrev main_cst_127 : Ref sig .tc := ⟨.hbm, 765, rfl⟩
abbrev main_v622 : Ref sig .tc := ⟨.hbm, 766, rfl⟩
abbrev main_v623 : Ref sig .tc := ⟨.hbm, 767, rfl⟩
abbrev main_cst_128 : Ref sig .tc := ⟨.hbm, 768, rfl⟩
abbrev main_v624 : Ref sig .tc := ⟨.hbm, 769, rfl⟩
abbrev main_cst_129 : Ref sig .tc := ⟨.hbm, 770, rfl⟩
abbrev main_v625 : Ref sig .tc := ⟨.hbm, 771, rfl⟩
abbrev main_v626 : Ref sig .tc := ⟨.hbm, 772, rfl⟩
abbrev main_v627 : Ref sig .tc := ⟨.hbm, 773, rfl⟩
abbrev main_cst_130 : Ref sig .tc := ⟨.hbm, 774, rfl⟩
abbrev main_v628 : Ref sig .tc := ⟨.hbm, 775, rfl⟩
abbrev main_v629 : Ref sig .tc := ⟨.hbm, 776, rfl⟩
abbrev main_v630 : Ref sig .tc := ⟨.hbm, 777, rfl⟩
abbrev main_v631 : Ref sig .tc := ⟨.hbm, 778, rfl⟩
abbrev main_v632 : Ref sig .tc := ⟨.hbm, 779, rfl⟩
abbrev main_cst_131 : Ref sig .tc := ⟨.hbm, 780, rfl⟩
abbrev main_v633 : Ref sig .tc := ⟨.hbm, 781, rfl⟩
abbrev main_v634 : Ref sig .tc := ⟨.hbm, 782, rfl⟩
abbrev main_cst_132 : Ref sig .tc := ⟨.hbm, 783, rfl⟩
abbrev main_v635 : Ref sig .tc := ⟨.hbm, 784, rfl⟩
abbrev main_cst_133 : Ref sig .tc := ⟨.hbm, 785, rfl⟩
abbrev main_v636 : Ref sig .tc := ⟨.hbm, 786, rfl⟩
abbrev main_v637 : Ref sig .tc := ⟨.hbm, 787, rfl⟩
abbrev main_v638 : Ref sig .tc := ⟨.hbm, 788, rfl⟩
abbrev main_cst_134 : Ref sig .tc := ⟨.hbm, 789, rfl⟩
abbrev main_v639 : Ref sig .tc := ⟨.hbm, 790, rfl⟩
abbrev main_v640 : Ref sig .tc := ⟨.hbm, 791, rfl⟩
abbrev main_v641 : Ref sig .tc := ⟨.hbm, 792, rfl⟩
abbrev main_v642 : Ref sig .tc := ⟨.hbm, 793, rfl⟩
abbrev main_v643 : Ref sig .tc := ⟨.hbm, 794, rfl⟩
abbrev main_cst_135 : Ref sig .tc := ⟨.hbm, 795, rfl⟩
abbrev main_v644 : Ref sig .tc := ⟨.hbm, 796, rfl⟩
abbrev main_v645 : Ref sig .tc := ⟨.hbm, 797, rfl⟩
abbrev main_cst_136 : Ref sig .tc := ⟨.hbm, 798, rfl⟩
abbrev main_v646 : Ref sig .tc := ⟨.hbm, 799, rfl⟩
abbrev main_cst_137 : Ref sig .tc := ⟨.hbm, 800, rfl⟩
abbrev main_v647 : Ref sig .tc := ⟨.hbm, 801, rfl⟩
abbrev main_v648 : Ref sig .tc := ⟨.hbm, 802, rfl⟩
abbrev main_v649 : Ref sig .tc := ⟨.hbm, 803, rfl⟩
abbrev main_cst_138 : Ref sig .tc := ⟨.hbm, 804, rfl⟩
abbrev main_v650 : Ref sig .tc := ⟨.hbm, 805, rfl⟩
abbrev main_v651 : Ref sig .tc := ⟨.hbm, 806, rfl⟩
abbrev main_v652 : Ref sig .tc := ⟨.hbm, 807, rfl⟩
abbrev main_v653 : Ref sig .tc := ⟨.hbm, 808, rfl⟩
abbrev main_v654 : Ref sig .tc := ⟨.hbm, 809, rfl⟩
abbrev main_cst_139 : Ref sig .tc := ⟨.hbm, 810, rfl⟩
abbrev main_v655 : Ref sig .tc := ⟨.hbm, 811, rfl⟩
abbrev main_v656 : Ref sig .tc := ⟨.hbm, 812, rfl⟩
abbrev main_cst_140 : Ref sig .tc := ⟨.hbm, 813, rfl⟩
abbrev main_v657 : Ref sig .tc := ⟨.hbm, 814, rfl⟩
abbrev main_cst_141 : Ref sig .tc := ⟨.hbm, 815, rfl⟩
abbrev main_v658 : Ref sig .tc := ⟨.hbm, 816, rfl⟩
abbrev main_v659 : Ref sig .tc := ⟨.hbm, 817, rfl⟩
abbrev main_v660 : Ref sig .tc := ⟨.hbm, 818, rfl⟩
abbrev main_cst_142 : Ref sig .tc := ⟨.hbm, 819, rfl⟩
abbrev main_v661 : Ref sig .tc := ⟨.hbm, 820, rfl⟩
abbrev main_v662 : Ref sig .tc := ⟨.hbm, 821, rfl⟩
abbrev main_v663 : Ref sig .tc := ⟨.hbm, 822, rfl⟩
abbrev main_v664 : Ref sig .tc := ⟨.hbm, 823, rfl⟩
abbrev main_v665 : Ref sig .tc := ⟨.hbm, 824, rfl⟩
abbrev main_cst_143 : Ref sig .tc := ⟨.hbm, 825, rfl⟩
abbrev main_v666 : Ref sig .tc := ⟨.hbm, 826, rfl⟩
abbrev main_v667 : Ref sig .tc := ⟨.hbm, 827, rfl⟩
abbrev main_cst_144 : Ref sig .tc := ⟨.hbm, 828, rfl⟩
abbrev main_v668 : Ref sig .tc := ⟨.hbm, 829, rfl⟩
abbrev main_cst_145 : Ref sig .tc := ⟨.hbm, 830, rfl⟩
abbrev main_v669 : Ref sig .tc := ⟨.hbm, 831, rfl⟩
abbrev main_v670 : Ref sig .tc := ⟨.hbm, 832, rfl⟩
abbrev main_v671 : Ref sig .tc := ⟨.hbm, 833, rfl⟩
abbrev main_cst_146 : Ref sig .tc := ⟨.hbm, 834, rfl⟩
abbrev main_v672 : Ref sig .tc := ⟨.hbm, 835, rfl⟩
abbrev main_v673 : Ref sig .tc := ⟨.hbm, 836, rfl⟩
abbrev main_v674 : Ref sig .tc := ⟨.hbm, 837, rfl⟩
abbrev main_v675 : Ref sig .tc := ⟨.hbm, 838, rfl⟩
abbrev main_v676 : Ref sig .tc := ⟨.hbm, 839, rfl⟩
abbrev main_cst_147 : Ref sig .tc := ⟨.hbm, 840, rfl⟩
abbrev main_v677 : Ref sig .tc := ⟨.hbm, 841, rfl⟩
abbrev main_v678 : Ref sig .tc := ⟨.hbm, 842, rfl⟩
abbrev main_cst_148 : Ref sig .tc := ⟨.hbm, 843, rfl⟩
abbrev main_v679 : Ref sig .tc := ⟨.hbm, 844, rfl⟩
abbrev main_cst_149 : Ref sig .tc := ⟨.hbm, 845, rfl⟩
abbrev main_v680 : Ref sig .tc := ⟨.hbm, 846, rfl⟩
abbrev main_v681 : Ref sig .tc := ⟨.hbm, 847, rfl⟩
abbrev main_v682 : Ref sig .tc := ⟨.hbm, 848, rfl⟩
abbrev main_cst_150 : Ref sig .tc := ⟨.hbm, 849, rfl⟩
abbrev main_v683 : Ref sig .tc := ⟨.hbm, 850, rfl⟩
abbrev main_v684 : Ref sig .tc := ⟨.hbm, 851, rfl⟩
abbrev main_v685 : Ref sig .tc := ⟨.hbm, 852, rfl⟩
abbrev main_v686 : Ref sig .tc := ⟨.hbm, 853, rfl⟩
abbrev main_v687 : Ref sig .tc := ⟨.hbm, 854, rfl⟩
abbrev main_cst_151 : Ref sig .tc := ⟨.hbm, 855, rfl⟩
abbrev main_v688 : Ref sig .tc := ⟨.hbm, 856, rfl⟩
abbrev main_v689 : Ref sig .tc := ⟨.hbm, 857, rfl⟩
abbrev main_cst_152 : Ref sig .tc := ⟨.hbm, 858, rfl⟩
abbrev main_v690 : Ref sig .tc := ⟨.hbm, 859, rfl⟩
abbrev main_cst_153 : Ref sig .tc := ⟨.hbm, 860, rfl⟩
abbrev main_v691 : Ref sig .tc := ⟨.hbm, 861, rfl⟩
abbrev main_v692 : Ref sig .tc := ⟨.hbm, 862, rfl⟩
abbrev main_v693 : Ref sig .tc := ⟨.hbm, 863, rfl⟩
abbrev main_cst_154 : Ref sig .tc := ⟨.hbm, 864, rfl⟩
abbrev main_v694 : Ref sig .tc := ⟨.hbm, 865, rfl⟩
abbrev main_v695 : Ref sig .tc := ⟨.hbm, 866, rfl⟩
abbrev main_v696 : Ref sig .tc := ⟨.hbm, 867, rfl⟩
abbrev main_v697 : Ref sig .tc := ⟨.hbm, 868, rfl⟩
abbrev main_v698 : Ref sig .tc := ⟨.hbm, 869, rfl⟩
abbrev main_cst_155 : Ref sig .tc := ⟨.hbm, 870, rfl⟩
abbrev main_v699 : Ref sig .tc := ⟨.hbm, 871, rfl⟩
abbrev main_v700 : Ref sig .tc := ⟨.hbm, 872, rfl⟩
abbrev main_cst_156 : Ref sig .tc := ⟨.hbm, 873, rfl⟩
abbrev main_v701 : Ref sig .tc := ⟨.hbm, 874, rfl⟩
abbrev main_cst_157 : Ref sig .tc := ⟨.hbm, 875, rfl⟩
abbrev main_v702 : Ref sig .tc := ⟨.hbm, 876, rfl⟩
abbrev main_v703 : Ref sig .tc := ⟨.hbm, 877, rfl⟩
abbrev main_v704 : Ref sig .tc := ⟨.hbm, 878, rfl⟩
abbrev main_cst_158 : Ref sig .tc := ⟨.hbm, 879, rfl⟩
abbrev main_v705 : Ref sig .tc := ⟨.hbm, 880, rfl⟩
abbrev main_v706 : Ref sig .tc := ⟨.hbm, 881, rfl⟩
abbrev main_v707 : Ref sig .tc := ⟨.hbm, 882, rfl⟩
abbrev main_v708 : Ref sig .tc := ⟨.hbm, 883, rfl⟩
abbrev main_v709 : Ref sig .tc := ⟨.hbm, 884, rfl⟩
abbrev main_v710 : Ref sig .tc := ⟨.hbm, 885, rfl⟩
abbrev main_v711 : Ref sig .tc := ⟨.hbm, 886, rfl⟩
abbrev main_v712 : Ref sig .tc := ⟨.hbm, 887, rfl⟩
abbrev main_cst_159 : Ref sig .tc := ⟨.hbm, 888, rfl⟩
abbrev main_v713 : Ref sig .tc := ⟨.hbm, 889, rfl⟩
abbrev main_v714 : Ref sig .tc := ⟨.hbm, 890, rfl⟩
abbrev main_cst_160 : Ref sig .tc := ⟨.hbm, 891, rfl⟩
abbrev main_v715 : Ref sig .tc := ⟨.hbm, 892, rfl⟩
abbrev main_v716 : Ref sig .tc := ⟨.hbm, 893, rfl⟩
abbrev main_v717 : Ref sig .tc := ⟨.hbm, 894, rfl⟩
abbrev main_cst_161 : Ref sig .tc := ⟨.hbm, 895, rfl⟩
abbrev main_v718 : Ref sig .tc := ⟨.hbm, 896, rfl⟩
abbrev main_v719 : Ref sig .tc := ⟨.hbm, 897, rfl⟩
abbrev main_v720 : Ref sig .tc := ⟨.hbm, 898, rfl⟩
abbrev main_cst_162 : Ref sig .tc := ⟨.hbm, 899, rfl⟩
abbrev main_v721 : Ref sig .tc := ⟨.hbm, 900, rfl⟩
abbrev main_v722 : Ref sig .tc := ⟨.hbm, 901, rfl⟩
abbrev main_v723 : Ref sig .tc := ⟨.hbm, 902, rfl⟩
abbrev main_v724 : Ref sig .tc := ⟨.hbm, 903, rfl⟩
abbrev main_v725 : Ref sig .tc := ⟨.hbm, 904, rfl⟩
abbrev main_cst_163 : Ref sig .tc := ⟨.hbm, 905, rfl⟩
abbrev main_v726 : Ref sig .tc := ⟨.hbm, 906, rfl⟩
abbrev main_v727 : Ref sig .tc := ⟨.hbm, 907, rfl⟩
abbrev main_v728 : Ref sig .tc := ⟨.hbm, 908, rfl⟩
abbrev main_v729 : Ref sig .tc := ⟨.hbm, 909, rfl⟩
abbrev main_cst_164 : Ref sig .tc := ⟨.hbm, 910, rfl⟩
abbrev main_v730 : Ref sig .tc := ⟨.hbm, 911, rfl⟩
abbrev main_v731 : Ref sig .tc := ⟨.hbm, 912, rfl⟩
abbrev main_cst_165 : Ref sig .tc := ⟨.hbm, 913, rfl⟩
abbrev main_v732 : Ref sig .tc := ⟨.hbm, 914, rfl⟩
abbrev main_v733 : Ref sig .tc := ⟨.hbm, 915, rfl⟩
abbrev main_v734 : Ref sig .tc := ⟨.hbm, 916, rfl⟩
abbrev main_v735 : Ref sig .tc := ⟨.hbm, 917, rfl⟩
abbrev main_v736 : Ref sig .tc := ⟨.hbm, 918, rfl⟩
abbrev main_cst_166 : Ref sig .tc := ⟨.hbm, 919, rfl⟩
abbrev main_v737 : Ref sig .tc := ⟨.hbm, 920, rfl⟩
abbrev main_v738 : Ref sig .tc := ⟨.hbm, 921, rfl⟩
abbrev main_cst_167 : Ref sig .tc := ⟨.hbm, 922, rfl⟩
abbrev main_v739 : Ref sig .tc := ⟨.hbm, 923, rfl⟩
abbrev main_v740 : Ref sig .tc := ⟨.hbm, 924, rfl⟩
abbrev main_v741 : Ref sig .tc := ⟨.hbm, 925, rfl⟩
abbrev main_v742 : Ref sig .tc := ⟨.hbm, 926, rfl⟩
abbrev main_v743 : Ref sig .tc := ⟨.hbm, 927, rfl⟩
abbrev main_v744 : Ref sig .tc := ⟨.hbm, 928, rfl⟩
abbrev main_v745 : Ref sig .tc := ⟨.hbm, 929, rfl⟩
abbrev main_v746 : Ref sig .tc := ⟨.hbm, 930, rfl⟩
abbrev main_v747 : Ref sig .tc := ⟨.hbm, 931, rfl⟩
abbrev main_v748 : Ref sig .tc := ⟨.hbm, 932, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1x1024 : Shape := ⟨2, ![1, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S_ : Shape := ⟨0, ![]⟩
abbrev S4096x5632 : Shape := ⟨2, ![4096, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 14
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x5632, .f32⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S4x1024x1408, .bf16⟩
  | .local _ .vmem, ⟨6, _⟩ => ⟨S512x5632, .f32⟩
  | .local _ .vmem, ⟨7, _⟩ => ⟨S512x5632, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4096x1024 : Shape := ⟨2, ![4096, 1024]⟩
abbrev S1024 : Shape := ⟨1, ![1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S4096x1024, .f32⟩
  | .hbm, ⟨9, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel7.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S1024x4096, .f32⟩
  | .hbm, ⟨4, _⟩ => ⟨S4096x5632, .f32⟩
  | .hbm, ⟨5, _⟩ => ⟨S1024x5632, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel8.lean ====
abbrev S1024x8 : Shape := ⟨2, ![1024, 8]⟩
abbrev S2x8x1536 : Shape := ⟨3, ![2, 8, 1536]⟩
abbrev S2x1024x1536 : Shape := ⟨3, ![2, 1024, 1536]⟩
abbrev S128x8 : Shape := ⟨2, ![128, 8]⟩
abbrev S1x8x1536 : Shape := ⟨3, ![1, 8, 1536]⟩
abbrev S1x128x1536 : Shape := ⟨3, ![1, 128, 1536]⟩
abbrev S8x1536 : Shape := ⟨2, ![8, 1536]⟩
abbrev S128x1 : Shape := ⟨2, ![128, 1]⟩
abbrev S1x1536 : Shape := ⟨2, ![1, 1536]⟩
abbrev S128x1536 : Shape := ⟨2, ![128, 1536]⟩

abbrev nBuf : Space → Nat
  | .hbm => 9
  | .vmem => 18
  | .smem => 0
  | _ => 0

abbrev bufTy : (tb : Table) → Fin (tcTables nBuf tb) → BufTy
  | .hbm, ⟨0, _⟩ => ⟨S1024x8, .f32⟩
  | .hbm, ⟨1, _⟩ => ⟨S2x8x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S2x1024x1536, .f32⟩
  | .hbm, ⟨6, _⟩ => ⟨S2x1024x1536, .f32⟩
  | .hbm, ⟨7, _⟩ => ⟨S2x1024x1536, .f32⟩
  | .hbm, ⟨8, _⟩ => ⟨S2x1024x1536, .f32⟩
  | .local _ .vmem, ⟨0, _⟩ => ⟨S128x8, .f32⟩
  | .local _ .vmem, ⟨1, _⟩ => ⟨S128x8, .f32⟩
  | .local _ .vmem, ⟨2, _⟩ => ⟨S1x8x1536, .f32⟩
  | .local _ .vmem, ⟨3, _⟩ => ⟨S1x8x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | .local _ .vmem, ⟨16, _⟩ => ⟨S1x128x1536, .f32⟩
  | .local _ .vmem, ⟨17, _⟩ => ⟨S1x128x1536, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S1024x8 : Shape := ⟨2, ![1024, 8]⟩
abbrev S2x8x1536 : Shape := ⟨3, ![2, 8, 1536]⟩
abbrev S2x1024x1536 : Shape := ⟨3, ![2, 1024, 1536]⟩
abbrev S1024x2x1536 : Shape := ⟨3, ![1024, 2, 1536]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S2x8x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S1024x2x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S_, .f32⟩
  | .hbm, ⟨11, _⟩ => ⟨S2x1024x1536, .f32⟩
  | .hbm, ⟨12, _⟩ => ⟨S2x1024x1536, .f32⟩
  | .hbm, ⟨13, _⟩ => ⟨S2x1024x1536, .f32⟩
  | .hbm, ⟨14, _⟩ => ⟨S_, .f32⟩
  | .hbm, ⟨15, _⟩ => ⟨S2x1024x1536, .f32⟩
  | .hbm, ⟨16, _⟩ => ⟨S2x1024x1536, .f32⟩
  | .hbm, ⟨17, _⟩ => ⟨S2x1024x1536, .f32⟩
  | .hbm, ⟨18, _⟩ => ⟨S_, .f32⟩
  | .hbm, ⟨19, _⟩ => ⟨S2x1024x1536, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S_, .f32⟩
  | .hbm, ⟨26, _⟩ => ⟨S2x1024x1536, .f32⟩
  | .hbm, ⟨27, _⟩ => ⟨S2x1024x1536, .f32⟩
  | .hbm, ⟨28, _⟩ => ⟨S2x1024x1536, .f32⟩
  | .hbm, ⟨29, _⟩ => ⟨S_, .f32⟩
  | .hbm, ⟨30, _⟩ => ⟨S2x1024x1536, .f32⟩
  | .hbm, ⟨31, _⟩ => ⟨S2x1024x1536, .f32⟩
  | .hbm, ⟨32, _⟩ => ⟨S2x1024x1536, .f32⟩
  | .hbm, ⟨33, _⟩ => ⟨S_, .f32⟩
  | .hbm, ⟨34, _⟩ => ⟨S2x1024x1536, .f32⟩
  | .hbm, ⟨35, _⟩ => ⟨S2x1024x1536, .f32⟩
  | .hbm, ⟨36, _⟩ => ⟨S2x1024x1536, .f32⟩
  | .hbm, ⟨37, _⟩ => ⟨S_, .f32⟩
  | .hbm, ⟨38, _⟩ => ⟨S2x1024x1536, .f32⟩
  | .hbm, ⟨39, _⟩ => ⟨S2x1024x1536, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S2x1024x1408 : Shape := ⟨3, ![2, 1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S2x1024x1408 : Shape := ⟨3, ![2, 1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S_, .f32⟩
  | .hbm, ⟨7, _⟩ => ⟨S2x1024x1408, .f32⟩
  | .hbm, ⟨8, _⟩ => ⟨S2x1024x1408, .f32⟩
  | .hbm, ⟨9, _⟩ => ⟨S_, .f32⟩
  | .hbm, ⟨10, _⟩ => ⟨S2x1024x1408, .f32⟩
  | .hbm, ⟨11, _⟩ => ⟨S2x1024x1408, .f32⟩
  | .hbm, ⟨12, _⟩ => ⟨S2x1024x1408, .f32⟩
  | .hbm, ⟨13, _⟩ => ⟨S_, .f32⟩
  | .hbm, ⟨14, _⟩ => ⟨S2x1024x1408, .f32⟩
  | .hbm, ⟨15, _⟩ => ⟨S2x1024x1408, .f32⟩
  | .hbm, ⟨16, _⟩ => ⟨S2x1024x1408, .f32⟩
  | .hbm, ⟨17, _⟩ => ⟨S_, .f32⟩
  | .hbm, ⟨18, _⟩ => ⟨S2x1024x1408, .f32⟩
  | .hbm, ⟨19, _⟩ => ⟨S2x1024x1408, .f32⟩
  | .hbm, ⟨20, _⟩ => ⟨S2x1024x1408, .f32⟩
  | .hbm, ⟨21, _⟩ => ⟨S_, .f32⟩
  | .hbm, ⟨22, _⟩ => ⟨S2x1024x1408, .f32⟩
  | .hbm, ⟨23, _⟩ => ⟨S2x1024x1408, .f32⟩
  | .hbm, ⟨24, _⟩ => ⟨S_, .f32⟩
  | .hbm, ⟨25, _⟩ => ⟨S2x1024x1408, .f32⟩
  | .hbm, ⟨26, _⟩ => ⟨S2x1024x1408, .f32⟩
  | .hbm, ⟨27, _⟩ => ⟨S2x1024x1408, .f32⟩
  | .hbm, ⟨28, _⟩ => ⟨S_, .f32⟩
  | .hbm, ⟨29, _⟩ => ⟨S2x1024x1408, .f32⟩
  | .hbm, ⟨30, _⟩ => ⟨S2x1024x1408, .f32⟩
  | .hbm, ⟨31, _⟩ => ⟨S2x1024x1408, .f32⟩
  | .hbm, ⟨32, _⟩ => ⟨S_, .f32⟩
  | .hbm, ⟨33, _⟩ => ⟨S2x1024x1408, .f32⟩
  | .hbm, ⟨34, _⟩ => ⟨S2x1024x1408, .f32⟩
  | .hbm, ⟨35, _⟩ => ⟨S2x1024x1408, .f32⟩
  | .hbm, ⟨36, _⟩ => ⟨S_, .f32⟩
  | .hbm, ⟨37, _⟩ => ⟨S2x1024x1408, .f32⟩
  | .hbm, ⟨38, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S4x1024x1408 : Shape := ⟨3, ![4, 1024, 1408]⟩
abbrev S2x1024x1408 : Shape := ⟨3, ![2, 1024, 1408]⟩
abbrev S4x256x1408 : Shape := ⟨3, ![4, 256, 1408]⟩
abbrev S1x256x1408 : Shape := ⟨3, ![1, 256, 1408]⟩
abbrev S256x1408 : Shape := ⟨2, ![256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .bf16⟩
  | .hbm, ⟨2, _⟩ => ⟨S2x1024x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S4x256x1408, .bf16⟩
  | .local _ .vmem, ⟨3, _⟩ => ⟨S4x256x1408, .bf16⟩
  | .local _ .vmem, ⟨4, _⟩ => ⟨S1x256x1408, .f32⟩
  | .local _ .vmem, ⟨5, _⟩ => ⟨S1x256x1408, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c3_i32 : BitVec 32 := 3#32
  let v2 : BitVec 32 := Scalar.select v1 c3_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c3_i32 : BitVec 32 := 3#32
  let v2 : BitVec 32 := Scalar.select v1 c3_i32 arg1
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4x1024x1408 : Shape := ⟨3, ![4, 1024, 1408]⟩
abbrev S_ : Shape := ⟨0, ![]⟩
abbrev S1024x1408 : Shape := ⟨2, ![1024, 1408]⟩
abbrev S1x1024x1408 : Shape := ⟨3, ![1, 1024, 1408]⟩
abbrev S2x1024x1408 : Shape := ⟨3, ![2, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .bf16⟩
  | .hbm, ⟨2, _⟩ => ⟨S4x1024x1408, .f32⟩
  | .hbm, ⟨3, _⟩ => ⟨S_, .f32⟩
  | .hbm, ⟨4, _⟩ => ⟨S1024x1408, .f32⟩
  | .hbm, ⟨5, _⟩ => ⟨S4x1024x1408, .f32⟩
  | .hbm, ⟨6, _⟩ => ⟨S_, .f32⟩
  | .hbm, ⟨7, _⟩ => ⟨S1024x1408, .f32⟩
  | .hbm, ⟨8, _⟩ => ⟨S1x1024x1408, .f32⟩
  | .hbm, ⟨9, _⟩ => ⟨S1x1024x1408, .f32⟩
  | .hbm, ⟨10, _⟩ => ⟨S2x1024x1408, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Lift.lean ====
/- Shared by the value proofs: arrays of finite extended reals as arrays of reals, and the operations of the programs
   on them as the operations of the reals. -/
module

public import Idealize.ShloMosaic.PureOps.Ideal
public import Idealize.ShloMosaic.PureOps.Ideal.Laws
public import Idealize.ShloMosaic.Lib.Pointwise
public import Idealize.ShloMosaic.Lib.IdealHost

@[expose] public section

noncomputable section

namespace Cert.Lift

open Idealize.ShloMosaic

/-- A quotient of reals by a real that is not zero. -/
theorem div_coe' {a b : ℝ} (h : b ≠ 0) : Ideal.div (a : EReal) (b : EReal) = ((a / b : ℝ) : EReal) := by
  rw [Ideal.div_coe h, ← EReal.coe_mul, mul_one_div]

/-- The reciprocal square root of a positive real. -/
theorem rsqrt_coe' {a : ℝ} (h : 0 < a) : Ideal.rsqrt (a : EReal) = (((Real.sqrt a)⁻¹ : ℝ) : EReal) := by
  rw [Ideal.rsqrt_coe, if_neg (not_lt.mpr h.le), if_neg h.ne']

/-- A finite sum of reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- `|x| < ∞` says that `x` is a real. -/
theorem exists_real {x : EReal} (h : max x (-x) < ⊤) : ∃ r : ℝ, x = r := by
  induction x with
  | bot => simp at h
  | top => simp at h
  | coe r => exact ⟨r, rfl⟩

theorem ofBits_inf : Ideal.ofBits .f32 0x7F800000#32 = ⊤ := by simp [Ideal.ofBits, Ideal.ieee]

/-- An array of reals as an array of extended reals. -/
abbrev up {S : Shape} (X : S.Idx → ℝ) : S.Idx → EReal := fun i => ((X i : ℝ) : EReal)

/-- An array each of whose entries passes the test `|x| < ∞` is an array of reals. -/
theorem exists_reals {S : Shape} {x : FVec Ideal S .f32} {inf : FVec Ideal S .f32} (hi : ∀ i, inf i = ⊤)
    (h : cmpf .olt (Host.absf x) inf = fun _ => 1#1) : ∃ X : S.Idx → ℝ, x = up X := by
  have h' : ∀ i, ∃ r : ℝ, x i = r := fun i => exists_real (by
    have := congrFun h i
    pointwise [hi] at this
    replace this : BitVec.ofBool (decide (max (x i) (-x i) < ⊤)) = 1#1 := this
    by_contra hn
    rw [decide_eq_false hn] at this
    exact absurd this (by decide))
  exact ⟨fun i => (h' i).choose, funext fun i => (h' i).choose_spec⟩

/-- The number of columns as a word. -/
theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The norms' ε: the rational of the word of `1e-6`. -/
def eps : ℝ := 8796093 / 2 ^ 43

theorem eps_pos : 0 < eps := by unfold eps; positivity

theorem ofBits_eps : Ideal.ofBits .f32 0x358637BD#32 = ((eps : ℝ) : EReal) := by
  simp [Ideal.ofBits, Ideal.ieee, eps, -EReal.coe_mul]; norm_num

end Cert.Lift

end
-- ==== Proof.ResidBwdRef.lean ====
/- The gradients of the output product, the post-norm and the gate as the reference computes them, in the reals. With
   `o = a @ w`, `m r` the mean of the squares of row `r` of `o` plus the norm's constant, and
   `t = dx * gate * gpost`, the gradient of `o` is `D`: what differentiating the norm gives and what the kernel computes
   directly are the same real number. -/
module

public import proofs.«01_k».proof.Defs
public import proofs.«01_k».proof.Proof.Lift
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Claim
public import Idealize.ShloMosaic.Lib.Pointwise

@[expose] public section

set_option maxRecDepth 16384

noncomputable section

namespace Cert.ResidBwd

open Cert.KernelIdeal Cert.KernelIdeal.Gen Idealize.ShloMosaic Idealize.ShloMosaic.TcCoe Idealize.SL.Sem Cert.Lift
open Idealize.ShloMosaic.Pipeline (Dat)

variable (X0 : S4096x1024.Idx → ℝ) (X1 : S4096x2816.Idx → ℝ) (X2 : S2816x1024.Idx → ℝ) (X3 : S1x1024.Idx → ℝ) (X4 : S1024.Idx → ℝ)

/-- The output product. -/
def O (r : Fin 4096) (k : Fin 1024) : ℝ := ∑ l : Fin 2816, X1 (ix2 r l) * X2 (ix2 l k)
/-- The mean of a row's squares, plus the norm's constant. -/
def M (r : Fin 4096) : ℝ := (∑ k, O X1 X2 r k * O X1 X2 r k) / 1024 + eps
/-- The cotangent of the normalised row. -/
def T (r : Fin 4096) (k : Fin 1024) : ℝ := X0 (ix2 r k) * X3 (ix2 0 k) * X4 (ix1 k)
theorem M_pos (r) : 0 < M X1 X2 r := by
  have := eps_pos
  have : 0 ≤ ∑ k, O X1 X2 r k * O X1 X2 r k := Finset.sum_nonneg fun k _ => mul_self_nonneg _
  unfold M; positivity
/-- The gradient of `o`. -/
def D (r : Fin 4096) (k : Fin 1024) : ℝ :=
  (√(M X1 X2 r))⁻¹ * (T X0 X3 X4 r k - O X1 X2 r k * (√(M X1 X2 r))⁻¹ * ((∑ j, T X0 X3 X4 r j * (O X1 X2 r j * (√(M X1 X2 r))⁻¹)) / 1024))

open ReferenceIdeal.Read in
theorem ref_o (r k) : val_main_v0 (F := Ideal) (up X1) (up X2) (ix2 r k) = O X1 X2 r k := by
  rw [val_main_v0_apply]
  simp only [up, ← EReal.coe_mul, sum_coe]
  congr 1
  refine Finset.sum_congr rfl fun l _ => ?_
  congr 1 <;> blk_ext []

open ReferenceIdeal.Read in
theorem ref_m (r z) : val_main_v7 (F := Ideal) (up X1) (up X2) (ix2 r z) = M X1 X2 r := by
  pointwise [val_main_v7, val_main_v6, val_main_v5, val_main_v4, val_main_v3, val_main_v2, val_main_v1, val_main_cst, val_main_cst_0, val_main_cst_1,
    ref_o X1 X2, ofBits_1024, ofBits_eps, ← EReal.coe_mul, sum_coe]
  rw [div_coe' (by norm_num), ← EReal.coe_add]; rfl

open ReferenceIdeal.Read in
theorem ref_d (r k) : val_main_v43 (F := Ideal) (up X0) (up X1) (up X2) (up X3) (up X4) (ix2 r k) = D X0 X1 X2 X3 X4 r k := by
  pointwise [val_main_v43, val_main_v42, val_main_v41, val_main_v40, val_main_v39, val_main_v38, val_main_v37, val_main_v36, val_main_v35, val_main_v34, val_main_v33,
    val_main_v32, val_main_v31, val_main_v30, val_main_v28, val_main_v27, val_main_v20, val_main_v19, val_main_v14, val_main_v11, val_main_v10, val_main_v9, val_main_v8, val_main_cst_2, val_main_cst_6, val_main_cst_7, val_main_cst_8, ref_m X1 X2,
    ref_o X1 X2, ofBits_1024, ofBits_neg_half, ← EReal.coe_mul, sum_coe]
  have hM := M_pos X1 X2 r
  simp only [rsqrt_coe' hM, div_coe' hM.ne', div_coe' (by norm_num : (1024 : ℝ) ≠ 0), ← EReal.coe_mul, ← EReal.coe_add, sum_coe, Finset.univ_unique, Finset.sum_singleton]
  congr 1
  have e : ∑ j, T X0 X3 X4 r j * (O X1 X2 r j * (√(M X1 X2 r))⁻¹) = (√(M X1 X2 r))⁻¹ * ∑ i, O X1 X2 r i * (X3 (ix2 0 i) * X0 (ix2 r i) * X4 (ix1 i)) := by
    rw [Finset.mul_sum]
    exact Finset.sum_congr rfl fun j _ => by unfold T; ring
  unfold D
  rw [e]
  unfold T
  have hs := Real.mul_self_sqrt hM.le
  have hp := Real.sqrt_pos.mpr hM
  generalize M X1 X2 r = m at *
  generalize √m = s at *
  subst hs
  field_simp
  ring

open ReferenceIdeal.Read in
theorem ref_dg (z k) : val_main_v23 (F := Ideal) (up X0) (up X1) (up X2) (up X4) (ix2 z k) = ((∑ r, X0 (ix2 r k) * (O X1 X2 r k * (√(M X1 X2 r))⁻¹ * X4 (ix1 k)) : ℝ) : EReal) := by
  pointwise [val_main_v23, val_main_v22, val_main_v21, val_main_v16, val_main_v15, val_main_v14, val_main_v13, val_main_v12, val_main_v8, val_main_cst_3, ref_m X1 X2, ref_o X1 X2, fun r => rsqrt_coe' (M_pos X1 X2 r), ← EReal.coe_mul, sum_coe]

open ReferenceIdeal.Read in
theorem ref_dgp (z k) : val_main_v46 (F := Ideal) (up X0) (up X1) (up X2) (up X3) (ix2 z k) = ((∑ r, (O X1 X2 r k * (√(M X1 X2 r))⁻¹) * (X3 (ix2 0 k) * X0 (ix2 r k)) : ℝ) : EReal) := by
  pointwise [val_main_v46, val_main_v29, val_main_v26, val_main_v25, val_main_v24, val_main_v20, val_main_v19, val_main_v13, val_main_v12, val_main_v8, val_main_cst_4, val_main_cst_5, ref_m X1 X2, ref_o X1 X2, fun r => rsqrt_coe' (M_pos X1 X2 r), ← EReal.coe_mul, sum_coe, Finset.univ_unique, Finset.sum_singleton]

open ReferenceIdeal.Read in
theorem ref_da (r l) : val_main_v45 (F := Ideal) (up X0) (up X1) (up X2) (up X3) (up X4) (ix2 r l) = ((∑ k, D X0 X1 X2 X3 X4 r k * X2 (ix2 l k) : ℝ) : EReal) := by
  pointwise [val_main_v45, ref_d X0 X1 X2 X3 X4, ← EReal.coe_mul, sum_coe]

end Cert.ResidBwd
end
-- ==== Proof.ResidBwd.lean ====
/- What the kernel leaves in its four results is what the reference leaves: the gradients of the product's rows (`out5`)
   and of its left operand (`out6`), and the sums over all rows for the gate (`out7`) and the post-norm's weight (`out8`). -/
module

public import proofs.«01_k».proof.Defs
public import proofs.«01_k».proof.Proof.ResidBwdRef
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Claim
public import Idealize.ShloMosaic.Lib.Pointwise

@[expose] public section

set_option maxRecDepth 16384

noncomputable section

namespace Cert.ResidBwd

open Cert.KernelIdeal Cert.KernelIdeal.Gen Idealize.ShloMosaic Idealize.ShloMosaic.TcCoe Idealize.SL.Sem Cert.Lift
open Idealize.ShloMosaic.Pipeline (Dat)

variable (X0 : S4096x1024.Idx → ℝ) (X1 : S4096x2816.Idx → ℝ) (X2 : S2816x1024.Idx → ℝ) (X3 : S1x1024.Idx → ℝ) (X4 : S1024.Idx → ℝ)

variable (m : (ℓ : Loc nD τ sig) → Buf (Elt Ideal) ℓ) (c : Dev nD)

/-- Row `a` of block `t`. -/
def row (t : Fin 8) (a : Fin 512) : Fin 4096 := ⟨t.val * 512 + a.val, by omega⟩

/-- The rows, block by block, are all the rows. -/
theorem sum_rows (f : Fin 4096 → ℝ) : ∑ p, ∑ a, f (row p a) = ∑ r, f r := by
  rw [← Fintype.sum_prod_type']
  exact Fintype.sum_equiv (finProdFinEquiv (m := 8) (n := 512)) _ _ fun x => congrArg f (Fin.ext (Nat.add_comm _ _ |>.trans (congrArg _ (Nat.mul_comm _ _))))

/-- The blocks' places. -/
theorem idx : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] := by decide +kernel

/-- The arguments are the reals `X0` … `X4`. -/
structure Args : Prop where
  h0 : m ((c.tc : Thread nD τ).loc main_arg0) = up X0
  h1 : m ((c.tc : Thread nD τ).loc main_arg1) = up X1
  h2 : m ((c.tc : Thread nD τ).loc main_arg2) = up X2
  h3 : m ((c.tc : Thread nD τ).loc main_arg3) = up X3
  h4 : m ((c.tc : Thread nD τ).loc main_arg4) = up X4

variable (H : Args X0 X1 X2 X3 X4 m c)
include H

/-! What each block of the kernel's operands holds. -/

theorem b0 (t : Fin 8) (a k) : iblk m c 0 t (ix2 a k) = ((X0 (ix2 (row t a) k) : ℝ) : EReal) := by
  rw [show ((X0 (ix2 (row t a) k) : ℝ) : EReal) = _ from (congrFun H.h0 (ix2 (row t a) k)).symm]
  blk_ext [iblk, V, idx t, row]

theorem b1 (t : Fin 8) (a k) : iblk m c 1 t (ix2 a k) = ((O X1 X2 (row t a) k : ℝ) : EReal) := by
  rw [← ref_o]
  blk_simp [iblk, V]
  entry_read
  rw [show m (c, Proc.tc.devRef main_arg1) = up X1 from H.h1, show m (c, Proc.tc.devRef main_arg2) = up X2 from H.h2]
  refine congrArg (ReferenceIdeal.Read.val_main_v0 (F := Ideal) (up X1) (up X2)) ?_
  blk_ext [idx t, row]

theorem b2 (t : Fin 8) (z k) : iblk m c 2 t (ix2 z k) = ((X3 (ix2 0 k) : ℝ) : EReal) := by
  rw [show ((X3 (ix2 0 k) : ℝ) : EReal) = _ from (congrFun H.h3 (ix2 0 k)).symm]
  blk_ext [iblk, V, idx t]

theorem b3 (t : Fin 8) (z k) : iblk m c 3 t (ix2 z k) = ((X4 (ix1 k) : ℝ) : EReal) := by
  rw [show ((X4 (ix1 k) : ℝ) : EReal) = _ from (congrFun H.h4 (ix1 k)).symm]
  blk_simp [iblk, V]
  entry_read
  pointwise
  blk_ext [idx t]

theorem b4 (t : Fin 8) (l k) : iblk m c 4 t (ix2 l k) = ((X2 (ix2 l k) : ℝ) : EReal) := by
  rw [show ((X2 (ix2 l k) : ℝ) : EReal) = _ from (congrFun H.h2 (ix2 l k)).symm]
  blk_simp [iblk, V]
  entry_read
  pointwise
  blk_ext [idx t]

/-- A block of the rows' gradient. -/
theorem pay_do (t : Fin 8) (a k) : k0_pay1 (F := Ideal) (k0_pay6 (iblk m c 1 t)) (k0_pay7 (iblk m c 1 t)) (k0_pay9 (iblk m c 0 t) (iblk m c 2 t)) (iblk m c 3 t) (ix2 a k)
    = (D X0 X1 X2 X3 X4 (row t a) k : ℝ) := by
  have hM := M_pos X1 X2 (row t a)
  unfold_payloads
  pointwise [b0 X0 X1 X2 X3 X4 m c H, b1 X0 X1 X2 X3 X4 m c H, b2 X0 X1 X2 X3 X4 m c H, b3 X0 X1 X2 X3 X4 m c H, ofBits_1024, ofBits_eps, ← EReal.coe_mul, sum_coe]
  rw [div_coe' (by norm_num), ← EReal.coe_add]
  change Ideal.rsqrt ((M X1 X2 (row t a) : ℝ) : EReal) * (_ - _ * Ideal.rsqrt ((M X1 X2 (row t a) : ℝ) : EReal) * Ideal.div (∑ x, _ * (_ * Ideal.rsqrt ((M X1 X2 (row t a) : ℝ) : EReal))) _) = _
  simp only [rsqrt_coe' hM, ← EReal.coe_mul, sum_coe, div_coe' (by norm_num : (1024 : ℝ) ≠ 0), ← EReal.coe_sub]
  rfl

/-- A block's part of the gate's gradient. -/
theorem term_dg (acc : FVec Ideal S1x1024 .f32) (t : Fin 8) (z k) : k0_pay8 (F := Ideal) (iblk m c 0 t) (iblk m c 1 t) acc (iblk m c 3 t) (ix2 z k)
    = acc (ix2 z k) + ((∑ a, X0 (ix2 (row t a) k) * (O X1 X2 (row t a) k * (√(M X1 X2 (row t a)))⁻¹ * X4 (ix1 k)) : ℝ) : EReal) := by
  have hr : ∀ a, Ideal.rsqrt (((∑ i, O X1 X2 (row t a) i * O X1 X2 (row t a) i) / 1024 + eps : ℝ) : EReal) = _ := fun a => rsqrt_coe' (M_pos X1 X2 (row t a))
  unfold_payloads
  pointwise [b0 X0 X1 X2 X3 X4 m c H, b1 X0 X1 X2 X3 X4 m c H, b3 X0 X1 X2 X3 X4 m c H, ofBits_1024, ofBits_eps, ← EReal.coe_mul, sum_coe,
    div_coe' (by norm_num : (1024 : ℝ) ≠ 0), ← EReal.coe_add, hr]
  rfl

/-- A block's part of the weight's gradient. -/
theorem term_dgp (acc : FVec Ideal S1x1024 .f32) (t : Fin 8) (z k) : k0_pay10 (F := Ideal) (iblk m c 0 t) (iblk m c 1 t) (iblk m c 2 t) acc (ix2 z k)
    = acc (ix2 z k) + ((∑ a, X0 (ix2 (row t a) k) * X3 (ix2 0 k) * (O X1 X2 (row t a) k * (√(M X1 X2 (row t a)))⁻¹) : ℝ) : EReal) := by
  have hr : ∀ a, Ideal.rsqrt (((∑ i, O X1 X2 (row t a) i * O X1 X2 (row t a) i) / 1024 + eps : ℝ) : EReal) = _ := fun a => rsqrt_coe' (M_pos X1 X2 (row t a))
  unfold_payloads
  pointwise [b0 X0 X1 X2 X3 X4 m c H, b1 X0 X1 X2 X3 X4 m c H, b2 X0 X1 X2 X3 X4 m c H, ofBits_1024, ofBits_eps, ← EReal.coe_mul, sum_coe,
    div_coe' (by norm_num : (1024 : ℝ) ≠ 0), ← EReal.coe_add, hr]
  rfl

theorem out5 : (dats m 0 c).arrAt 5 (cfgs 0).N = ReferenceIdeal.Read.val_main_v44 (F := Ideal) (up X0) (up X1) (up X2) (up X3) (up X4) := by
  refine (dats m 0 c).arrAt_eq_of_covers 5 _ (by decide +kernel) fun t hf y => ?_
  have e : (((cfgs 0).win 5).blk t).view.emb y = ix2 (row t (y 0)) (y 1) := by blk_ext [idx t, row]
  rw [e]
  refine Eq.trans ?_ ((pay_do X0 X1 X2 X3 X4 m c H t (y 0) (y 1)).trans (ref_d X0 X1 X2 X3 X4 _ _).symm)
  blk_simp
  rw [after0_5]
  by_cases h : t.val % 8 = 0
  · rw [outsAt0_A m c t h]
    frame_out
    refine congrArg _ ?_
    blk_ext []
  · rw [outsAt0_B m c t h]
    frame_out
    refine congrArg _ ?_
    blk_ext []

/-- A block of the left operand's gradient. -/
theorem pay_da (t : Fin 8) (a l) : k0_pay2 (F := Ideal) (k0_pay6 (iblk m c 1 t)) (k0_pay7 (iblk m c 1 t)) (k0_pay9 (iblk m c 0 t) (iblk m c 2 t)) (iblk m c 3 t) (iblk m c 4 t) (ix2 a l)
    = ((∑ k, D X0 X1 X2 X3 X4 (row t a) k * X2 (ix2 l k) : ℝ) : EReal) := by
  unfold k0_pay2
  pointwise [pay_do X0 X1 X2 X3 X4 m c H, b4 X0 X1 X2 X3 X4 m c H, ← EReal.coe_mul, sum_coe]

theorem out6 : (dats m 0 c).arrAt 6 (cfgs 0).N = ReferenceIdeal.Read.val_main_v45 (F := Ideal) (up X0) (up X1) (up X2) (up X3) (up X4) := by
  refine (dats m 0 c).arrAt_eq_of_covers 6 _ (by decide +kernel) fun t hf y => ?_
  have e : (((cfgs 0).win 6).blk t).view.emb y = ix2 (row t (y 0)) (y 1) := by blk_ext [idx t, row]
  rw [e]
  refine Eq.trans ?_ ((pay_da X0 X1 X2 X3 X4 m c H t (y 0) (y 1)).trans (ref_da X0 X1 X2 X3 X4 _ _).symm)
  blk_simp
  rw [after0_6]
  by_cases h : t.val % 8 = 0
  · rw [outsAt0_A m c t h]
    frame_out
    refine congrArg _ ?_
    blk_ext []
  · rw [outsAt0_B m c t h]
    frame_out
    refine congrArg _ ?_
    blk_ext []

theorem out7 : (dats m 0 c).arrAt 7 (cfgs 0).N = ReferenceIdeal.Read.val_main_v23 (F := Ideal) (up X0) (up X1) (up X2) (up X4) := by
  refine (dats m 0 c).arrAt_eq_of_after_last 7 t0_7 (by decide +kernel) _ fun j => ?_
  have e : (cfg0.win 7).arr.view.emb j = ix2 (j 0) (j 1) := by blk_ext []
  rw [e]
  refine Eq.trans ?_ (ref_dg X0 X1 X2 X4 _ _).symm
  blk_simp
  rw [after0_7]
  refine (Pipeline.eq_sum_fin_of_reset_step_apply_last (fun n h => (outsAt0 m c n h).2.2.1) 8 (fun _ => (0 : EReal))
    (fun t j => ((∑ a, X0 (ix2 (row t a) (j 1)) * (O X1 X2 (row t a) (j 1) * (√(M X1 X2 (row t a)))⁻¹ * X4 (ix1 (j 1))) : ℝ) : EReal)) ?_ ?_ (by decide) t0_7 rfl j).trans ?_
  · intro t h j
    have ej : j = ix2 (j 0) (j 1) := by blk_ext []
    rw [outsAt0_A m c t h]
    frame_out
    refine (congrArg _ ej).trans ((term_dg X0 X1 X2 X3 X4 m c H _ t (j 0) (j 1)).trans (congrArg (· + _) ?_))
    unfold k0_pay3
    pointwise
  · intro t h j
    have ej : j = ix2 (j 0) (j 1) := by blk_ext []
    rw [outsAt0_B m c t h]
    frame_out
    exact (congrArg _ ej).trans ((term_dg X0 X1 X2 X3 X4 m c H _ t (j 0) (j 1)).trans (congrArg (· + _) (congrArg _ ej.symm)))
  · rw [sum_coe, zero_add]
    refine congrArg _ (Eq.trans ?_ (sum_rows _))
    rfl

theorem out8 : (dats m 0 c).arrAt 8 (cfgs 0).N = ReferenceIdeal.Read.val_main_v46 (F := Ideal) (up X0) (up X1) (up X2) (up X3) := by
  refine (dats m 0 c).arrAt_eq_of_after_last 8 t0_7 (by decide +kernel) _ fun j => ?_
  have e : (cfg0.win 8).arr.view.emb j = ix2 (j 0) (j 1) := by blk_ext []
  rw [e]
  refine Eq.trans ?_ (ref_dgp X0 X1 X2 X3 _ _).symm
  blk_simp
  rw [after0_8]
  refine (Pipeline.eq_sum_fin_of_reset_step_apply_last (fun n h => (outsAt0 m c n h).2.2.2) 8 (fun _ => (0 : EReal))
    (fun t j => ((∑ a, X0 (ix2 (row t a) (j 1)) * X3 (ix2 0 (j 1)) * (O X1 X2 (row t a) (j 1) * (√(M X1 X2 (row t a)))⁻¹) : ℝ) : EReal)) ?_ ?_ (by decide) t0_7 rfl j).trans ?_
  · intro t h j
    have ej : j = ix2 (j 0) (j 1) := by blk_ext []
    rw [outsAt0_A m c t h]
    frame_out
    refine (congrArg _ ej).trans ((term_dgp X0 X1 X2 X3 X4 m c H _ t (j 0) (j 1)).trans (congrArg (· + _) ?_))
    unfold k0_pay4
    pointwise
  · intro t h j
    have ej : j = ix2 (j 0) (j 1) := by blk_ext []
    rw [outsAt0_B m c t h]
    frame_out
    exact (congrArg _ ej).trans ((term_dgp X0 X1 X2 X3 X4 m c H _ t (j 0) (j 1)).trans (congrArg (· + _) (congrArg _ ej.symm)))
  · rw [sum_coe, zero_add]
    refine congrArg _ (Eq.trans ?_ (sum_rows _))
    exact Finset.sum_congr rfl fun p _ => Finset.sum_congr rfl fun a _ => by ring

omit H

instance : Cert.Pre_finite.Facts where
  bcast_S_S4096x1024 := by decide
  bcast_S_S4096x2816 := by decide
  bcast_S_S2816x1024 := by decide
  bcast_S_S1x1024 := by decide
  bcast_S_S1024 := by decide

omit X0 X1 X2 X3 X4 in
/-- Finite arguments are arrays of reals. -/
theorem args (h : Cert.Pre_KernelIdeal_finite m) : ∃ X0 X1 X2 X3 X4, Args X0 X1 X2 X3 X4 m c := by
  obtain ⟨h0, h1, h2, h3, h4⟩ := h c
  obtain ⟨X0, e0⟩ := exists_reals (fun _ => ofBits_inf) h0
  obtain ⟨X1, e1⟩ := exists_reals (fun _ => ofBits_inf) h1
  obtain ⟨X2, e2⟩ := exists_reals (fun _ => ofBits_inf) h2
  obtain ⟨X3, e3⟩ := exists_reals (fun _ => ofBits_inf) h3
  obtain ⟨X4, e4⟩ := exists_reals (fun _ => ofBits_inf) h4
  exact ⟨X0, X1, X2, X3, X4, e0, e1, e2, e3, e4⟩

theorem algebraic : Cert.algebraic_KernelIdeal_ReferenceIdeal_pre_finite := by
  intro m g m' g' hpre hagree
  refine ⟨fun c => (dats m 0 c).arrAt 5 (cfgs 0).N, fun c => (dats m 0 c).arrAt 6 (cfgs 0).N, fun c => (dats m 0 c).arrAt 7 (cfgs 0).N,
    fun c => (dats m 0 c).arrAt 8 (cfgs 0).N, Cert.KernelIdeal.Value.run_blocks m g,
    (θ_run _ _ _).mono (fun r h c => ?_) (Cert.ReferenceIdeal.Value.run m' g')⟩
  obtain ⟨X0, X1, X2, X3, X4, H⟩ := args m c hpre
  obtain ⟨a0, a1, a2, a3, a4⟩ := hagree c
  obtain ⟨r0, r1, r2, r3, k⟩ := h c
  have e0 := a0.trans H.h0
  have e1 := a1.trans H.h1
  have e2 := a2.trans H.h2
  have e3 := a3.trans H.h3
  have e4 := a4.trans H.h4
  refine ⟨r0.trans ?_, r1.trans ?_, r2.trans ?_, r3.trans ?_, k⟩
  · refine (show _ = ReferenceIdeal.Read.val_main_v44 (F := Ideal) (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg3)) (m' ((c.tc : Thread ReferenceIdeal.nD ReferenceIdeal.τ).loc ReferenceIdeal.main_arg4)) from ReferenceIdeal.Read.val_main_v44_eq m' c).trans ?_
    rw [e0, e1, e2, e3, e4]
    exact (out5 X0 X1 X2 X3 X4 m c H).symm
  · refine (show _ = ReferenceIdeal.Read.val_main_v45 (F := Ideal) (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg3)) (m' ((c.tc : Thread ReferenceIdeal.nD ReferenceIdeal.τ).loc ReferenceIdeal.main_arg4)) from ReferenceIdeal.Read.val_main_v45_eq m' c).trans ?_
    rw [e0, e1, e2, e3, e4]
    exact (out6 X0 X1 X2 X3 X4 m c H).symm
  · refine (show _ = ReferenceIdeal.Read.val_main_v23 (F := Ideal) (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg4)) from rfl).trans ?_
    rw [e0, e1, e2, e4]
    exact (out7 X0 X1 X2 X3 X4 m c H).symm
  · refine (show _ = ReferenceIdeal.Read.val_main_v46 (F := Ideal) (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg3)) from rfl).trans ?_
    rw [e0, e1, e2, e3]
    exact (out8 X0 X1 X2 X3 X4 m c H).symm

end Cert.ResidBwd
end
-- ==== Proof.LossRef.lean ====
/- The step's last output product, the residual and the loss as the reference computes them, in the reals. With `o = a @ w` and
   `E` the difference of the block's output and the target, the loss is half the sum of the rows' mean squares of `E` and its
   gradient is `E / 1024`. -/
module

public import proofs.«01_k».proof.Defs
public import proofs.«01_k».proof.Proof.ResidBwdRef
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Claim
public import Idealize.ShloMosaic.Lib.Pointwise

@[expose] public section

set_option maxRecDepth 16384

noncomputable section

namespace Cert.Loss

open Cert.Kernel2Ideal Cert.Kernel2Ideal.Gen Idealize.ShloMosaic Idealize.ShloMosaic.TcCoe Idealize.SL.Sem Cert.Lift
open Cert.ResidBwd (O M M_pos)

variable (X0 : S4096x2816.Idx → ℝ) (X1 : S2816x1024.Idx → ℝ) (X2 : S4096x1024.Idx → ℝ) (X3 : S1x1024.Idx → ℝ) (X4 : S1024.Idx → ℝ) (X5 : S4096x1024.Idx → ℝ)

/-- The difference of the block's output and the target. -/
def E (r : Fin 4096) (k : Fin 1024) : ℝ :=
  X2 (ix2 r k) + X3 (ix2 0 k) * (O X0 X1 r k * (√(M X0 X1 r))⁻¹ * X4 (ix1 k)) - X5 (ix2 r k)

theorem ofBits_two : Ideal.ofBits .f32 0x40000000#32 = ((2 : ℝ) : EReal) := by
  simp [Ideal.ofBits, Ideal.ieee, -EReal.coe_mul]; norm_num

theorem ofBits_1024th : Ideal.ofBits .f32 0x3A800000#32 = ((1 / 1024 : ℝ) : EReal) := by
  simp [Ideal.ofBits, Ideal.ieee, -EReal.coe_mul]; norm_num

theorem ofBits_2048th : Ideal.ofBits .f32 0x3A000000#32 = ((1 / 2048 : ℝ) : EReal) := by
  simp [Ideal.ofBits, Ideal.ieee, -EReal.coe_mul]; norm_num

open Reference2Ideal.Read in
theorem ref_o (r k) : val_main_v0 (F := Ideal) (up X0) (up X1) (ix2 r k) = O X0 X1 r k := by
  pointwise [val_main_v0, ← EReal.coe_mul, sum_coe]
  rfl

open Reference2Ideal.Read in
theorem ref_e (r k) : val_main_v17 (F := Ideal) (up X0) (up X1) (up X2) (up X3) (up X4) (up X5) (ix2 r k) = E X0 X1 X2 X3 X4 X5 r k := by
  pointwise [val_main_v17, val_main_v16, val_main_v15, val_main_v14, val_main_v13, val_main_v12, val_main_v11, val_main_v10, val_main_v9, val_main_v8, val_main_v7, val_main_v6,
    val_main_v5, val_main_v4, val_main_v3, val_main_v2, val_main_v1, val_main_cst, val_main_cst_0, val_main_cst_1, ref_o X0 X1, ofBits_1024, ofBits_eps, ← EReal.coe_mul, sum_coe,
    div_coe' (by norm_num : (1024 : ℝ) ≠ 0), ← EReal.coe_add]
  change _ + _ * (_ * Ideal.rsqrt ((M X0 X1 r : ℝ) : EReal) * _) - _ = _
  simp only [rsqrt_coe' (M_pos X0 X1 r), ← EReal.coe_mul, ← EReal.coe_add, ← EReal.coe_sub]
  rfl

open Reference2Ideal.Read in
theorem ref_dx (r k) : val_main_v31 (F := Ideal) (up X0) (up X1) (up X2) (up X3) (up X4) (up X5) (ix2 r k) = ((E X0 X1 X2 X3 X4 X5 r k * (1 / 1024) : ℝ) : EReal) := by
  pointwise [val_main_v31, val_main_v30, val_main_v29, val_main_v28, val_main_v27, val_main_v26, val_main_v20, val_main_v19, val_main_cst_9, val_main_cst_8, val_main_cst_7, val_main_cst_2,
    ref_e X0 X1 X2 X3 X4 X5, ofBits_1024, ofBits_one, ofBits_two, ofBits_half, ← EReal.coe_mul, div_coe' (by norm_num : (1024 : ℝ) ≠ 0)]
  congr 1
  ring

open Reference2Ideal.Read in
theorem ref_loss (z k) : val_main_v32 (F := Ideal) (up X0) (up X1) (up X2) (up X3) (up X4) (up X5) (ix2 z k)
    = ((1 / 2 * ∑ r, (∑ j, E X0 X1 X2 X3 X4 X5 r j * E X0 X1 X2 X3 X4 X5 r j) / 1024 : ℝ) : EReal) := by
  pointwise [val_main_v32, val_main_v25, val_main_v24, val_main_v23, val_main_v22, val_main_v21, val_main_v18, val_main_cst_3, val_main_cst_4, val_main_cst_5, val_main_cst_6,
    ref_e X0 X1 X2 X3 X4 X5, ofBits_1024, ofBits_half, ← EReal.coe_mul, sum_coe, div_coe' (by norm_num : (1024 : ℝ) ≠ 0)]

end Cert.Loss
end
-- ==== Proof.Loss.lean ====
/- What the kernel leaves in its three results is what the reference leaves: the product (`out6`), the loss's gradient (`out7`)
   and the loss (`out8`). -/
module

public import proofs.«01_k».proof.Defs
public import proofs.«01_k».proof.Proof.LossRef
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Claim
public import Idealize.ShloMosaic.Lib.Pointwise

@[expose] public section

set_option maxRecDepth 16384

noncomputable section

namespace Cert.Loss

open Cert.Kernel2Ideal Cert.Kernel2Ideal.Gen Idealize.ShloMosaic Idealize.ShloMosaic.TcCoe Idealize.SL.Sem Cert.Lift
open Idealize.ShloMosaic.Pipeline (Dat)
open Cert.ResidBwd (O M M_pos)

variable (X0 : S4096x2816.Idx → ℝ) (X1 : S2816x1024.Idx → ℝ) (X2 : S4096x1024.Idx → ℝ) (X3 : S1x1024.Idx → ℝ) (X4 : S1024.Idx → ℝ) (X5 : S4096x1024.Idx → ℝ)

variable (m : (ℓ : Loc nD τ sig) → Buf (Elt Ideal) ℓ) (c : Dev nD)

/-- Row `a` of block `t`. -/
def row (t : Fin 4) (a : Fin 1024) : Fin 4096 := ⟨t.val * 1024 + a.val, by omega⟩

/-- The rows, block by block, are all the rows. -/
theorem sum_rows (f : Fin 4096 → ℝ) : ∑ p, ∑ a, f (row p a) = ∑ r, f r := by
  rw [← Fintype.sum_prod_type']
  exact Fintype.sum_equiv (finProdFinEquiv (m := 4) (n := 1024)) _ _ fun x => congrArg f (Fin.ext (Nat.add_comm _ _ |>.trans (congrArg _ (Nat.mul_comm _ _))))

/-- The blocks' places. -/
theorem idx : ∀ t : Fin grid0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] := by decide +kernel

/-- The arguments are the reals `X0` … `X5`. -/
structure Args : Prop where
  h0 : m ((c.tc : Thread nD τ).loc main_arg0) = up X0
  h1 : m ((c.tc : Thread nD τ).loc main_arg1) = up X1
  h2 : m ((c.tc : Thread nD τ).loc main_arg2) = up X2
  h3 : m ((c.tc : Thread nD τ).loc main_arg3) = up X3
  h4 : m ((c.tc : Thread nD τ).loc main_arg4) = up X4
  h5 : m ((c.tc : Thread nD τ).loc main_arg5) = up X5

variable (H : Args X0 X1 X2 X3 X4 X5 m c)
include H

/-! What each block of the kernel's operands holds. -/

theorem b0 (t : Fin 4) (a k) : iblk m c 0 t (ix2 a k) = ((X0 (ix2 (row t a) k) : ℝ) : EReal) := by
  rw [show ((X0 (ix2 (row t a) k) : ℝ) : EReal) = _ from (congrFun H.h0 (ix2 (row t a) k)).symm]
  blk_simp [iblk, V]
  entry_read
  pointwise
  blk_ext [idx t, row]

theorem b1 (t : Fin 4) (l k) : iblk m c 1 t (ix2 l k) = ((X1 (ix2 l k) : ℝ) : EReal) := by
  rw [show ((X1 (ix2 l k) : ℝ) : EReal) = _ from (congrFun H.h1 (ix2 l k)).symm]
  blk_simp [iblk, V]
  entry_read
  pointwise
  blk_ext [idx t, row]

theorem b2 (t : Fin 4) (a k) : iblk m c 2 t (ix2 a k) = ((X2 (ix2 (row t a) k) : ℝ) : EReal) := by
  rw [show ((X2 (ix2 (row t a) k) : ℝ) : EReal) = _ from (congrFun H.h2 (ix2 (row t a) k)).symm]
  blk_ext [iblk, V, idx t, row]

theorem b3 (t : Fin 4) (z k) : iblk m c 3 t (ix2 z k) = ((X3 (ix2 0 k) : ℝ) : EReal) := by
  rw [show ((X3 (ix2 0 k) : ℝ) : EReal) = _ from (congrFun H.h3 (ix2 0 k)).symm]
  blk_ext [iblk, V, idx t, row]

theorem b4 (t : Fin 4) (z k) : iblk m c 4 t (ix2 z k) = ((X4 (ix1 k) : ℝ) : EReal) := by
  rw [show ((X4 (ix1 k) : ℝ) : EReal) = _ from (congrFun H.h4 (ix1 k)).symm]
  blk_simp [iblk, V]
  entry_read
  pointwise
  blk_ext [idx t, row]

theorem b5 (t : Fin 4) (a k) : iblk m c 5 t (ix2 a k) = ((X5 (ix2 (row t a) k) : ℝ) : EReal) := by
  rw [show ((X5 (ix2 (row t a) k) : ℝ) : EReal) = _ from (congrFun H.h5 (ix2 (row t a) k)).symm]
  blk_ext [iblk, V, idx t, row]

/-- A block of the product. -/
theorem pay_o (t : Fin 4) (a k) : k0_pay4 (F := Ideal) (iblk m c 0 t) (iblk m c 1 t) (ix2 a k) = (O X0 X1 (row t a) k : ℝ) := by
  unfold k0_pay4
  pointwise [b0 X0 X1 X2 X3 X4 X5 m c H, b1 X0 X1 X2 X3 X4 X5 m c H, ← EReal.coe_mul, sum_coe]
  rfl

/-- A block of the differences. -/
theorem pay_e (t : Fin 4) (a k) : k0_pay5 (F := Ideal) (iblk m c 0 t) (iblk m c 1 t) (iblk m c 2 t) (iblk m c 3 t) (iblk m c 4 t) (iblk m c 5 t) (ix2 a k)
    = (E X0 X1 X2 X3 X4 X5 (row t a) k : ℝ) := by
  unfold k0_pay5
  pointwise [pay_o X0 X1 X2 X3 X4 X5 m c H, b2 X0 X1 X2 X3 X4 X5 m c H, b3 X0 X1 X2 X3 X4 X5 m c H, b4 X0 X1 X2 X3 X4 X5 m c H, b5 X0 X1 X2 X3 X4 X5 m c H,
    ofBits_1024, ofBits_eps, ← EReal.coe_mul, sum_coe, div_coe' (by norm_num : (1024 : ℝ) ≠ 0), ← EReal.coe_add]
  change _ + _ * (_ * Ideal.rsqrt ((M X0 X1 (row t a) : ℝ) : EReal) * _) - _ = _
  simp only [rsqrt_coe' (M_pos X0 X1 (row t a)), ← EReal.coe_mul, ← EReal.coe_add, ← EReal.coe_sub]
  rfl

theorem pay_dx (t : Fin 4) (a k) : k0_pay6 (F := Ideal) (iblk m c 0 t) (iblk m c 1 t) (iblk m c 2 t) (iblk m c 3 t) (iblk m c 4 t) (iblk m c 5 t) (ix2 a k)
    = ((E X0 X1 X2 X3 X4 X5 (row t a) k * (1 / 1024) : ℝ) : EReal) := by
  unfold k0_pay6
  pointwise [pay_e X0 X1 X2 X3 X4 X5 m c H, ofBits_1024th, ← EReal.coe_mul]

/-- A block's part of the sum of squares of a column. -/
theorem term_l (acc : FVec Ideal S1x1024 .f32) (t : Fin 4) (z k) :
    k0_pay1 (F := Ideal) (k0_pay5 (F := Ideal) (iblk m c 0 t) (iblk m c 1 t) (iblk m c 2 t) (iblk m c 3 t) (iblk m c 4 t) (iblk m c 5 t)) acc (ix2 z k)
    = acc (ix2 z k) + ((∑ a, E X0 X1 X2 X3 X4 X5 (row t a) k * E X0 X1 X2 X3 X4 X5 (row t a) k : ℝ) : EReal) := by
  unfold k0_pay1
  pointwise [pay_e X0 X1 X2 X3 X4 X5 m c H, ← EReal.coe_mul, sum_coe]

theorem out6 : (dats m 0 c).arrAt 6 (cfgs 0).N = Reference2Ideal.Read.val_main_v0 (F := Ideal) (up X0) (up X1) := by
  refine (dats m 0 c).arrAt_eq_of_covers 6 _ (by decide +kernel) fun t hf y => ?_
  have e : (((cfgs 0).win 6).blk t).view.emb y = ix2 (row t (y 0)) (y 1) := by blk_ext [idx t, row]
  rw [e]
  refine Eq.trans ?_ ((pay_o X0 X1 X2 X3 X4 X5 m c H t (y 0) (y 1)).trans (ref_o X0 X1 _ _).symm)
  blk_simp
  rw [after0_6]
  by_cases h : t.val % 4 = 0
  · rw [outsAt0_A m c t h (by omega)]
    frame_out
    refine congrArg _ ?_
    blk_ext []
  by_cases h' : t.val % 4 = 3
  · rw [outsAt0_C m c t h h']
    frame_out
    refine congrArg _ ?_
    blk_ext []
  · rw [outsAt0_B m c t h h']
    frame_out
    refine congrArg _ ?_
    blk_ext []

theorem out7 : (dats m 0 c).arrAt 7 (cfgs 0).N = Reference2Ideal.Read.val_main_v31 (F := Ideal) (up X0) (up X1) (up X2) (up X3) (up X4) (up X5) := by
  refine (dats m 0 c).arrAt_eq_of_covers 7 _ (by decide +kernel) fun t hf y => ?_
  have e : (((cfgs 0).win 7).blk t).view.emb y = ix2 (row t (y 0)) (y 1) := by blk_ext [idx t, row]
  rw [e]
  refine Eq.trans ?_ ((pay_dx X0 X1 X2 X3 X4 X5 m c H t (y 0) (y 1)).trans (ref_dx X0 X1 X2 X3 X4 X5 _ _).symm)
  blk_simp
  rw [after0_7]
  by_cases h : t.val % 4 = 0
  · rw [outsAt0_A m c t h (by omega)]
    frame_out
    refine congrArg _ ?_
    blk_ext []
  by_cases h' : t.val % 4 = 3
  · rw [outsAt0_C m c t h h']
    frame_out
    refine congrArg _ ?_
    blk_ext []
  · rw [outsAt0_B m c t h h']
    frame_out
    refine congrArg _ ?_
    blk_ext []

/-- The scratch after the last block: each column's sum of squares. -/
theorem acc_last (z k) : (outsAt0 m c t0_3.val t0_3.isLt).2.2.2 (ix2 z k) = ((∑ r, E X0 X1 X2 X3 X4 X5 r k * E X0 X1 X2 X3 X4 X5 r k : ℝ) : EReal) := by
  refine (Pipeline.eq_sum_fin_of_reset_step_apply_last (fun n h => (outsAt0 m c n h).2.2.2) 4 (fun _ => (0 : EReal))
    (fun t j => ((∑ a, E X0 X1 X2 X3 X4 X5 (row t a) (j 1) * E X0 X1 X2 X3 X4 X5 (row t a) (j 1) : ℝ) : EReal)) ?_ ?_ (by decide) t0_3 rfl (ix2 z k)).trans ?_
  · intro t h j
    have ej : j = ix2 (j 0) (j 1) := by blk_ext []
    rw [outsAt0_A m c t h (by omega)]
    frame_out
    refine (congrArg _ ej).trans ((term_l X0 X1 X2 X3 X4 X5 m c H _ t (j 0) (j 1)).trans (congrArg (· + _) ?_))
    unfold k0_pay3
    pointwise
  · intro t h j
    have ej : j = ix2 (j 0) (j 1) := by blk_ext []
    by_cases h' : t.val % 4 = 3
    · rw [outsAt0_C m c t h h']
      frame_out
      exact (congrArg _ ej).trans ((term_l X0 X1 X2 X3 X4 X5 m c H _ t (j 0) (j 1)).trans (congrArg (· + _) ((congrFun ((Memref.isWhole_whole _).read_unread _) _).trans (congrArg _ ej.symm))))
    · rw [outsAt0_B m c t h h']
      frame_out
      exact (congrArg _ ej).trans ((term_l X0 X1 X2 X3 X4 X5 m c H _ t (j 0) (j 1)).trans (congrArg (· + _) ((congrFun ((Memref.isWhole_whole _).read_unread _) _).trans (congrArg _ ej.symm))))
  · rw [sum_coe, zero_add]
    refine congrArg _ (Eq.trans ?_ (sum_rows _))
    rfl

omit H in
/-- The loss from the columns' sums of squares. -/
theorem pay_l (acc : FVec Ideal S1x1024 .f32) (h : ∀ z k, acc (ix2 z k) = ((∑ r, E X0 X1 X2 X3 X4 X5 r k * E X0 X1 X2 X3 X4 X5 r k : ℝ) : EReal)) (z k) :
    k0_pay2 (F := Ideal) acc (ix2 z k) = ((1 / 2 * ∑ r, (∑ j, E X0 X1 X2 X3 X4 X5 r j * E X0 X1 X2 X3 X4 X5 r j) / 1024 : ℝ) : EReal) := by
  unfold k0_pay2
  pointwise [h, ofBits_2048th, sum_coe, ← EReal.coe_mul]
  congr 1
  rw [Finset.sum_comm, ← Finset.sum_div]
  ring

theorem out8 : (dats m 0 c).arrAt 8 (cfgs 0).N = Reference2Ideal.Read.val_main_v32 (F := Ideal) (up X0) (up X1) (up X2) (up X3) (up X4) (up X5) := by
  refine (dats m 0 c).arrAt_eq_of_after_last 8 t0_3 (by decide +kernel) _ fun j => ?_
  have e : (cfg0.win 8).arr.view.emb j = ix2 (j 0) (j 1) := by blk_ext []
  rw [e]
  refine Eq.trans ?_ (ref_loss X0 X1 X2 X3 X4 X5 _ _).symm
  have hs := acc_last X0 X1 X2 X3 X4 X5 m c H
  blk_simp
  rw [after0_8]
  have ej : j = ix2 (j 0) (j 1) := by blk_ext []
  refine Eq.trans ?_ (pay_l X0 X1 X2 X3 X4 X5 (outsAt0 m c t0_3.val t0_3.isLt).2.2.2 hs (j 0) (j 1))
  rw [outsAt0_C m c t0_3 (by decide) (by decide)]
  frame_out
  exact congrArg _ ej

omit H

instance : Cert.Pre_finite2.Facts where
  bcast_S_S4096x2816 := by decide
  bcast_S_S2816x1024 := by decide
  bcast_S_S4096x1024 := by decide
  bcast_S_S1x1024 := by decide
  bcast_S_S1024 := by decide

omit X0 X1 X2 X3 X4 X5 in
/-- Finite arguments are arrays of reals. -/
theorem args (h : Cert.Pre_Kernel2Ideal_finite2 m) : ∃ X0 X1 X2 X3 X4 X5, Args X0 X1 X2 X3 X4 X5 m c := by
  obtain ⟨h0, h1, h2, h3, h4, h5⟩ := h c
  obtain ⟨X0, e0⟩ := exists_reals (fun _ => ofBits_inf) h0
  obtain ⟨X1, e1⟩ := exists_reals (fun _ => ofBits_inf) h1
  obtain ⟨X2, e2⟩ := exists_reals (fun _ => ofBits_inf) h2
  obtain ⟨X3, e3⟩ := exists_reals (fun _ => ofBits_inf) h3
  obtain ⟨X4, e4⟩ := exists_reals (fun _ => ofBits_inf) h4
  obtain ⟨X5, e5⟩ := exists_reals (fun _ => ofBits_inf) h5
  exact ⟨X0, X1, X2, X3, X4, X5, e0, e1, e2, e3, e4, e5⟩

/-- An argument of the reference. -/
abbrev arg (m' : (ℓ : Loc Reference2Ideal.nD Reference2Ideal.τ Reference2Ideal.sig) → Buf (Elt Ideal) ℓ) (c : Dev Reference2Ideal.nD) (r : Ref Reference2Ideal.sig .tc) :=
  m' ((c.tc : Thread Reference2Ideal.nD Reference2Ideal.τ).loc r)

open Reference2Ideal Reference2Ideal.Read in
theorem algebraic : Cert.algebraic_Kernel2Ideal_Reference2Ideal_pre_finite2 := by
  intro m g m' g' hpre hagree
  refine ⟨fun c => (dats m 0 c).arrAt 6 (cfgs 0).N, fun c => (dats m 0 c).arrAt 7 (cfgs 0).N, fun c => (dats m 0 c).arrAt 8 (cfgs 0).N,
    Cert.Kernel2Ideal.Value.run_blocks m g,
    (θ_run _ _ _).mono (fun r h c => ?_) (Cert.Reference2Ideal.Value.run m' g')⟩
  obtain ⟨X0, X1, X2, X3, X4, X5, H⟩ := args m c hpre
  obtain ⟨a0, a1, a2, a3, a4, a5⟩ := hagree c
  obtain ⟨r0, r1, r2, k⟩ := h c
  have e0 : arg m' c Reference2Ideal.main_arg0 = up X0 := a0.trans H.h0
  have e1 : arg m' c Reference2Ideal.main_arg1 = up X1 := a1.trans H.h1
  have e2 : arg m' c Reference2Ideal.main_arg2 = up X2 := a2.trans H.h2
  have e3 : arg m' c Reference2Ideal.main_arg3 = up X3 := a3.trans H.h3
  have e4 : arg m' c Reference2Ideal.main_arg4 = up X4 := a4.trans H.h4
  have e5 : arg m' c Reference2Ideal.main_arg5 = up X5 := a5.trans H.h5
  refine ⟨r0.trans ?_, r1.trans ?_, r2.trans ?_, k⟩
  · refine (show _ = val_main_v0 (F := Ideal) (arg m' c Reference2Ideal.main_arg0) (arg m' c Reference2Ideal.main_arg1) from rfl).trans ?_
    rw [e0, e1]
    exact (out6 X0 X1 X2 X3 X4 X5 m c H).symm
  · refine (show _ = val_main_v31 (F := Ideal) (arg m' c Reference2Ideal.main_arg0) (arg m' c Reference2Ideal.main_arg1) (arg m' c Reference2Ideal.main_arg2) (arg m' c Reference2Ideal.main_arg3) (arg m' c Reference2Ideal.main_arg4) (arg m' c Reference2Ideal.main_arg5) from rfl).trans ?_
    rw [e0, e1, e2, e3, e4, e5]
    exact (out7 X0 X1 X2 X3 X4 X5 m c H).symm
  · refine (show _ = val_main_v32 (F := Ideal) (arg m' c Reference2Ideal.main_arg0) (arg m' c Reference2Ideal.main_arg1) (arg m' c Reference2Ideal.main_arg2) (arg m' c Reference2Ideal.main_arg3) (arg m' c Reference2Ideal.main_arg4) (arg m' c Reference2Ideal.main_arg5) from rfl).trans ?_
    rw [e0, e1, e2, e3, e4, e5]
    exact (out8 X0 X1 X2 X3 X4 X5 m c H).symm

end Cert.Loss
end
-- ==== Proof.FfnInRef.lean ====
/- The gradient of the feed-forward block's input as the reference computes it, in the reals: back through the causal
   convolution (`DP`), the up-projection (`DH`) and the modulated norm (`DX`). -/
module

public import proofs.«01_k».proof.Defs
public import proofs.«01_k».proof.Proof.Lift
public import proofs.«01_k».proof.Proof.Gen.Reference3Ideal.Run
public import proofs.«01_k».proof.Proof.Gen.Reference3Ideal.Read
public import Idealize.ShloMosaic.Lib.Pipeline.ValueKit
public import Idealize.ShloMosaic.Lib.Claim
public import Idealize.ShloMosaic.Lib.Pointwise

@[expose] public section

set_option maxRecDepth 16384

noncomputable section

namespace Cert.FfnIn

open Cert.Reference3Ideal Idealize.ShloMosaic Idealize.ShloMosaic.TcCoe Idealize.SL.Sem Cert.Lift

variable (X0 X1 : S4096x2816.Idx → ℝ) (X2 : S3x5632.Idx → ℝ) (X3 : S1024x5632.Idx → ℝ) (X4 X5 : S4096x1024.Idx → ℝ) (X6 : S1024.Idx → ℝ)
  (X7 X8 : S1x1024.Idx → ℝ)

/-- The cotangent of the convolution's output: the two halves side by side, nothing after the last row. -/
def Du (r : ℕ) (k : Fin 5632) : ℝ :=
  if h : r < 4096 then if hk : k.val < 2816 then X0 (ix2 ⟨r, h⟩ ⟨k.val, hk⟩) else X1 (ix2 ⟨r, h⟩ ⟨k.val - 2816, by omega⟩) else 0
/-- The gradient of the convolution's input. -/
def DP (r : Fin 4096) (k : Fin 5632) : ℝ :=
  X2 (ix2 2 k) * Du X0 X1 r k + X2 (ix2 0 k) * Du X0 X1 (r + 2) k + X2 (ix2 1 k) * Du X0 X1 (r + 1) k
/-- The gradient of the up-projection's input. -/
def DH (r : Fin 4096) (k : Fin 1024) : ℝ := ∑ l, DP X0 X1 X2 r l * X3 (ix2 k l)
/-- The mean of a row's squares, plus the norm's constant. -/
def M (r : Fin 4096) : ℝ := (∑ k, X4 (ix2 r k) * X4 (ix2 r k)) / 1024 + eps
theorem M_pos (r) : 0 < M X4 r := by
  have := eps_pos
  have : 0 ≤ ∑ k, X4 (ix2 r k) * X4 (ix2 r k) := Finset.sum_nonneg fun k _ => mul_self_nonneg _
  unfold M; positivity
/-- A row normalised. -/
def N (r : Fin 4096) (k : Fin 1024) : ℝ := X4 (ix2 r k) * (√(M X4 r))⁻¹
/-- The cotangent of the normalised row. -/
def T (r : Fin 4096) (k : Fin 1024) : ℝ := DH X0 X1 X2 X3 r k * (X6 (ix1 k) * (1 + X8 (ix2 0 k)))
/-- The gradient of the block's input. -/
def DX (r : Fin 4096) (k : Fin 1024) : ℝ :=
  (√(M X4 r))⁻¹ * (T X0 X1 X2 X3 X6 X8 r k - N X4 r k * ((∑ j, T X0 X1 X2 X3 X6 X8 r j * N X4 r j) / 1024)) + X5 (ix2 r k)

open Reference3Ideal.Read in
theorem ref_m (r z) : val_main_v6 (F := Ideal) (up X4) (ix2 r z) = M X4 r := by
  pointwise [val_main_v6, val_main_v5, val_main_v4, val_main_v3, val_main_v2, val_main_v1, val_main_v0, val_main_cst, val_main_cst_0, val_main_cst_1,
    up, ofBits_1024, ofBits_eps, ← EReal.coe_mul, sum_coe]
  rw [div_coe' (by norm_num), ← EReal.coe_add]; rfl

open Reference3Ideal.Read in
theorem ref_du (r k) : val_main_v50 (F := Ideal) (up X0) (up X1) (ix2 r k) = Du X0 X1 r k := by
  pointwise [val_main_v50]
  unfold Du
  rw [dif_pos r.isLt]
  split <;> rfl

theorem Du_end {r : ℕ} (h : ¬r < 4096) (k) : Du X0 X1 r k = 0 := dif_neg h

open Reference3Ideal.Read in
theorem ref_dp (r k) : val_main_v63 (F := Ideal) (up X0) (up X1) (up X2) (ix2 r k) = DP X0 X1 X2 r k := by
  pointwise [val_main_v63, val_main_v61, val_main_v60, val_main_v57, val_main_v56, val_main_v53, val_main_v52, val_main_v51, val_main_v54, val_main_v55, val_main_v58, val_main_v59,
    val_main_v43, val_main_v36, val_main_v30, val_main_v41, val_main_v40, val_main_v34, val_main_v33, val_main_v28, val_main_v27, val_main_cst_7, val_main_cst_8, val_main_cst_9,
    ref_du X0 X1]
  rw [show 2 + r.val - 1 = r.val + 1 by omega, show 2 + r.val = r.val + 2 by omega]
  have e (w : ℝ) {c : Prop} [Decidable c] {n : ℕ} (hc : ¬c → ¬n < 4096) : (if _ : c then (w : EReal) * (Du X0 X1 n k : ℝ) else 0) = ((w * Du X0 X1 n k : ℝ) : EReal) := by
    split
    · exact (EReal.coe_mul _ _).symm
    · rename_i h; rw [Du_end X0 X1 (hc h), mul_zero]; rfl
  refine (congrArg₂ (· + ·) (congrArg₂ (· + ·) (EReal.coe_mul _ _).symm (e (X2 (ix2 1 k)) fun h => by omega)) (e (X2 (ix2 0 k)) fun h => h)).trans ?_
  rw [← EReal.coe_add, ← EReal.coe_add]
  unfold DP
  congr 1
  ring

open Reference3Ideal.Read in
theorem ref_dh (r k) : val_main_v64 (F := Ideal) (up X0) (up X1) (up X2) (up X3) (ix2 r k) = DH X0 X1 X2 X3 r k := by
  pointwise [val_main_v64, ref_dp X0 X1 X2, up, ← EReal.coe_mul, sum_coe]
  rfl

open Reference3Ideal.Read in
theorem ref_n (r k) : val_main_v12 (F := Ideal) (up X4) (ix2 r k) = N X4 r k := by
  pointwise [val_main_v12, val_main_v11, val_main_v7, ref_m X4, fun r => rsqrt_coe' (M_pos X4 r), up, ← EReal.coe_mul]
  rfl

open Reference3Ideal.Read in
theorem ref_sh (z k) : val_main_v66 (F := Ideal) (up X0) (up X1) (up X2) (up X3) (ix2 z k) = ((∑ r, DH X0 X1 X2 X3 r k : ℝ) : EReal) := by
  pointwise [val_main_v66, val_main_v65, val_main_cst_10, ref_dh X0 X1 X2 X3, sum_coe]

open Reference3Ideal.Read in
theorem ref_sc (z k) : val_main_v69 (F := Ideal) (up X0) (up X1) (up X2) (up X3) (up X4) (up X6) (ix2 z k) = ((∑ r, N X4 r k * X6 (ix1 k) * DH X0 X1 X2 X3 r k : ℝ) : EReal) := by
  pointwise [val_main_v69, val_main_v68, val_main_v67, val_main_v15, val_main_v14, val_main_v13, val_main_cst_11, ref_n X4, ref_dh X0 X1 X2 X3, up, ← EReal.coe_mul, sum_coe]

open Reference3Ideal.Read in
theorem ref_v71 (r k) : val_main_v71 (F := Ideal) (up X0) (up X1) (up X2) (up X3) (up X8) (ix2 r k) = ((DH X0 X1 X2 X3 r k * (1 + X8 (ix2 0 k)) : ℝ) : EReal) := by
  pointwise [val_main_v71, val_main_v70, val_main_v17, val_main_v16, val_main_cst_3, ref_dh X0 X1 X2 X3, up, ofBits_one, ← EReal.coe_add, ← EReal.coe_mul]

open Reference3Ideal.Read in
theorem ref_dg (z k) : val_main_v94 (F := Ideal) (up X0) (up X1) (up X2) (up X3) (up X4) (up X8) (ix2 z k) = ((∑ r, N X4 r k * (DH X0 X1 X2 X3 r k * (1 + X8 (ix2 0 k))) : ℝ) : EReal) := by
  pointwise [val_main_v94, val_main_v77, val_main_v74, val_main_v73, val_main_v72, val_main_cst_12, val_main_cst_13, ref_n X4, ref_v71 X0 X1 X2 X3 X8, ← EReal.coe_mul, sum_coe,
    Finset.univ_unique, Finset.sum_singleton]

open Reference3Ideal.Read in
theorem ref_dx (r k) : val_main_v92 (F := Ideal) (up X0) (up X1) (up X2) (up X3) (up X4) (up X5) (up X6) (up X8) (ix2 r k) = DX X0 X1 X2 X3 X4 X5 X6 X8 r k := by
  have hM := M_pos X4 r
  pointwise [val_main_v92, val_main_v91, val_main_v90, val_main_v89, val_main_v88, val_main_v87, val_main_v86, val_main_v85, val_main_v84, val_main_v83, val_main_v82, val_main_v81,
    val_main_v80, val_main_v79, val_main_v78, val_main_v76, val_main_v75, val_main_v13, val_main_v10, val_main_v9, val_main_v8, val_main_v7, val_main_cst_2, val_main_cst_14, val_main_cst_15,
    val_main_cst_16, ref_v71 X0 X1 X2 X3 X8, ref_m X4, up, ofBits_1024, ofBits_neg_half, ← EReal.coe_mul, sum_coe]
  simp only [rsqrt_coe' hM, div_coe' hM.ne', div_coe' (by norm_num : (1024 : ℝ) ≠ 0), ← EReal.coe_mul, ← EReal.coe_add, sum_coe, Finset.univ_unique, Finset.sum_singleton]
  congr 1
  have e : ∑ j, T X0 X1 X2 X3 X6 X8 r j * N X4 r j = (√(M X4 r))⁻¹ * ∑ j, X4 (ix2 r j) * (DH X0 X1 X2 X3 r j * (1 + X8 (ix2 0 j)) * X6 (ix1 j)) := by
    rw [Finset.mul_sum]
    exact Finset.sum_congr rfl fun j _ => by unfold T N; ring
  unfold DX
  rw [e]
  unfold T N
  have hs := Real.mul_self_sqrt hM.le
  have hp := Real.sqrt_pos.mpr hM
  generalize M X4 r = m at *
  generalize √m = s at *
  subst hs
  field_simp
  ring

end Cert.FfnIn
end
-- ==== Proof.Stores.lean ====
/- A buffer written in rectangles and read back: at an index of the last rectangle stands that store's value, off it what the
   stores before left. -/
module

public import Idealize.ShloMosaic.Lib.Pipeline.ValueKit
public import Idealize.ShloMosaic.Lib.Pipeline.ReadBack

@[expose] public section

noncomputable section

namespace Cert.Stores

open Idealize.ShloMosaic

variable {s : Shape} {e : EltTy} {Val : EltTy → Type} [∀ e, Nonempty (Val e)]

theorem canon_at (off size : Fin s.rank → ℕ) (inb) (w : (Rect.unit off size inb).shape.Idx → Val e) (L) (y : s.Idx) (x)
    (h : ∀ a, (y a).val = off a + (x a).val) : View.canon (⟨Rect.unit off size inb, w⟩ :: L) y = w x := by
  have : y = (Rect.unit off size inb).emb x := funext fun a => Fin.ext ((h a).trans (Rect.idx_unit_val off size inb x a).symm)
  rw [this]
  exact View.canon_cons_emb _ w L x

theorem canon_off (off size : Fin s.rank → ℕ) (inb) (w : (Rect.unit off size inb).shape.Idx → Val e) (L) (y : s.Idx) (a)
    (h : (y a).val < off a ∨ off a + size a ≤ (y a).val) : View.canon (⟨Rect.unit off size inb, w⟩ :: L) y = View.canon L y := by
  refine View.canon_cons_of_not_mem _ L fun hm => ?_
  have := (Rect.mem_set_unit (inb := inb)).mp hm a
  omega

end Cert.Stores
end
-- ==== Proof.FfnIn.lean ====
/- What the kernel leaves in its five results is what the reference leaves. -/
module

public import proofs.«01_k».proof.Defs
public import proofs.«01_k».proof.Proof.FfnInRef
public import proofs.«01_k».proof.Proof.Stores
public import proofs.«01_k».proof.Proof.Gen.Kernel3Ideal.Value
public import Idealize.ShloMosaic.Lib.Pipeline.ReadBack
public import proofs.«01_k».proof.Proof.Gen.Reference3Ideal.Run
public import proofs.«01_k».proof.Proof.Gen.Reference3Ideal.Read
public import Idealize.ShloMosaic.Lib.Pipeline.ValueKit
public import Idealize.ShloMosaic.Lib.Claim
public import Idealize.ShloMosaic.Lib.Pointwise

@[expose] public section

set_option maxRecDepth 16384

noncomputable section

namespace Cert.FfnIn

open Cert.Kernel3Ideal Cert.Kernel3Ideal.Gen Idealize.ShloMosaic Idealize.ShloMosaic.TcCoe Idealize.SL.Sem Cert.Lift
open Idealize.ShloMosaic.Pipeline (Dat)

variable (X0 X1 : S4096x2816.Idx → ℝ) (X2 : S3x5632.Idx → ℝ) (X3 : S1024x5632.Idx → ℝ) (X4 X5 : S4096x1024.Idx → ℝ) (X6 : S1024.Idx → ℝ)
  (X7 X8 : S1x1024.Idx → ℝ) (m : (ℓ : Loc nD τ sig) → Buf (Elt Ideal) ℓ) (c : Dev nD)

/-- Row `a` of block `t`. -/
def row (t : Fin 16) (a : Fin 256) : Fin 4096 := ⟨t.val * 256 + a.val, by omega⟩

/-- The blocks' places. -/
theorem idx : ∀ t : Fin grid0.N, win0_0.index t = ![t.val, 0] ∧ win0_1.index t = ![min ((t.val + 1) * 32) 511, 0] ∧ win0_2.index t = ![t.val, 0]
    ∧ win0_3.index t = ![min ((t.val + 1) * 32) 511, 0] ∧ win0_4.index t = ![0, 0] ∧ win0_5.index t = ![0, 0, 0] ∧ win0_6.index t = ![t.val, 0] ∧ win0_7.index t = ![t.val, 0]
    ∧ win0_8.index t = ![0, 0] ∧ win0_9.index t = ![0, 0] ∧ win0_10.index t = ![t.val, 0] ∧ win0_11.index t = ![t.val, 0] := by decide +kernel

/-- The arguments are the reals `X0` … `X8`. -/
structure Args : Prop where
  h0 : m ((c.tc : Thread nD τ).loc main_arg0) = up X0
  h1 : m ((c.tc : Thread nD τ).loc main_arg1) = up X1
  h2 : m ((c.tc : Thread nD τ).loc main_arg2) = up X2
  h3 : m ((c.tc : Thread nD τ).loc main_arg3) = up X3
  h4 : m ((c.tc : Thread nD τ).loc main_arg4) = up X4
  h5 : m ((c.tc : Thread nD τ).loc main_arg5) = up X5
  h6 : m ((c.tc : Thread nD τ).loc main_arg6) = up X6
  h7 : m ((c.tc : Thread nD τ).loc main_arg7) = up X7
  h8 : m ((c.tc : Thread nD τ).loc main_arg8) = up X8

/-- Column `q` of block `b`. -/
def col (b : Fin 4) (q : Fin 1408) : Fin 5632 := ⟨b.val * 1408 + q.val, by omega⟩

/-- The columns, block by block, are all the columns. -/
theorem sum_cols (f : Fin 5632 → ℝ) : ∑ b, ∑ q, f (col b q) = ∑ l, f l := by
  rw [← Fintype.sum_prod_type']
  exact Fintype.sum_equiv (finProdFinEquiv (m := 4) (n := 1408)) _ _ fun x => congrArg f (Fin.ext (Nat.add_comm _ _ |>.trans (congrArg _ (Nat.mul_comm _ _))))

/-- The rows, block by block, are all the rows. -/
theorem sum_rows (f : Fin 4096 → ℝ) : ∑ p, ∑ a, f (row p a) = ∑ r, f r := by
  rw [← Fintype.sum_prod_type']
  exact Fintype.sum_equiv (finProdFinEquiv (m := 16) (n := 256)) _ _ fun x => congrArg f (Fin.ext (Nat.add_comm _ _ |>.trans (congrArg _ (Nat.mul_comm _ _))))

/-- The extended tile, read `k` rows down: the tile while its rows last, then the rows after it. -/
theorem ext_read (Hd : FVec Ideal S8x1408 .f32) (B : FVec Ideal S256x1408 .f32) (L) (o i0 i1) (k : ℕ) (hk : k ≤ 2) (ho : o = ![k, 0]) (i2) (a q) :
    (View.whole cc0_scratch0).readCov (Val := Elt Ideal) (e := .f32) (⟨Rect.unit (s := S264x1408) ![256, 0] ![8, 1408] i0, Hd⟩ :: ⟨Rect.unit (s := S264x1408) ![0, 0] ![256, 1408] i1, B⟩ :: L)
      (Rect.unit (s := S264x1408) o ![256, 1408] i2).toLoadRect (ix2 a q)
    = if h : a.val + k < 256 then B (ix2 ⟨a.val + k, h⟩ q) else Hd (ix2 ⟨a.val + k - 256, by omega⟩ q) := by
  subst ho
  rw [View.readCov_eq_canon']
  have y0 : (((Rect.unit (s := S264x1408) ![k, 0] ![256, 1408] i2).idx (ix2 a q)) 0).val = k + a.val := Rect.idx_unit_val (s := S264x1408) ![k, 0] ![256, 1408] i2 (ix2 a q) 0
  have y1 : (((Rect.unit (s := S264x1408) ![k, 0] ![256, 1408] i2).idx (ix2 a q)) 1).val = 0 + q.val := Rect.idx_unit_val (s := S264x1408) ![k, 0] ![256, 1408] i2 (ix2 a q) 1
  change View.canon _ ((Rect.unit (s := S264x1408) ![k, 0] ![256, 1408] i2).idx (ix2 a q)) = _
  generalize (Rect.unit (s := S264x1408) ![k, 0] ![256, 1408] i2).idx (ix2 a q) = y at *
  split
  · rename_i h
    rw [Stores.canon_off (Val := Elt Ideal) (e := .f32) (s := S264x1408) ![256, 0] ![8, 1408] i0 Hd _ y 0 (.inl (by rw [y0]; show k + a.val < 256; omega))]
    refine Stores.canon_at (Val := Elt Ideal) (e := .f32) (s := S264x1408) ![0, 0] ![256, 1408] i1 B L y (ix2 ⟨a.val + k, h⟩ q) ?_
    refine Fin.forall_fin_two.mpr ⟨?_, ?_⟩
    · rw [y0]; show k + a.val = 0 + (a.val + k); omega
    · rw [y1]; rfl
  · rename_i h
    refine Stores.canon_at (Val := Elt Ideal) (e := .f32) (s := S264x1408) ![256, 0] ![8, 1408] i0 Hd _ y (ix2 ⟨a.val + k - 256, by omega⟩ q) ?_
    refine Fin.forall_fin_two.mpr ⟨?_, ?_⟩
    · rw [y0]; show k + a.val = 256 + (a.val + k - 256); omega
    · rw [y1]; rfl

section
variable (H : Args X0 X1 X2 X3 X4 X5 X6 X7 X8 m c)
include H

/-! What each block of the kernel's operands holds. -/

theorem bw (t : Fin 16) (o i) (k : Fin 3) (b : Fin 4) (ho : o = ![k.val, b.val * 1408]) (z q) :
    View.ld (iblk m c 4 t) (Rect.unit (s := S3x5632) o ![1, 1408] i) (ix2 z q) = ((X2 (ix2 k (col b q)) : ℝ) : EReal) := by
  subst ho
  rw [show ((X2 (ix2 k (col b q)) : ℝ) : EReal) = _ from (congrFun H.h2 (ix2 k (col b q))).symm]
  refine (View.ld_unit_apply_of (S := S3x5632) _ _ _ _ _ (ix2 k (col b q)) (Fin.forall_fin_two.mpr ⟨?_, rfl⟩)).trans ?_
  · show k.val = k.val + z.val; omega
  · blk_ext [iblk, V, idx t]

theorem bx (t : Fin 16) (a k) : iblk m c 6 t (ix2 a k) = ((X4 (ix2 (row t a) k) : ℝ) : EReal) := by
  rw [show ((X4 (ix2 (row t a) k) : ℝ) : EReal) = _ from (congrFun H.h4 (ix2 (row t a) k)).symm]
  blk_ext [iblk, V, idx t, row]

theorem br (t : Fin 16) (a k) : iblk m c 7 t (ix2 a k) = ((X5 (ix2 (row t a) k) : ℝ) : EReal) := by
  rw [show ((X5 (ix2 (row t a) k) : ℝ) : EReal) = _ from (congrFun H.h5 (ix2 (row t a) k)).symm]
  blk_ext [iblk, V, idx t, row]

theorem bg (t : Fin 16) (z k) : iblk m c 8 t (ix2 z k) = ((X6 (ix1 k) : ℝ) : EReal) := by
  rw [show ((X6 (ix1 k) : ℝ) : EReal) = _ from (congrFun H.h6 (ix1 k)).symm]
  blk_simp [iblk, V]
  entry_read
  pointwise
  blk_ext [idx t]

theorem bs (t : Fin 16) (z k) : iblk m c 9 t (ix2 z k) = ((1 + X8 (ix2 0 k) : ℝ) : EReal) := by
  rw [EReal.coe_add, show ((X8 (ix2 0 k) : ℝ) : EReal) = _ from (congrFun H.h8 (ix2 0 k)).symm]
  blk_simp [iblk, V]
  entry_read
  pointwise [ofBits_one]
  refine congrArg _ ?_
  blk_ext [idx t]

theorem bu (t : Fin 16) (o i) (b : Fin 4) (ho : o = ![b.val, 0, 0]) (z k q) :
    View.ld (iblk m c 5 t) (Rect.unit (s := S4x1024x1408) o ![1, 1024, 1408] i) (ix3 z k q) = ((X3 (ix2 k (col b q)) : ℝ) : EReal) := by
  subst ho
  rw [show ((X3 (ix2 k (col b q)) : ℝ) : EReal) = _ from (congrFun H.h3 (ix2 k (col b q))).symm]
  refine (View.ld_unit_apply_of (S := S4x1024x1408) _ _ _ _ _ (ix3 b k q) (Fin.forall_fin_succ.mpr ⟨?_, Fin.forall_fin_two.mpr ⟨?_, ?_⟩⟩)).trans ?_
  · show b.val = b.val + z.val; omega
  · show k.val = 0 + k.val; omega
  · show q.val = 0 + q.val; omega
  blk_simp [iblk, V]
  entry_read
  have e : ((cfg0.win 5).blk t).view.emb (ix3 b k q) = ix3 b k q := by blk_ext [idx t]
  refine (congrArg _ e).trans ?_
  pointwise
  blk_ext [col]

theorem b0 (t : Fin 16) (o i) (b : Fin 4) (hb : b.val < 2) (ho : o = ![0, b.val * 1408]) (a q) :
    View.ld (iblk m c 0 t) (Rect.unit (s := S256x2816) o ![256, 1408] i) (ix2 a q) = ((Du X0 X1 (row t a) (col b q) : ℝ) : EReal) := by
  subst ho
  have hq : b.val * 1408 + q.val < 2816 := by omega
  unfold Du
  rw [dif_pos (row t a).isLt, dif_pos (show (col b q).val < 2816 from hq)]
  rw [show ((X0 (ix2 ⟨(row t a).val, (row t a).isLt⟩ ⟨(col b q).val, hq⟩) : ℝ) : EReal) = _ from (congrFun H.h0 (ix2 (row t a) ⟨b.val * 1408 + q.val, hq⟩)).symm]
  refine (View.ld_unit_apply_of (S := S256x2816) _ _ _ _ _ (ix2 a ⟨b.val * 1408 + q.val, hq⟩) (Fin.forall_fin_two.mpr ⟨?_, rfl⟩)).trans ?_
  · show a.val = 0 + a.val; omega
  · blk_ext [iblk, V, idx t, row]

theorem b1 (t : Fin 16) (o i) (b : Fin 4) (hb : 2 ≤ b.val) (ho : o = ![0, (b.val - 2) * 1408]) (a q) :
    View.ld (iblk m c 2 t) (Rect.unit (s := S256x2816) o ![256, 1408] i) (ix2 a q) = ((Du X0 X1 (row t a) (col b q) : ℝ) : EReal) := by
  subst ho
  have hq : (b.val - 2) * 1408 + q.val < 2816 := by omega
  have hn : ¬(col b q).val < 2816 := by unfold col; dsimp only; omega
  unfold Du
  rw [dif_pos (row t a).isLt, dif_neg hn]
  rw [show (⟨(col b q).val - 2816, by have := (col b q).isLt; omega⟩ : Fin 2816) = ⟨(b.val - 2) * 1408 + q.val, hq⟩ from Fin.ext (by unfold col; dsimp only; omega)]
  rw [show ((X1 (ix2 ⟨(row t a).val, (row t a).isLt⟩ ⟨(b.val - 2) * 1408 + q.val, hq⟩) : ℝ) : EReal) = _ from (congrFun H.h1 (ix2 (row t a) ⟨(b.val - 2) * 1408 + q.val, hq⟩)).symm]
  refine (View.ld_unit_apply_of (S := S256x2816) _ _ _ _ _ (ix2 a ⟨(b.val - 2) * 1408 + q.val, hq⟩) (Fin.forall_fin_two.mpr ⟨?_, rfl⟩)).trans ?_
  · show a.val = 0 + a.val; omega
  · blk_ext [iblk, V, idx t, row]

theorem h0 (t : Fin 16) (ht : t.val < 15) (o i) (b : Fin 4) (hb : b.val < 2) (ho : o = ![0, b.val * 1408]) (a q) :
    View.ld (iblk m c 1 t) (Rect.unit (s := S8x2816) o ![8, 1408] i) (ix2 a q) = ((Du X0 X1 ((t.val + 1) * 256 + a.val) (col b q) : ℝ) : EReal) := by
  subst ho
  have hq : b.val * 1408 + q.val < 2816 := by omega
  have hr : (t.val + 1) * 256 + a.val < 4096 := by omega
  unfold Du
  rw [dif_pos hr, dif_pos (show (col b q).val < 2816 from hq)]
  rw [show ((X0 (ix2 ⟨(t.val + 1) * 256 + a.val, hr⟩ ⟨(col b q).val, hq⟩) : ℝ) : EReal) = _ from (congrFun H.h0 (ix2 ⟨(t.val + 1) * 256 + a.val, hr⟩ ⟨b.val * 1408 + q.val, hq⟩)).symm]
  refine (View.ld_unit_apply_of (S := S8x2816) _ _ _ _ _ (ix2 a ⟨b.val * 1408 + q.val, hq⟩) (Fin.forall_fin_two.mpr ⟨?_, rfl⟩)).trans ?_
  · show a.val = 0 + a.val; omega
  · blk_ext [iblk, V, idx t]

theorem h1 (t : Fin 16) (ht : t.val < 15) (o i) (b : Fin 4) (hb : 2 ≤ b.val) (ho : o = ![0, (b.val - 2) * 1408]) (a q) :
    View.ld (iblk m c 3 t) (Rect.unit (s := S8x2816) o ![8, 1408] i) (ix2 a q) = ((Du X0 X1 ((t.val + 1) * 256 + a.val) (col b q) : ℝ) : EReal) := by
  subst ho
  have hq : (b.val - 2) * 1408 + q.val < 2816 := by omega
  have hr : (t.val + 1) * 256 + a.val < 4096 := by omega
  have hn : ¬(col b q).val < 2816 := by unfold col; dsimp only; omega
  unfold Du
  rw [dif_pos hr, dif_neg hn]
  rw [show (⟨(col b q).val - 2816, by have := (col b q).isLt; omega⟩ : Fin 2816) = ⟨(b.val - 2) * 1408 + q.val, hq⟩ from Fin.ext (by unfold col; dsimp only; omega)]
  rw [show ((X1 (ix2 ⟨(t.val + 1) * 256 + a.val, hr⟩ ⟨(b.val - 2) * 1408 + q.val, hq⟩) : ℝ) : EReal) = _ from (congrFun H.h1 (ix2 ⟨(t.val + 1) * 256 + a.val, hr⟩ ⟨(b.val - 2) * 1408 + q.val, hq⟩)).symm]
  refine (View.ld_unit_apply_of (S := S8x2816) _ _ _ _ _ (ix2 a ⟨(b.val - 2) * 1408 + q.val, hq⟩) (Fin.forall_fin_two.mpr ⟨?_, rfl⟩)).trans ?_
  · show a.val = 0 + a.val; omega
  · blk_ext [iblk, V, idx t]

omit H in
theorem pay_halo (t : Fin 16) (v : FVec Ideal S8x1408 .f32) (b : Fin 4)
    (hv : t.val < 15 → ∀ e q, v (ix2 e q) = ((Du X0 X1 ((t.val + 1) * 256 + e.val) (col b q) : ℝ) : EReal)) (e q) :
    k0_pay10 (F := Ideal) (grid0.coords t) v (ix2 e q) = ((Du X0 X1 ((t.val + 1) * 256 + e.val) (col b q) : ℝ) : EReal) := by
  unfold k0_pay10
  pointwise
  have hc : ∀ t : Fin 16, Scalar.cmpi CmpIPredicate.eq (BitVec.ofNat 32 (grid0.coords t 0).val) 15#32 = if t.val < 15 then 0#1 else 1#1 := by decide +kernel
  rw [hc]
  split
  · rename_i h
    exact hv h e q
  · rename_i h
    rw [Du_end X0 X1 (by omega)]
    rfl

omit H in
/-- One block of columns of the gradient of the convolution's input: `k` rows further down for each later tap. -/
theorem pay_dp (t : Fin 16) (b : Fin 4) (w2 w0 w1 : FVec Ideal S1x1408 .f32) (B : FVec Ideal S256x1408 .f32) (Hd : FVec Ideal S8x1408 .f32) (L L') (i0 i1 i0' i1' i2 i3)
    (h2 : ∀ z q, w2 (ix2 z q) = ((X2 (ix2 2 (col b q)) : ℝ) : EReal)) (h0 : ∀ z q, w0 (ix2 z q) = ((X2 (ix2 0 (col b q)) : ℝ) : EReal))
    (h1 : ∀ z q, w1 (ix2 z q) = ((X2 (ix2 1 (col b q)) : ℝ) : EReal))
    (hB : ∀ a q, B (ix2 a q) = ((Du X0 X1 (row t a) (col b q) : ℝ) : EReal))
    (hH : ∀ e q, Hd (ix2 e q) = ((Du X0 X1 ((t.val + 1) * 256 + e.val) (col b q) : ℝ) : EReal)) (a q) :
    k0_pay11 (F := Ideal) w2 B w0
      ((View.whole cc0_scratch0).readCov (Val := Elt Ideal) (e := .f32) (⟨Rect.unit (s := S264x1408) ![256, 0] ![8, 1408] i0, Hd⟩ :: ⟨Rect.unit (s := S264x1408) ![0, 0] ![256, 1408] i1, k0_pay9 (F := Ideal) B⟩ :: L)
        (Rect.unit (s := S264x1408) ![2, 0] ![256, 1408] i2).toLoadRect) w1
      ((View.whole cc0_scratch0).readCov (Val := Elt Ideal) (e := .f32) (⟨Rect.unit (s := S264x1408) ![256, 0] ![8, 1408] i0', Hd⟩ :: ⟨Rect.unit (s := S264x1408) ![0, 0] ![256, 1408] i1', k0_pay9 (F := Ideal) B⟩ :: L')
        (Rect.unit (s := S264x1408) ![1, 0] ![256, 1408] i3).toLoadRect) (ix2 a q)
    = ((DP X0 X1 X2 (row t a) (col b q) : ℝ) : EReal) := by
  have hB' : ∀ a q, k0_pay9 (F := Ideal) B (ix2 a q) = ((Du X0 X1 (row t a) (col b q) : ℝ) : EReal) := fun a q => by
    unfold k0_pay9; pointwise [hB]
  have hx : ∀ (k : ℕ) (hk : k ≤ 2), (if h : a.val + k < 256 then k0_pay9 (F := Ideal) B (ix2 ⟨a.val + k, h⟩ q) else Hd (ix2 ⟨a.val + k - 256, by omega⟩ q))
      = ((Du X0 X1 (row t a + k) (col b q) : ℝ) : EReal) := fun k hk => by
    split
    · rw [hB']
      unfold row; dsimp only; rw [Nat.add_assoc]
    · rw [hH]
      unfold row; dsimp only; rw [show (t.val + 1) * 256 + (a.val + k - 256) = t.val * 256 + a.val + k by omega]
  unfold k0_pay11
  pointwise [h0, h1, h2, hB, ext_read Hd (k0_pay9 (F := Ideal) B) _ _ i0 i1 2 (by omega) rfl i2 a q, ext_read Hd (k0_pay9 (F := Ideal) B) _ _ i0' i1' 1 (by omega) rfl i3 a q, hx 2 (by omega), hx 1 (by omega), ← EReal.coe_mul, ← EReal.coe_add]
  rfl

end

/-- One block of columns from the loads it takes. -/
abbrev d (w2 w0 w1 : FVec Ideal S1x1408 .f32) (B : FVec Ideal S256x1408 .f32) (Hd : FVec Ideal S8x1408 .f32) (L L' : List (View.Piece (Elt Ideal) S264x1408 .f32)) :=
  k0_pay11 (F := Ideal) w2 B w0
      ((View.whole cc0_scratch0).readCov (Val := Elt Ideal) (e := .f32) (⟨Rect.unit (s := S264x1408) ![256, 0] ![8, 1408] inb_S264x1408_S8x1408_256_0, Hd⟩ :: ⟨Rect.unit (s := S264x1408) ![0, 0] ![256, 1408] inb_S264x1408_S256x1408_0_0, k0_pay9 (F := Ideal) B⟩ :: L)
        (Rect.unit (s := S264x1408) ![2, 0] ![256, 1408] inb_S264x1408_S256x1408_2_0).toLoadRect) w1
      ((View.whole cc0_scratch0).readCov (Val := Elt Ideal) (e := .f32) (⟨Rect.unit (s := S264x1408) ![256, 0] ![8, 1408] inb_S264x1408_S8x1408_256_0, Hd⟩ :: ⟨Rect.unit (s := S264x1408) ![0, 0] ![256, 1408] inb_S264x1408_S256x1408_0_0, k0_pay9 (F := Ideal) B⟩ :: L')
        (Rect.unit (s := S264x1408) ![1, 0] ![256, 1408] inb_S264x1408_S256x1408_1_0).toLoadRect)

/-! The loads lie in their arrays. -/

theorem inb_w (k : Fin 3) (b : Fin 4) : ∀ a, ![k.val, b.val * 1408] a + ![1, 1408] a ≤ S3x5632.size a :=
  Fin.forall_fin_two.mpr ⟨show k.val + 1 ≤ 3 by omega, show b.val * 1408 + 1408 ≤ 5632 by omega⟩
theorem inb_t (b : ℕ) (hb : b < 2) : ∀ a, ![0, b * 1408] a + ![256, 1408] a ≤ S256x2816.size a :=
  Fin.forall_fin_two.mpr ⟨show 0 + 256 ≤ 256 by omega, show b * 1408 + 1408 ≤ 2816 by omega⟩
theorem inb_h (b : ℕ) (hb : b < 2) : ∀ a, ![0, b * 1408] a + ![8, 1408] a ≤ S8x2816.size a :=
  Fin.forall_fin_two.mpr ⟨show 0 + 8 ≤ 8 by omega, show b * 1408 + 1408 ≤ 2816 by omega⟩
theorem inb_u (b : Fin 4) : ∀ a, ![b.val, 0, 0] a + ![1, 1024, 1408] a ≤ S4x1024x1408.size a :=
  Fin.forall_fin_succ.mpr ⟨show b.val + 1 ≤ 4 by omega, Fin.forall_fin_two.mpr ⟨show 0 + 1024 ≤ 1024 by omega, show 0 + 1408 ≤ 1408 by omega⟩⟩

theorem pay_acc (acc : FVec Ideal S256x1024 .f32) (d : FVec Ideal S256x1408 .bf16) (w : FVec Ideal S1x1024x1408 .bf16) (a k) :
    k0_pay12 (F := Ideal) acc d w (ix2 a k) = acc (ix2 a k) + ∑ q, d (ix2 a q) * w (ix3 0 k q) := by
  unfold k0_pay12
  pointwise

/-- A block of columns of the first half, over whatever the scratch held before; -/
abbrev dA (t : Fin 16) (b : Fin 4) (hb : b.val < 2) (L L' : List (View.Piece (Elt Ideal) S264x1408 .f32)) :=
  d (View.ld (iblk m c 4 t) (Rect.unit (s := S3x5632) ![2, b.val * 1408] ![1, 1408] (inb_w 2 b))) (View.ld (iblk m c 4 t) (Rect.unit (s := S3x5632) ![0, b.val * 1408] ![1, 1408] (inb_w 0 b)))
    (View.ld (iblk m c 4 t) (Rect.unit (s := S3x5632) ![1, b.val * 1408] ![1, 1408] (inb_w 1 b)))
    (View.ld (iblk m c 0 t) (Rect.unit (s := S256x2816) ![0, b.val * 1408] ![256, 1408] (inb_t b.val hb)))
    (k0_pay10 (F := Ideal) (grid0.coords t) (View.ld (iblk m c 1 t) (Rect.unit (s := S8x2816) ![0, b.val * 1408] ![8, 1408] (inb_h b.val hb)))) L L'

/-- of the second half. -/
abbrev dB (t : Fin 16) (b : Fin 4) (L L' : List (View.Piece (Elt Ideal) S264x1408 .f32)) :=
  d (View.ld (iblk m c 4 t) (Rect.unit (s := S3x5632) ![2, b.val * 1408] ![1, 1408] (inb_w 2 b))) (View.ld (iblk m c 4 t) (Rect.unit (s := S3x5632) ![0, b.val * 1408] ![1, 1408] (inb_w 0 b)))
    (View.ld (iblk m c 4 t) (Rect.unit (s := S3x5632) ![1, b.val * 1408] ![1, 1408] (inb_w 1 b)))
    (View.ld (iblk m c 2 t) (Rect.unit (s := S256x2816) ![0, (b.val - 2) * 1408] ![256, 1408] (inb_t (b.val - 2) (by omega))))
    (k0_pay10 (F := Ideal) (grid0.coords t) (View.ld (iblk m c 3 t) (Rect.unit (s := S8x2816) ![0, (b.val - 2) * 1408] ![8, 1408] (inb_h (b.val - 2) (by omega))))) L L'

abbrev uu (t : Fin 16) (b : Fin 4) := View.ld (iblk m c 5 t) (Rect.unit (s := S4x1024x1408) ![b.val, 0, 0] ![1, 1024, 1408] (inb_u b))

section
variable (H : Args X0 X1 X2 X3 X4 X5 X6 X7 X8 m c)
include H

theorem pay_dA (t : Fin 16) (b : Fin 4) (hb : b.val < 2) (L L') (a q) : dA m c t b hb L L' (ix2 a q) = ((DP X0 X1 X2 (row t a) (col b q) : ℝ) : EReal) :=
  pay_dp X0 X1 X2 t b _ _ _ _ _ L L' _ _ _ _ _ _ (bw X0 X1 X2 X3 X4 X5 X6 X7 X8 m c H t _ _ 2 b rfl) (bw X0 X1 X2 X3 X4 X5 X6 X7 X8 m c H t _ _ 0 b rfl) (bw X0 X1 X2 X3 X4 X5 X6 X7 X8 m c H t _ _ 1 b rfl)
    (b0 X0 X1 X2 X3 X4 X5 X6 X7 X8 m c H t _ _ b hb rfl) (pay_halo X0 X1 t _ b fun ht => h0 X0 X1 X2 X3 X4 X5 X6 X7 X8 m c H t ht _ _ b hb rfl) a q

theorem pay_dB (t : Fin 16) (b : Fin 4) (hb : 2 ≤ b.val) (L L') (a q) : dB m c t b L L' (ix2 a q) = ((DP X0 X1 X2 (row t a) (col b q) : ℝ) : EReal) :=
  pay_dp X0 X1 X2 t b _ _ _ _ _ L L' _ _ _ _ _ _ (bw X0 X1 X2 X3 X4 X5 X6 X7 X8 m c H t _ _ 2 b rfl) (bw X0 X1 X2 X3 X4 X5 X6 X7 X8 m c H t _ _ 0 b rfl) (bw X0 X1 X2 X3 X4 X5 X6 X7 X8 m c H t _ _ 1 b rfl)
    (b1 X0 X1 X2 X3 X4 X5 X6 X7 X8 m c H t _ _ b hb rfl) (pay_halo X0 X1 t _ b fun ht => h1 X0 X1 X2 X3 X4 X5 X6 X7 X8 m c H t ht _ _ b hb rfl) a q

/-- A block of rows of the gradient of the up-projection's input. -/
theorem pay_dh (t : Fin 16) (L0 L0' L1 L1' L2 L2' L3 L3') (a k) :
    k0_pay24 (F := Ideal) (k0_pay20 (F := Ideal) (k0_pay16 (F := Ideal) (k0_pay12 (F := Ideal) (k0_pay8 (F := Ideal)) (dA m c t 0 (by decide) L0 L0') (uu m c t 0)) (dA m c t 1 (by decide) L1 L1') (uu m c t 1))
      (dB m c t 2 L2 L2') (uu m c t 2)) (dB m c t 3 L3 L3') (uu m c t 3) (ix2 a k) = ((DH X0 X1 X2 X3 (row t a) k : ℝ) : EReal) := by
  have hu := fun b z k q => bu X0 X1 X2 X3 X4 X5 X6 X7 X8 m c H t ![b.val, 0, 0] (inb_u b) b rfl z k q
  have hA := pay_dA X0 X1 X2 X3 X4 X5 X6 X7 X8 m c H t
  have hB := pay_dB X0 X1 X2 X3 X4 X5 X6 X7 X8 m c H t
  refine (pay_acc _ _ _ _ _).trans ((congrArg (· + _) ((pay_acc _ _ _ _ _).trans (congrArg (· + _) ((pay_acc _ _ _ _ _).trans (congrArg (· + _) (pay_acc _ _ _ _ _)))))).trans ?_)
  rw [show k0_pay8 (F := Ideal) (ix2 a k) = ((0 : ℝ) : EReal) from by unfold k0_pay8; pointwise; rfl]
  simp only [hA, hB _ (by decide : 2 ≤ (2 : Fin 4).val), hB _ (by decide : 2 ≤ (3 : Fin 4).val), hu, ← EReal.coe_mul, sum_coe, ← EReal.coe_add]
  congr 1
  unfold DH
  rw [← sum_cols, Fin.sum_univ_four, zero_add]

theorem pay_r (t : Fin 16) (a) (z) : k0_pay27 (F := Ideal) (iblk m c 6 t) (ix2 a z) = (((√(M X4 (row t a)))⁻¹ : ℝ) : EReal) := by
  unfold k0_pay27
  pointwise [bx X0 X1 X2 X3 X4 X5 X6 X7 X8 m c H, ofBits_1024, ofBits_eps, ← EReal.coe_mul, sum_coe]
  rw [div_coe' (by norm_num), ← EReal.coe_add]
  exact rsqrt_coe' (M_pos X4 _)

theorem pay_n (t : Fin 16) (a k) : k0_pay28 (F := Ideal) (iblk m c 6 t) (ix2 a k) = ((N X4 (row t a) k : ℝ) : EReal) := by
  unfold k0_pay28
  pointwise [bx X0 X1 X2 X3 X4 X5 X6 X7 X8 m c H, pay_r X0 X1 X2 X3 X4 X5 X6 X7 X8 m c H, ← EReal.coe_mul]
  rfl

variable (v94 : FVec Ideal S256x1024 .f32) (v119 : FVec Ideal S256x1408 .bf16) (v121 : FVec Ideal S1x1024x1408 .bf16) (t : Fin 16)
  (hD : ∀ a k, k0_pay24 (F := Ideal) v94 v119 v121 (ix2 a k) = ((DH X0 X1 X2 X3 (row t a) k : ℝ) : EReal))
include hD

theorem pay_dx (a k) : k0_pay1 (F := Ideal) (iblk m c 7 t) (k0_pay27 (iblk m c 6 t)) (k0_pay28 (iblk m c 6 t)) (k0_pay33 v94 v119 v121 (iblk m c 8 t) (iblk m c 9 t))
    (k0_pay34 v94 v119 v121 (iblk m c 6 t) (iblk m c 8 t) (iblk m c 9 t)) (FloatOps.ofBits FTy.f32 1149239296#32) (ix2 a k) = ((DX X0 X1 X2 X3 X4 X5 X6 X8 (row t a) k : ℝ) : EReal) := by
  unfold k0_pay1 k0_pay34 k0_pay33 k0_pay25 k0_pay26
  pointwise [pay_n X0 X1 X2 X3 X4 X5 X6 X7 X8 m c H, hD, br X0 X1 X2 X3 X4 X5 X6 X7 X8 m c H, bg X0 X1 X2 X3 X4 X5 X6 X7 X8 m c H, bs X0 X1 X2 X3 X4 X5 X6 X7 X8 m c H, ofBits_1024,
    pay_r X0 X1 X2 X3 X4 X5 X6 X7 X8 m c H, ← EReal.coe_mul, sum_coe, div_coe' (by norm_num : (1024 : ℝ) ≠ 0), ← EReal.coe_sub, ← EReal.coe_add]
  rfl

theorem term_sh (acc : FVec Ideal S1x1024 .f32) (z k) : k0_pay2 (F := Ideal) (k0_pay29 v94 v119 v121) acc (ix2 z k) = acc (ix2 z k) + ((∑ a, DH X0 X1 X2 X3 (row t a) k : ℝ) : EReal) := by
  unfold k0_pay2 k0_pay29
  pointwise [hD, sum_coe]

theorem term_sc (acc : FVec Ideal S1x1024 .f32) (z k) : k0_pay3 (F := Ideal) (k0_pay31 v94 v119 v121 (iblk m c 6 t) (iblk m c 8 t)) acc (ix2 z k)
    = acc (ix2 z k) + ((∑ a, DH X0 X1 X2 X3 (row t a) k * N X4 (row t a) k * X6 (ix1 k) : ℝ) : EReal) := by
  unfold k0_pay3 k0_pay31 k0_pay30 k0_pay25
  pointwise [pay_n X0 X1 X2 X3 X4 X5 X6 X7 X8 m c H, hD, bg X0 X1 X2 X3 X4 X5 X6 X7 X8 m c H, ← EReal.coe_mul, sum_coe]

theorem term_g (acc : FVec Ideal S1x1024 .f32) (z k) : k0_pay4 (F := Ideal) (k0_pay32 v94 v119 v121 (iblk m c 6 t) (iblk m c 9 t)) acc (ix2 z k)
    = acc (ix2 z k) + ((∑ a, DH X0 X1 X2 X3 (row t a) k * N X4 (row t a) k * (1 + X8 (ix2 0 k)) : ℝ) : EReal) := by
  unfold k0_pay4 k0_pay32 k0_pay30 k0_pay26
  pointwise [pay_n X0 X1 X2 X3 X4 X5 X6 X7 X8 m c H, hD, bs X0 X1 X2 X3 X4 X5 X6 X7 X8 m c H, ← EReal.coe_mul, sum_coe]

omit hD
omit v94 v119 v121 t

theorem out10 : (dats m 0 c).arrAt 10 (cfgs 0).N = Reference3Ideal.Read.val_main_v92 (F := Ideal) (up X0) (up X1) (up X2) (up X3) (up X4) (up X5) (up X6) (up X8) := by
  refine (dats m 0 c).arrAt_eq_of_covers 10 _ (by decide +kernel) fun t hf y => ?_
  have e : (((cfgs 0).win 10).blk t).view.emb y = ix2 (row t (y 0)) (y 1) := by blk_ext [idx t, row]
  have ej : y = ix2 (y 0) (y 1) := by blk_ext []
  rw [e]
  blk_simp
  rw [after0_10]
  by_cases h : t.val % 16 = 0
  · rw [outsAt0_A m c t h]
    frame_out
    exact (congrArg _ ej).trans ((pay_dx X0 X1 X2 X3 X4 X5 X6 X7 X8 m c H _ _ _ t (pay_dh X0 X1 X2 X3 X4 X5 X6 X7 X8 m c H t _ _ _ _ _ _ _ _) (y 0) (y 1)).trans (ref_dx X0 X1 X2 X3 X4 X5 X6 X8 _ _).symm)
  · rw [outsAt0_B m c t h]
    frame_out
    exact (congrArg _ ej).trans ((pay_dx X0 X1 X2 X3 X4 X5 X6 X7 X8 m c H _ _ _ t (pay_dh X0 X1 X2 X3 X4 X5 X6 X7 X8 m c H t _ _ _ _ _ _ _ _) (y 0) (y 1)).trans (ref_dx X0 X1 X2 X3 X4 X5 X6 X8 _ _).symm)

omit H in
/-- A stored block of columns is the reference's. -/
theorem tile (t : Fin 16) (b : Fin 4) (y : S256x5632.Idx) (x : S256x1408.Idx) (w : FVec Ideal S256x1408 .bf16)
    (hw : ∀ a q, w (ix2 a q) = ((DP X0 X1 X2 (row t a) (col b q) : ℝ) : EReal)) (e0 : (y 0).val = (x 0).val) (e1 : (y 1).val = b.val * 1408 + (x 1).val) :
    w x = Reference3Ideal.Read.val_main_v93 (F := Ideal) (up X0) (up X1) (up X2) (ix2 (row t (y 0)) (y 1)) := by
  have ex : x = ix2 (x 0) (x 1) := by blk_ext []
  refine (congrArg _ ex).trans ((hw _ _).trans (Eq.trans ?_ (ref_dp X0 X1 X2 _ _).symm))
  rw [show y 0 = x 0 from Fin.ext e0, show y 1 = col b (x 1) from Fin.ext e1]

omit H in
/-- The four blocks side by side. -/
theorem tiles (t : Fin 16) (y : S256x5632.Idx) (w0 w1 w2 w3 : FVec Ideal S256x1408 .bf16) (i0 i1 i2 i3)
    (g0 : ∀ a q, w0 (ix2 a q) = ((DP X0 X1 X2 (row t a) (col 0 q) : ℝ) : EReal)) (g1 : ∀ a q, w1 (ix2 a q) = ((DP X0 X1 X2 (row t a) (col 1 q) : ℝ) : EReal))
    (g2 : ∀ a q, w2 (ix2 a q) = ((DP X0 X1 X2 (row t a) (col 2 q) : ℝ) : EReal)) (g3 : ∀ a q, w3 (ix2 a q) = ((DP X0 X1 X2 (row t a) (col 3 q) : ℝ) : EReal)) :
    View.canon (Val := Elt Ideal) (e := .bf16) [⟨Rect.unit (s := S256x5632) ![0, 4224] ![256, 1408] i3, w3⟩, ⟨Rect.unit (s := S256x5632) ![0, 2816] ![256, 1408] i2, w2⟩,
      ⟨Rect.unit (s := S256x5632) ![0, 1408] ![256, 1408] i1, w1⟩, ⟨Rect.unit (s := S256x5632) ![0, 0] ![256, 1408] i0, w0⟩] y
    = Reference3Ideal.Read.val_main_v93 (F := Ideal) (up X0) (up X1) (up X2) (ix2 (row t (y 0)) (y 1)) := by
  canon_tiles x h using View.cover_of_tiledL (s := S256x5632) _ ![256, 1408] (by sl_kernel_rfl) y
  · exact tile X0 X1 X2 t 3 y x _ g3 (by omega) (by omega)
  · exact tile X0 X1 X2 t 2 y x _ g2 (by omega) (by omega)
  · exact tile X0 X1 X2 t 1 y x _ g1 (by omega) (by omega)
  · exact tile X0 X1 X2 t 0 y x _ g0 (by omega) (by omega)

theorem out11 : (dats m 0 c).arrAt 11 (cfgs 0).N = Reference3Ideal.Read.val_main_v93 (F := Ideal) (up X0) (up X1) (up X2) := by
  refine (dats m 0 c).arrAt_eq_of_covers 11 _ (by decide +kernel) fun t hf y => ?_
  have e : (((cfgs 0).win 11).blk t).view.emb y = ix2 (row t (y 0)) (y 1) := by blk_ext [idx t, row]
  have hA := pay_dA X0 X1 X2 X3 X4 X5 X6 X7 X8 m c H t
  have hB := pay_dB X0 X1 X2 X3 X4 X5 X6 X7 X8 m c H t
  rw [e]
  blk_simp
  rw [after0_11]
  by_cases h : t.val % 16 = 0
  · rw [outsAt0_A m c t h]
    frame_out
    exact tiles X0 X1 X2 t y _ _ _ _ _ _ _ _ (hA 0 (by decide) _ _) (hA 1 (by decide) _ _) (hB 2 (by decide) _ _) (hB 3 (by decide) _ _)
  · rw [outsAt0_B m c t h]
    frame_out
    exact tiles X0 X1 X2 t y _ _ _ _ _ _ _ _ (hA 0 (by decide) _ _) (hA 1 (by decide) _ _) (hB 2 (by decide) _ _) (hB 3 (by decide) _ _)

theorem out12 : (dats m 0 c).arrAt 12 (cfgs 0).N = Reference3Ideal.Read.val_main_v66 (F := Ideal) (up X0) (up X1) (up X2) (up X3) := by
  refine (dats m 0 c).arrAt_eq_of_after_last 12 t0_15 (by decide +kernel) _ fun j => ?_
  have e : (cfg0.win 12).arr.view.emb j = ix2 (j 0) (j 1) := by blk_ext []
  rw [e]
  refine Eq.trans ?_ (ref_sh X0 X1 X2 X3 _ _).symm
  blk_simp
  rw [after0_12]
  refine (Pipeline.eq_sum_fin_of_reset_step_apply_last (fun n h => (outsAt0 m c n h).2.2.1) 16 (fun _ => (0 : EReal))
    (fun t j => ((∑ a, DH X0 X1 X2 X3 (row t a) (j 1) : ℝ) : EReal)) ?_ ?_ (by decide) t0_15 rfl j).trans ?_
  · intro t h j
    have ej : j = ix2 (j 0) (j 1) := by blk_ext []
    rw [outsAt0_A m c t h]
    frame_out
    refine (congrArg _ ej).trans ((term_sh X0 X1 X2 X3 X4 X5 X6 X7 X8 m c H _ _ _ t (pay_dh X0 X1 X2 X3 X4 X5 X6 X7 X8 m c H t _ _ _ _ _ _ _ _) _ (j 0) (j 1)).trans (congrArg (· + _) ?_))
    unfold k0_pay5
    pointwise
  · intro t h j
    have ej : j = ix2 (j 0) (j 1) := by blk_ext []
    rw [outsAt0_B m c t h]
    frame_out
    exact (congrArg _ ej).trans ((term_sh X0 X1 X2 X3 X4 X5 X6 X7 X8 m c H _ _ _ t (pay_dh X0 X1 X2 X3 X4 X5 X6 X7 X8 m c H t _ _ _ _ _ _ _ _) _ (j 0) (j 1)).trans (congrArg (· + _) (congrArg _ ej.symm)))
  · rw [sum_coe, zero_add]
    refine congrArg _ (Eq.trans ?_ (sum_rows _))
    rfl

theorem out13 : (dats m 0 c).arrAt 13 (cfgs 0).N = Reference3Ideal.Read.val_main_v69 (F := Ideal) (up X0) (up X1) (up X2) (up X3) (up X4) (up X6) := by
  refine (dats m 0 c).arrAt_eq_of_after_last 13 t0_15 (by decide +kernel) _ fun j => ?_
  have e : (cfg0.win 13).arr.view.emb j = ix2 (j 0) (j 1) := by blk_ext []
  rw [e]
  refine Eq.trans ?_ (ref_sc X0 X1 X2 X3 X4 X6 _ _).symm
  blk_simp
  rw [after0_13]
  refine (Pipeline.eq_sum_fin_of_reset_step_apply_last (fun n h => (outsAt0 m c n h).2.2.2.1) 16 (fun _ => (0 : EReal))
    (fun t j => ((∑ a, DH X0 X1 X2 X3 (row t a) (j 1) * N X4 (row t a) (j 1) * X6 (ix1 (j 1)) : ℝ) : EReal)) ?_ ?_ (by decide) t0_15 rfl j).trans ?_
  · intro t h j
    have ej : j = ix2 (j 0) (j 1) := by blk_ext []
    rw [outsAt0_A m c t h]
    frame_out
    refine (congrArg _ ej).trans ((term_sc X0 X1 X2 X3 X4 X5 X6 X7 X8 m c H _ _ _ t (pay_dh X0 X1 X2 X3 X4 X5 X6 X7 X8 m c H t _ _ _ _ _ _ _ _) _ (j 0) (j 1)).trans (congrArg (· + _) ?_))
    unfold k0_pay6
    pointwise
  · intro t h j
    have ej : j = ix2 (j 0) (j 1) := by blk_ext []
    rw [outsAt0_B m c t h]
    frame_out
    exact (congrArg _ ej).trans ((term_sc X0 X1 X2 X3 X4 X5 X6 X7 X8 m c H _ _ _ t (pay_dh X0 X1 X2 X3 X4 X5 X6 X7 X8 m c H t _ _ _ _ _ _ _ _) _ (j 0) (j 1)).trans (congrArg (· + _) (congrArg _ ej.symm)))
  · rw [sum_coe, zero_add]
    refine congrArg _ (Eq.trans ?_ (sum_rows _))
    exact Finset.sum_congr rfl fun p _ => Finset.sum_congr rfl fun a _ => by ring

theorem out14 : (dats m 0 c).arrAt 14 (cfgs 0).N = Reference3Ideal.Read.val_main_v94 (F := Ideal) (up X0) (up X1) (up X2) (up X3) (up X4) (up X8) := by
  refine (dats m 0 c).arrAt_eq_of_after_last 14 t0_15 (by decide +kernel) _ fun j => ?_
  have e : (cfg0.win 14).arr.view.emb j = ix2 (j 0) (j 1) := by blk_ext []
  rw [e]
  refine Eq.trans ?_ (ref_dg X0 X1 X2 X3 X4 X8 _ _).symm
  blk_simp
  rw [after0_14]
  refine (Pipeline.eq_sum_fin_of_reset_step_apply_last (fun n h => (outsAt0 m c n h).2.2.2.2) 16 (fun _ => (0 : EReal))
    (fun t j => ((∑ a, DH X0 X1 X2 X3 (row t a) (j 1) * N X4 (row t a) (j 1) * (1 + X8 (ix2 0 (j 1))) : ℝ) : EReal)) ?_ ?_ (by decide) t0_15 rfl j).trans ?_
  · intro t h j
    have ej : j = ix2 (j 0) (j 1) := by blk_ext []
    rw [outsAt0_A m c t h]
    frame_out
    refine (congrArg _ ej).trans ((term_g X0 X1 X2 X3 X4 X5 X6 X7 X8 m c H _ _ _ t (pay_dh X0 X1 X2 X3 X4 X5 X6 X7 X8 m c H t _ _ _ _ _ _ _ _) _ (j 0) (j 1)).trans (congrArg (· + _) ?_))
    unfold k0_pay7
    pointwise
  · intro t h j
    have ej : j = ix2 (j 0) (j 1) := by blk_ext []
    rw [outsAt0_B m c t h]
    frame_out
    exact (congrArg _ ej).trans ((term_g X0 X1 X2 X3 X4 X5 X6 X7 X8 m c H _ _ _ t (pay_dh X0 X1 X2 X3 X4 X5 X6 X7 X8 m c H t _ _ _ _ _ _ _ _) _ (j 0) (j 1)).trans (congrArg (· + _) (congrArg _ ej.symm)))
  · rw [sum_coe, zero_add]
    refine congrArg _ (Eq.trans ?_ (sum_rows _))
    exact Finset.sum_congr rfl fun p _ => Finset.sum_congr rfl fun a _ => by ring

omit H

instance : Cert.Pre_finite3.Facts where
  bcast_S_S4096x2816 := by decide
  bcast_S_S3x5632 := by decide
  bcast_S_S1024x5632 := by decide
  bcast_S_S4096x1024 := by decide
  bcast_S_S1024 := by decide
  bcast_S_S1x1024 := by decide

omit X0 X1 X2 X3 X4 X5 X6 X7 X8 in
/-- Finite arguments are arrays of reals. -/
theorem args (h : Cert.Pre_Kernel3Ideal_finite3 m) : ∃ X0 X1 X2 X3 X4 X5 X6 X7 X8, Args X0 X1 X2 X3 X4 X5 X6 X7 X8 m c := by
  obtain ⟨h0, h1, h2, h3, h4, h5, h6, h7, h8⟩ := h c
  obtain ⟨X0, e0⟩ := exists_reals (fun _ => ofBits_inf) h0
  obtain ⟨X1, e1⟩ := exists_reals (fun _ => ofBits_inf) h1
  obtain ⟨X2, e2⟩ := exists_reals (fun _ => ofBits_inf) h2
  obtain ⟨X3, e3⟩ := exists_reals (fun _ => ofBits_inf) h3
  obtain ⟨X4, e4⟩ := exists_reals (fun _ => ofBits_inf) h4
  obtain ⟨X5, e5⟩ := exists_reals (fun _ => ofBits_inf) h5
  obtain ⟨X6, e6⟩ := exists_reals (fun _ => ofBits_inf) h6
  obtain ⟨X7, e7⟩ := exists_reals (fun _ => ofBits_inf) h7
  obtain ⟨X8, e8⟩ := exists_reals (fun _ => ofBits_inf) h8
  exact ⟨X0, X1, X2, X3, X4, X5, X6, X7, X8, e0, e1, e2, e3, e4, e5, e6, e7, e8⟩

/-- An argument of the reference. -/
abbrev arg (m' : (ℓ : Loc Reference3Ideal.nD Reference3Ideal.τ Reference3Ideal.sig) → Buf (Elt Ideal) ℓ) (c : Dev Reference3Ideal.nD) (r : Ref Reference3Ideal.sig .tc) :=
  m' ((c.tc : Thread Reference3Ideal.nD Reference3Ideal.τ).loc r)

open Reference3Ideal Reference3Ideal.Read in
theorem algebraic : Cert.algebraic_Kernel3Ideal_Reference3Ideal_pre_finite3 := by
  intro m g m' g' hpre hagree
  refine ⟨fun c => (dats m 0 c).arrAt 10 (cfgs 0).N, fun c => (dats m 0 c).arrAt 11 (cfgs 0).N, fun c => (dats m 0 c).arrAt 12 (cfgs 0).N, fun c => (dats m 0 c).arrAt 13 (cfgs 0).N, fun c => (dats m 0 c).arrAt 14 (cfgs 0).N,
    Cert.Kernel3Ideal.Value.run_blocks m g,
    (θ_run _ _ _).mono (fun r h c => ?_) (Cert.Reference3Ideal.Value.run m' g')⟩
  obtain ⟨X0, X1, X2, X3, X4, X5, X6, X7, X8, H⟩ := args m c hpre
  obtain ⟨a0, a1, a2, a3, a4, a5, a6, a7, a8⟩ := hagree c
  obtain ⟨r0, r1, r2, r3, r4, k⟩ := h c
  have e0 : arg m' c Reference3Ideal.main_arg0 = up X0 := a0.trans H.h0
  have e1 : arg m' c Reference3Ideal.main_arg1 = up X1 := a1.trans H.h1
  have e2 : arg m' c Reference3Ideal.main_arg2 = up X2 := a2.trans H.h2
  have e3 : arg m' c Reference3Ideal.main_arg3 = up X3 := a3.trans H.h3
  have e4 : arg m' c Reference3Ideal.main_arg4 = up X4 := a4.trans H.h4
  have e5 : arg m' c Reference3Ideal.main_arg5 = up X5 := a5.trans H.h5
  have e6 : arg m' c Reference3Ideal.main_arg6 = up X6 := a6.trans H.h6
  have e7 : arg m' c Reference3Ideal.main_arg7 = up X7 := a7.trans H.h7
  have e8 : arg m' c Reference3Ideal.main_arg8 = up X8 := a8.trans H.h8
  refine ⟨r0.trans ?_, r1.trans ?_, r2.trans ?_, r3.trans ?_, r4.trans ?_, k⟩
  · refine (val_main_v92_eq m' c).trans ?_
    refine (show _ = val_main_v92 (F := Ideal) (arg m' c Reference3Ideal.main_arg0) (arg m' c Reference3Ideal.main_arg1) (arg m' c Reference3Ideal.main_arg2) (arg m' c Reference3Ideal.main_arg3) (arg m' c Reference3Ideal.main_arg4) (arg m' c Reference3Ideal.main_arg5) (arg m' c Reference3Ideal.main_arg6) (arg m' c Reference3Ideal.main_arg8) from rfl).trans ?_
    rw [e0, e1, e2, e3, e4, e5, e6, e8]
    exact (out10 X0 X1 X2 X3 X4 X5 X6 X7 X8 m c H).symm
  · refine (show _ = val_main_v93 (F := Ideal) (arg m' c Reference3Ideal.main_arg0) (arg m' c Reference3Ideal.main_arg1) (arg m' c Reference3Ideal.main_arg2) from rfl).trans ?_
    rw [e0, e1, e2]
    exact (out11 X0 X1 X2 X3 X4 X5 X6 X7 X8 m c H).symm
  · refine (show _ = val_main_v66 (F := Ideal) (arg m' c Reference3Ideal.main_arg0) (arg m' c Reference3Ideal.main_arg1) (arg m' c Reference3Ideal.main_arg2) (arg m' c Reference3Ideal.main_arg3) from rfl).trans ?_
    rw [e0, e1, e2, e3]
    exact (out12 X0 X1 X2 X3 X4 X5 X6 X7 X8 m c H).symm
  · refine (show _ = val_main_v69 (F := Ideal) (arg m' c Reference3Ideal.main_arg0) (arg m' c Reference3Ideal.main_arg1) (arg m' c Reference3Ideal.main_arg2) (arg m' c Reference3Ideal.main_arg3) (arg m' c Reference3Ideal.main_arg4) (arg m' c Reference3Ideal.main_arg6) from rfl).trans ?_
    rw [e0, e1, e2, e3, e4, e6]
    exact (out13 X0 X1 X2 X3 X4 X5 X6 X7 X8 m c H).symm
  · refine (show _ = val_main_v94 (F := Ideal) (arg m' c Reference3Ideal.main_arg0) (arg m' c Reference3Ideal.main_arg1) (arg m' c Reference3Ideal.main_arg2) (arg m' c Reference3Ideal.main_arg3) (arg m' c Reference3Ideal.main_arg4) (arg m' c Reference3Ideal.main_arg8) from rfl).trans ?_
    rw [e0, e1, e2, e3, e4, e8]
    exact (out14 X0 X1 X2 X3 X4 X5 X6 X7 X8 m c H).symm

end

end Cert.FfnIn
end
-- ==== Proof.MixBRows.lean ====
/- Tiles stored into an array and read back, a row of shifted copies among them: what an entry holds, by the store it lies in. -/
module

public import proofs.«01_k».proof.Defs
public import proofs.«01_k».proof.Proof.Lift
public import proofs.«01_k».proof.Proof.Stores
public import proofs.«01_k».proof.Proof.Gen.Kernel4Ideal.Skeleton
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MixB

open Cert.Kernel4Ideal Cert.Kernel4Ideal.Gen Idealize.ShloMosaic Idealize.ShloMosaic.TcCoe Cert.Lift

/-- A tile stored last: its own entry on it, what was there before off it. -/
theorem canon_tile {R C : ℕ} {e : EltTy} (p0 p1 n0 n1 : ℕ) (inb) (A : (⟨2, ![n0, n1]⟩ : Shape).Idx → Elt Ideal e) (L) (y : (⟨2, ![R, C]⟩ : Shape).Idx) (v)
    (hA : ∀ (a : Fin n0) (b : Fin n1), (y 0).val = p0 + a.val → (y 1).val = p1 + b.val → A (ix2 a b) = v)
    (hL : ¬(p0 ≤ (y 0).val ∧ (y 0).val < p0 + n0 ∧ p1 ≤ (y 1).val ∧ (y 1).val < p1 + n1) → View.canon (Val := Elt Ideal) L y = v) :
    View.canon (Val := Elt Ideal) (⟨Rect.unit (s := ⟨2, ![R, C]⟩) ![p0, p1] ![n0, n1] inb, A⟩ :: L) y = v := by
  by_cases h : p0 ≤ (y 0).val ∧ (y 0).val < p0 + n0 ∧ p1 ≤ (y 1).val ∧ (y 1).val < p1 + n1
  · refine (Stores.canon_at (Val := Elt Ideal) (e := e) (s := ⟨2, ![R, C]⟩) ![p0, p1] ![n0, n1] inb A L y (ix2 ⟨(y 0).val - p0, by omega⟩ ⟨(y 1).val - p1, by omega⟩) ?_).trans
      (hA ⟨(y 0).val - p0, by omega⟩ ⟨(y 1).val - p1, by omega⟩ (by dsimp only; omega) (by dsimp only; omega))
    refine Fin.forall_fin_two.mpr ⟨?_, ?_⟩
    · show (y 0).val = p0 + ((y 0).val - p0); omega
    · show (y 1).val = p1 + ((y 1).val - p1); omega
  · refine Eq.trans ?_ (hL h)
    by_cases g : p0 ≤ (y 0).val ∧ (y 0).val < p0 + n0
    · exact Stores.canon_off (Val := Elt Ideal) (e := e) (s := ⟨2, ![R, C]⟩) ![p0, p1] ![n0, n1] inb A L y 1 (by show (y 1).val < p1 ∨ p1 + n1 ≤ (y 1).val; omega)
    · exact Stores.canon_off (Val := Elt Ideal) (e := e) (s := ⟨2, ![R, C]⟩) ![p0, p1] ![n0, n1] inb A L y 0 (by show (y 0).val < p0 ∨ p0 + n0 ≤ (y 0).val; omega)

/-- The same of one of several copies side by side. -/
theorem canon_copy {B R C : ℕ} {e : EltTy} (b n : ℕ) (inb) (A : (⟨3, ![1, n, C]⟩ : Shape).Idx → Elt Ideal e) (L) (y : (⟨3, ![B, R, C]⟩ : Shape).Idx) (v) (hn : R ≤ n)
    (hA : (y 0).val = b → ∀ a : Fin n, (y 1).val = a.val → A (ix3 0 a (y 2)) = v)
    (hL : (y 0).val ≠ b → View.canon (Val := Elt Ideal) L y = v) :
    View.canon (Val := Elt Ideal) (⟨Rect.unit (s := ⟨3, ![B, R, C]⟩) ![b, 0, 0] ![1, n, C] inb, A⟩ :: L) y = v := by
  by_cases h : (y 0).val = b
  · have h1 : (y 1).val < n := lt_of_lt_of_le (y 1).isLt hn
    refine (Stores.canon_at (Val := Elt Ideal) (e := e) (s := ⟨3, ![B, R, C]⟩) ![b, 0, 0] ![1, n, C] inb A L y (ix3 0 ⟨(y 1).val, h1⟩ (y 2)) ?_).trans (hA h ⟨(y 1).val, h1⟩ rfl)
    refine Fin.forall_fin_succ.mpr ⟨?_, Fin.forall_fin_two.mpr ⟨?_, ?_⟩⟩
    · show (y 0).val = b + 0; omega
    · show (y 1).val = 0 + (y 1).val; omega
    · show (y 2).val = 0 + (y 2).val; omega
  · exact (Stores.canon_off (Val := Elt Ideal) (e := e) (s := ⟨3, ![B, R, C]⟩) ![b, 0, 0] ![1, n, C] inb A L y 0 (by show (y 0).val < b ∨ b + 1 ≤ (y 0).val; omega)).trans (hL h)

/-- A tile read back. -/
theorem read_tile {R C : ℕ} {e : EltTy} {sp} (u : View sig .tc sp ⟨2, ![R, C]⟩ e) (L) (f : ℕ → ℕ → Elt Ideal e) (h : ∀ y : (⟨2, ![R, C]⟩ : Shape).Idx, View.canon (Val := Elt Ideal) L y = f (y 0) (y 1))
    (p0 p1 n0 n1 : ℕ) (inb) (a : Fin n0) (b : Fin n1) :
    u.readCov (Val := Elt Ideal) L (Rect.unit (s := ⟨2, ![R, C]⟩) ![p0, p1] ![n0, n1] inb).toLoadRect (ix2 a b) = f (p0 + a) (p1 + b) := by
  rw [View.readCov_eq_canon']
  refine (h _).trans ?_
  exact congrArg₂ f (Rect.idx_unit_val (s := ⟨2, ![R, C]⟩) ![p0, p1] ![n0, n1] inb (ix2 a b) 0) (Rect.idx_unit_val (s := ⟨2, ![R, C]⟩) ![p0, p1] ![n0, n1] inb (ix2 a b) 1)

section rows
variable {sp sp' : Space} (u : View sig .tc sp S288x384 .f32) (u' : View sig .tc sp' S7x280x384 .f32)
  (L : List (View.Piece (Elt Ideal) S288x384 .f32)) (L' : List (View.Piece (Elt Ideal) S7x280x384 .f32))

/-- `h` rows from row `o` on, read where they lie if `o` is a multiple of eight, else from the copy that lies `o`'s remainder higher. -/
def rowsAt (h o : ℕ) (hc : (⟨3, ![1, h, 384]⟩ : Shape).ShapeCasts ⟨2, ![h, 384]⟩) (ho : o + h ≤ 288) (hh : h % 8 = 0) : ∀ r, o % 8 = r → FVec Ideal ⟨2, ![h, 384]⟩ .f32
  | 0, _ => u.readCov (Val := Elt Ideal) L (Rect.unit (s := S288x384) ![o, 0] ![h, 384] (Fin.forall_fin_two.mpr ⟨ho, le_rfl⟩)).toLoadRect
  | b + 1, e => shapeCast ⟨2, ![h, 384]⟩ (u'.readCov (Val := Elt Ideal) L' (Rect.unit (s := S7x280x384) ![b, o - (b + 1), 0] ![1, h, 384]
      (Fin.forall_fin_succ.mpr ⟨show b + 1 ≤ 7 by omega, Fin.forall_fin_two.mpr ⟨show o - (b + 1) + h ≤ 280 by omega, le_rfl⟩⟩)).toLoadRect) hc

theorem rowsAt_apply (f : ℕ → ℕ → Ideal .f32) (h1 : ∀ y : S288x384.Idx, View.canon (Val := Elt Ideal) L y = f (y 0) (y 1))
    (h8 : ∀ y : S7x280x384.Idx, View.canon (Val := Elt Ideal) L' y = f ((y 0).val + 1 + (y 1).val) (y 2)) (h o : ℕ) (hc ho hh r e) (a : Fin h) (q : Fin 384) :
    rowsAt u u' L L' h o hc ho hh r e (ix2 a q) = f (o + a) q := by
  cases r with
  | zero =>
    exact (read_tile u L f h1 _ _ _ _ _ a q).trans (congrArg (f _) (Nat.zero_add _))
  | succ b =>
    unfold rowsAt
    refine (shapeCast_apply _ hc (ix2 a q) (ix3 0 a q) (by rewrite [Shape.rowMajor_val_two, Shape.rowMajor_val_three]; show (0 * h + a.val) * 384 + q.val = a.val * 384 + q.val; omega)).trans ?_
    rw [View.readCov_eq_canon']
    refine (h8 _).trans ?_
    have y0 := Rect.idx_unit_val (s := S7x280x384) ![b, o - (b + 1), 0] ![1, h, 384] (Fin.forall_fin_succ.mpr ⟨show b + 1 ≤ 7 by omega, Fin.forall_fin_two.mpr ⟨show o - (b + 1) + h ≤ 280 by omega, le_rfl⟩⟩) (ix3 0 a q) 0
    have y1 := Rect.idx_unit_val (s := S7x280x384) ![b, o - (b + 1), 0] ![1, h, 384] (Fin.forall_fin_succ.mpr ⟨show b + 1 ≤ 7 by omega, Fin.forall_fin_two.mpr ⟨show o - (b + 1) + h ≤ 280 by omega, le_rfl⟩⟩) (ix3 0 a q) 1
    have y2 := Rect.idx_unit_val (s := S7x280x384) ![b, o - (b + 1), 0] ![1, h, 384] (Fin.forall_fin_succ.mpr ⟨show b + 1 ≤ 7 by omega, Fin.forall_fin_two.mpr ⟨show o - (b + 1) + h ≤ 280 by omega, le_rfl⟩⟩) (ix3 0 a q) 2
    change _ = b + 0 at y0
    change _ = o - (b + 1) + a.val at y1
    change _ = 0 + q.val at y2
    refine congrArg₂ f ?_ ?_
    · refine (congrArg₂ (fun m n : ℕ => m + 1 + n) y0 y1).trans ?_
      show b + 0 + 1 + (o - (b + 1) + a.val) = o + a.val; omega
    · exact y2.trans (Nat.zero_add _)

end rows

/-- Seven copies, each a row further down than the one before. -/
theorem canon_copies (f : ℕ → ℕ → Ideal .f32) (P : Fin 7 → FVec Ideal S1x280x384 .f32) (L) (i0 i1 i2 i3 i4 i5 i6)
    (hP : ∀ b a q, P b (ix3 0 a q) = f (b.val + 1 + a.val) q.val) (y : S7x280x384.Idx) :
    View.canon (Val := Elt Ideal) (e := .f32) (⟨Rect.unit (s := S7x280x384) ![6, 0, 0] ![1, 280, 384] i6, P 6⟩ :: ⟨Rect.unit (s := S7x280x384) ![5, 0, 0] ![1, 280, 384] i5, P 5⟩
      :: ⟨Rect.unit (s := S7x280x384) ![4, 0, 0] ![1, 280, 384] i4, P 4⟩ :: ⟨Rect.unit (s := S7x280x384) ![3, 0, 0] ![1, 280, 384] i3, P 3⟩ :: ⟨Rect.unit (s := S7x280x384) ![2, 0, 0] ![1, 280, 384] i2, P 2⟩
      :: ⟨Rect.unit (s := S7x280x384) ![1, 0, 0] ![1, 280, 384] i1, P 1⟩ :: ⟨Rect.unit (s := S7x280x384) ![0, 0, 0] ![1, 280, 384] i0, P 0⟩ :: L) y = f ((y 0).val + 1 + (y 1).val) (y 2) := by
  have h : ∀ b : Fin 7, (y 0).val = b.val → ∀ a : Fin 280, (y 1).val = a.val → P b (ix3 0 a (y 2)) = f ((y 0).val + 1 + (y 1).val) (y 2) := fun b hb a ha => by rw [hb, ha]; exact hP b a (y 2)
  have h7 : (y 0).val < 7 := (y 0).isLt
  refine canon_copy 6 280 i6 _ _ y _ le_rfl (h 6) fun _ => ?_
  refine canon_copy 5 280 i5 _ _ y _ le_rfl (h 5) fun _ => ?_
  refine canon_copy 4 280 i4 _ _ y _ le_rfl (h 4) fun _ => ?_
  refine canon_copy 3 280 i3 _ _ y _ le_rfl (h 3) fun _ => ?_
  refine canon_copy 2 280 i2 _ _ y _ le_rfl (h 2) fun _ => ?_
  refine canon_copy 1 280 i1 _ _ y _ le_rfl (h 1) fun _ => ?_
  refine canon_copy 0 280 i0 _ _ y _ le_rfl (h 0) fun _ => ?_
  omega

/-- A copy of 280 rows from row `b + 1` on. -/
theorem copy_apply {sp : Space} (u : View sig .tc sp S288x384 .f32) (L) (f : ℕ → ℕ → Ideal .f32) (h1 : ∀ y : S288x384.Idx, View.canon (Val := Elt Ideal) L y = f (y 0) (y 1))
    (o : ℕ) (inb) (hc : S280x384.ShapeCasts S1x280x384) (a q) :
    shapeCast S1x280x384 (u.readCov (Val := Elt Ideal) L (Rect.unit (s := S288x384) ![o, 0] ![280, 384] inb).toLoadRect) hc (ix3 0 a q) = f (o + a.val) q.val := by
  refine (shapeCast_apply _ hc (ix3 0 a q) (ix2 a q) (by rewrite [Shape.rowMajor_val_two, Shape.rowMajor_val_three]; show a.val * 384 + q.val = (0 * 280 + a.val) * 384 + q.val; omega)).trans ?_
  exact (read_tile u L f h1 _ _ _ _ _ a q).trans (congrArg (f _) (Nat.zero_add _))

/-- Weighted rows summed, the first `n` of them. -/
def acc (w : Fin 31 → FVec Ideal S1x384 .f32) (x : Fin 31 → FVec Ideal S32x384 .f32) : ∀ n, n ≤ 31 → FVec Ideal S32x384 .f32
  | 0, _ => broadcast S32x384 (Scalar.ofBits .f32 0x00000000#32)
  | n + 1, h => addf (acc w x n (Nat.le_of_succ_le h)) (mulf (broadcastTo S32x384 (w ⟨n, h⟩) broadcasts_S1x384_S32x384) (x ⟨n, h⟩))

theorem acc_apply (w x) (W : Fin 31 → Fin 384 → ℝ) (Xr : Fin 31 → Fin 32 → Fin 384 → ℝ) (hw : ∀ k z q, w k (ix2 z q) = ((W k q : ℝ) : EReal)) (hx : ∀ k a q, x k (ix2 a q) = ((Xr k a q : ℝ) : EReal)) (a q) :
    ∀ n h, acc w x n h (ix2 a q) = ((∑ k : Fin n, W ⟨k.val, by omega⟩ q * Xr ⟨k.val, by omega⟩ a q : ℝ) : EReal)
  | 0, _ => by
    unfold acc
    pointwise
    rfl
  | n + 1, h => by
    unfold acc
    pointwise [acc_apply w x W Xr hw hx a q n (Nat.le_of_succ_le h), hw, hx, ← EReal.coe_mul, ← EReal.coe_add]
    rw [Fin.sum_univ_castSucc]
    rfl

end Cert.MixB
end
-- ==== Proof.MixBRef.lean ====
/- The gradient of the mixer's second projection as the reference computes it, in the reals: back through the gated
   convolution (`Da`), the windowed means (`Dp`), the projection (`DH`) and the modulated norm (`DX`). -/
module

public import proofs.«01_k».proof.Defs
public import proofs.«01_k».proof.Proof.Lift
public import proofs.«01_k».proof.Proof.FfnInRef
public import proofs.«01_k».proof.Proof.Gen.Reference4Ideal.Run
public import proofs.«01_k».proof.Proof.Gen.Reference4Ideal.Read
public import Idealize.ShloMosaic.Lib.Pipeline.ValueKit
public import Idealize.ShloMosaic.Lib.Claim
public import Idealize.ShloMosaic.Lib.Pointwise
public import Idealize.ShloMosaic.Lib.Routing.OpsOne

@[expose] public section

set_option maxRecDepth 16384

noncomputable section

namespace Cert.MixB

open Cert.Reference4Ideal Idealize.ShloMosaic Idealize.ShloMosaic.TcCoe Idealize.SL.Sem Cert.Lift
open Cert.FfnIn (M M_pos N)

variable (X0 : S4096x1024.Idx → ℝ) (X1 : S4096x768.Idx → ℝ) (X2 : S4096x384.Idx → ℝ) (X3 : S4096x256.Idx → ℝ) (X4 : S4096x1024.Idx → ℝ)
  (X5 : S1024.Idx → ℝ) (X6 X7 : S1x1024.Idx → ℝ) (X8 : S31x384.Idx → ℝ) (X9 : S1024x1792.Idx → ℝ)

/-- The projection. -/
def Z (r : Fin 4096) (k : Fin 1792) : ℝ := ∑ l, (N X0 r l * X5 (ix1 l) * (1 + X7 (ix2 0 l)) + X6 (ix2 0 l)) * X9 (ix2 l k)
/-- The logistic function. -/
def sg (x : ℝ) : ℝ := (1 + Real.exp (-x))⁻¹
/-- The gated input of the convolution, nothing before the first row: row `n` holds the input's row `n - 30`. -/
def Cc (n : ℕ) (q : Fin 384) : ℝ :=
  if h : 30 ≤ n ∧ n - 30 < 4096 then
    Z X0 X5 X6 X7 X9 ⟨n - 30, h.2⟩ ⟨768 + q.val, by omega⟩ * sg (Z X0 X5 X6 X7 X9 ⟨n - 30, h.2⟩ ⟨1152 + q.val, by omega⟩) else 0
/-- The cotangent of the convolution's output, nothing after the last row. -/
def Cb (n : ℕ) (q : Fin 384) : ℝ := if h : n < 4096 then X2 (ix2 ⟨n, h⟩ q) else 0
/-- The cotangent of the convolution's input. -/
def Da (r : ℕ) (q : Fin 384) : ℝ := ∑ k : Fin 31, X8 (ix2 k q) * Cb X2 (r + 30 - k.val) q

theorem sg_coe (x : ℝ) : Ideal.logistic (x : EReal) = (sg x : ℝ) := Ideal.logistic_coe x

open Reference4Ideal.Read in
theorem ref_m (r z) : val_main_v6 (F := Ideal) (up X0) (ix2 r z) = M X0 r := by
  pointwise [val_main_v6, val_main_v5, val_main_v4, val_main_v3, val_main_v2, val_main_v1, val_main_v0, val_main_cst, val_main_cst_0, val_main_cst_1,
    up, ofBits_1024, ofBits_eps, ← EReal.coe_mul, sum_coe]
  rw [div_coe' (by norm_num), ← EReal.coe_add]; rfl

open Reference4Ideal.Read in
theorem ref_n (r k) : val_main_v12 (F := Ideal) (up X0) (ix2 r k) = N X0 r k := by
  pointwise [val_main_v12, val_main_v11, val_main_v7, ref_m X0, fun r => rsqrt_coe' (M_pos X0 r), up, ← EReal.coe_mul]
  rfl

open Reference4Ideal.Read in
theorem ref_z (r k) : val_main_v22 (F := Ideal) (up X0) (up X5) (up X6) (up X7) (up X9) (ix2 r k) = Z X0 X5 X6 X7 X9 r k := by
  pointwise [val_main_v22, val_main_v21, val_main_v20, val_main_v19, val_main_v18, val_main_v17, val_main_v16, val_main_v15, val_main_v14, val_main_v13, val_main_cst_3,
    ref_n X0, up, ofBits_one, ← EReal.coe_mul, ← EReal.coe_add, sum_coe]
  rfl

open Reference4Ideal.Read in
theorem ref_a (r q) : val_main_v26 (F := Ideal) (up X0) (up X5) (up X6) (up X7) (up X9) (ix2 r q) = Z X0 X5 X6 X7 X9 r ⟨768 + q.val, by have := q.isLt; omega⟩ := by
  pointwise [val_main_v26, val_main_v25, ref_z X0 X5 X6 X7 X9]

open Reference4Ideal.Read in
theorem ref_sg (r q) : val_main_v33 (F := Ideal) (up X0) (up X5) (up X6) (up X7) (up X9) (ix2 r q) = sg (Z X0 X5 X6 X7 X9 r ⟨1152 + q.val, by have := q.isLt; omega⟩) := by
  pointwise [val_main_v33, val_main_v32, val_main_v31, val_main_v30, val_main_v29, val_main_v28, val_main_v27, val_main_v25, val_main_cst_5, val_main_cst_6, ref_z X0 X5 X6 X7 X9, ofBits_one]
  rw [← sg_coe]
  unfold Ideal.logistic
  rw [EReal.coe_one, show (⟨768 + (384 + q.val), by have := q.isLt; omega⟩ : Fin 1792) = ⟨1152 + q.val, by have := q.isLt; omega⟩ from Fin.ext (by show 768 + (384 + q.val) = 1152 + q.val; omega)]

open Reference4Ideal.Read in
theorem ref_cc (n q) : val_main_v39 (F := Ideal) (up X0) (up X5) (up X6) (up X7) (up X9) (ix2 n q) = Cc X0 X5 X6 X7 X9 n q := by
  pointwise [val_main_v39, val_main_v38, val_main_v37, val_main_cst_8, ref_a X0 X5 X6 X7 X9, ref_sg X0 X5 X6 X7 X9, ← EReal.coe_mul]
  have := n.isLt
  unfold Cc
  by_cases h : n.val < 30
  · rw [dif_pos h, dif_neg (by omega)]; rfl
  · rw [dif_neg h, dif_pos (by omega)]

section taps
open Reference4Ideal.Read Reference4Ideal.Gen Reference4Ideal.Facts

/-- One tap of the convolution's gradient as the reference writes it: the cotangent times the tap's weights, `k` rows further down. -/
def tap (x2 : FVec Ideal S4096x384 .f32) (x8 : FVec Ideal S31x384 .f32) (k : Fin 31) : FVec Ideal S4126x384 .f32 :=
  pad S4126x384 ![k.val, 0] ![30 - k.val, 0] ![0, 0]
    (mulf (broadcastInDim S4096x384 ![0, 1] bcast_S1x384_S4096x384_0_1 (broadcastInDim S1x384 ![1] bcast_S384_S1x384_1
      (shapeCast S384 (extractStridedSlice S1x384 ![k.val, 0] x8 ((by decide +kernel : ∀ k : Fin 31, S31x384.Slices ![k.val, 0] S1x384) k)) shapeCasts_S1x384_S384)))
      (shapeCast S4096x384 x2 shapeCasts_S4096x384_S4096x384)) (constant S_ .f32 0x00000000#32)
    ((by decide +kernel : ∀ k : Fin 31, S4096x384.Pads ![k.val, 0] ![30 - k.val, 0] ![0, 0] S4126x384) k) h_S_
/-- The sum of the taps, the last first. -/
def taps (x2 : FVec Ideal S4096x384 .f32) (x8 : FVec Ideal S31x384 .f32) : ℕ → FVec Ideal S4126x384 .f32
  | 0 => tap x2 x8 30
  | n + 1 => addf (taps x2 x8 n) (tap x2 x8 (Fin.ofNat 31 (29 - n)))

theorem taps_eq (x2 x8) : val_main_v703 (F := Ideal) x2 x8 = taps x2 x8 30 := rfl

theorem tap_apply (k p q) : tap (up X2) (up X8) k (ix2 p q) = if k.val ≤ p.val then X8 (ix2 k q) * Cb X2 (p.val - k.val) q else 0 := by
  unfold tap
  pointwise []
  by_cases h : k.val ≤ p.val
  · unfold Cb
    by_cases h' : p.val - k.val < 4096
    · rw [dif_pos ⟨h, h'⟩, if_pos h, dif_pos h', EReal.coe_mul]
    · rw [dif_neg fun g => h' g.2, if_pos h, dif_neg h', mul_zero]; rfl
  · rw [dif_neg fun g => h g.1, if_neg h]; rfl

theorem taps_apply (p q) (n : ℕ) (hn : n ≤ 30) :
    taps (up X2) (up X8) n (ix2 p q) = ((∑ i ∈ Finset.range (n + 1), (fun k : ℕ => if k ≤ p.val then X8 (ix2 (Fin.ofNat 31 k) q) * Cb X2 (p.val - k) q else 0) (30 - i) : ℝ) : EReal) := by
  induction n with
  | zero => rw [Finset.sum_range_one]; exact tap_apply X2 X8 30 p q
  | succ n ih =>
    rw [Finset.sum_range_succ, EReal.coe_add, ← ih (by omega), show 30 - (n + 1) = 29 - n by omega]
    refine congrArg _ ((tap_apply X2 X8 (Fin.ofNat 31 (29 - n)) p q).trans ?_)
    rw [show (Fin.ofNat 31 (29 - n)).val = 29 - n from Nat.mod_eq_of_lt (by omega)]

theorem ref_da (r q) : val_main_v708 (F := Ideal) (up X2) (up X8) (ix2 r q) = Da X2 X8 r q := by
  pointwise [val_main_v708]
  rw [taps_eq]
  refine (taps_apply X2 X8 _ _ 30 le_rfl).trans ?_
  refine (congrArg _ ((Finset.sum_range_reflect (fun k : ℕ => if k ≤ 30 + r.val then X8 (ix2 (Fin.ofNat 31 k) q) * Cb X2 (30 + r.val - k) q else 0) 31).trans (Finset.sum_range _))).trans ?_
  refine congrArg _ (Finset.sum_congr rfl fun k _ => ?_)
  have := k.isLt
  rw [if_pos (by show k.val ≤ 30 + r.val; omega), show Fin.ofNat 31 k.val = k from Fin.ext (Nat.mod_eq_of_lt k.isLt), show 30 + r.val - k.val = r.val + 30 - k.val by omega]

end taps

/-- The windows of the means, by column. -/
def win (q : Fin 256) : ℕ := if q.val < 64 then 2 else if q.val < 128 then 4 else if q.val < 192 then 8 else 16
/-- The cotangent of a windowed sum: that of the mean over the window's length, nothing after the last row. -/
def G (n : ℕ) (q : Fin 256) : ℝ := if h : n < 4096 then X3 (ix2 ⟨n, h⟩ q) / (min (n + 1) (win q) : ℕ) else 0

/-- The number of rows a window has taken in at row `n`, as the words compute it. -/
theorem count (n w : ℕ) (hn : n < 8192) (hw : w ≤ 16) :
    FloatOps.sitofp (F := Ideal) FTy.f32 (IntOp.minsi (IntOp.addi 1#32 (BitVec.ofNat 32 n)) (BitVec.ofNat 32 w)) = (((min (n + 1) w : ℕ) : ℝ) : EReal) := by
  have e : IntOp.minsi (IntOp.addi 1#32 (BitVec.ofNat 32 n)) (BitVec.ofNat 32 w) = BitVec.ofNat 32 (min (n + 1) w) := by
    unfold IntOp.minsi IntOp.addi
    rw [show (1#32 + BitVec.ofNat 32 n) = BitVec.ofNat 32 (n + 1) by rw [Nat.add_comm, BitVec.ofNat_add], BitVec.slt_eq_decide, BitVec.toInt_eq_toNat_of_lt (by rw [BitVec.toNat_ofNat]; omega),
      BitVec.toInt_eq_toNat_of_lt (by rw [BitVec.toNat_ofNat]; omega), BitVec.toNat_ofNat, BitVec.toNat_ofNat, Nat.mod_eq_of_lt (by omega), Nat.mod_eq_of_lt (by omega)]
    by_cases h : n + 1 < w
    · rw [if_pos (by rw [decide_eq_true_eq]; exact_mod_cast h), Nat.min_eq_left h.le]
    · rw [if_neg (by rw [decide_eq_true_eq]; exact_mod_cast h), Nat.min_eq_right (by omega)]
  rw [e]
  have : (BitVec.ofNat 32 (min (n + 1) w)).toInt = ((min (n + 1) w : ℕ) : ℤ) := by
    rw [BitVec.toInt_eq_toNat_of_lt (by rw [BitVec.toNat_ofNat]; omega), BitVec.toNat_ofNat, Nat.mod_eq_of_lt (by omega)]
  refine (Ideal.scalar_sitofp_def _).trans ?_
  rw [this]
  rfl

/-- An entry over its window's count. -/
theorem over (i) (n w : ℕ) (hn : n < 8192) (hw : w ≤ 16) (hp : 0 < w) :
    Ideal.div (up X3 i) (FloatOps.sitofp (F := Ideal) FTy.f32 (IntOp.minsi (IntOp.addi 1#32 (BitVec.ofNat 32 n)) (BitVec.ofNat 32 w))) = ((X3 i / (min (n + 1) w : ℕ) : ℝ) : EReal) := by
  rw [count n w hn hw]
  exact div_coe' (Nat.cast_ne_zero.mpr (by omega))

open Reference4Ideal.Read in
theorem ref_g (r q) : val_main_v360 (F := Ideal) (up X3) (ix2 r q) = ((G X3 r q - G X3 (r + win q) q : ℝ) : EReal) := by
  pointwise [val_main_v360, val_main_v358, val_main_v357, val_main_v356, val_main_v355, val_main_v354, val_main_v352, val_main_v351, val_main_v350, val_main_v349, val_main_v348,
    val_main_v347, val_main_v346, val_main_v345, val_main_v343, val_main_v342, val_main_v341, val_main_v340, val_main_v339, val_main_v338, val_main_v337, val_main_v336, val_main_v334,
    val_main_v333, val_main_v332, val_main_v331, val_main_v330, val_main_v329, val_main_v328, val_main_v326, val_main_v325, val_main_v324, val_main_v323, val_main_v322, val_main_v321, val_main_v320,
    val_main_v318, val_main_v276, val_main_v275, val_main_v274, val_main_v273, val_main_v288, val_main_v287, val_main_v286, val_main_v285, val_main_v300, val_main_v299, val_main_v298, val_main_v297,
    val_main_v312, val_main_v311, val_main_v310, val_main_v309, val_main_v267, val_main_v266, val_main_v265, val_main_c, val_main_c_14, val_main_c_17, val_main_c_20, val_main_c_23, val_main_cst_24, val_main_cst_25, val_main_cst_26, val_main_cst_27, val_main_cst_28, val_main_cst_29,
    val_main_cst_30, val_main_cst_31]
  have := q.isLt
  have := r.isLt
  unfold G win
  by_cases h0 : q.val < 64
  · simp (disch := omega) only [dif_pos, dif_neg, if_pos, if_neg, add_zero, zero_add]
    by_cases h : r.val + 2 < 4096
    · simp (disch := omega) only [dif_pos, dif_neg, if_pos, if_neg, add_zero, zero_add, over X3 _ _ 2, ← EReal.coe_neg, ← EReal.coe_add, neg_add_eq_sub, show 1 + (1 + r.val) = r.val + 2 by omega]
    · simp (disch := omega) only [dif_pos, dif_neg, if_pos, if_neg, add_zero, zero_add, sub_zero, over X3 _ _ 2]
  by_cases h1 : q.val < 128
  · simp (disch := omega) only [dif_pos, dif_neg, if_pos, if_neg, add_zero, zero_add]
    by_cases h : r.val + 4 < 4096
    · simp (disch := omega) only [dif_pos, dif_neg, if_pos, if_neg, add_zero, zero_add, show 64 + (q.val - 64) = q.val by omega, Fin.eta, over X3 _ _ 4, ← EReal.coe_neg, ← EReal.coe_add, neg_add_eq_sub, show 3 + (1 + r.val) = r.val + 4 by omega]
    · simp (disch := omega) only [dif_pos, dif_neg, if_pos, if_neg, add_zero, zero_add, sub_zero, show 64 + (q.val - 64) = q.val by omega, Fin.eta, over X3 _ _ 4]
  by_cases h2 : q.val < 192
  · simp (disch := omega) only [dif_pos, dif_neg, if_pos, if_neg, add_zero, zero_add]
    by_cases h : r.val + 8 < 4096
    · simp (disch := omega) only [dif_pos, dif_neg, if_pos, if_neg, add_zero, zero_add, show 128 + (q.val - 128) = q.val by omega, Fin.eta, over X3 _ _ 8, ← EReal.coe_neg, ← EReal.coe_add, neg_add_eq_sub, show 7 + (1 + r.val) = r.val + 8 by omega]
    · simp (disch := omega) only [dif_pos, dif_neg, if_pos, if_neg, add_zero, zero_add, sub_zero, show 128 + (q.val - 128) = q.val by omega, Fin.eta, over X3 _ _ 8]
  simp (disch := omega) only [dif_pos, dif_neg, if_pos, if_neg, add_zero, zero_add]
  by_cases h : r.val + 16 < 4096
  · simp (disch := omega) only [dif_pos, dif_neg, if_pos, if_neg, add_zero, zero_add, show 192 + (q.val - 192) = q.val by omega, Fin.eta, over X3 _ _ 16, ← EReal.coe_neg, ← EReal.coe_add, neg_add_eq_sub, show 15 + (1 + r.val) = r.val + 16 by omega]
  · simp (disch := omega) only [dif_pos, dif_neg, if_pos, if_neg, add_zero, zero_add, sub_zero, show 192 + (q.val - 192) = q.val by omega, Fin.eta, over X3 _ _ 16]

/-- A running sum as a list's fold, in the reals. -/
theorem foldl_coe {ι : Type} (l : List ι) (g : ι → EReal) (f : ι → ℝ) (hg : ∀ a ∈ l, g a = f a) (v : EReal) (z : ℝ) (hv : v = z) :
    l.foldl (fun r a => r + g a) v = ((z + (l.map f).sum : ℝ) : EReal) := by
  induction l generalizing v z with
  | nil => simpa using hv
  | cons a l ih =>
    rw [List.foldl_cons, ih (fun b hb => hg b (List.mem_cons_of_mem _ hb)) _ (z + f a) (by rw [hv, hg a List.mem_cons_self, EReal.coe_add])]
    rw [List.map_cons, List.sum_cons, add_assoc]

/-- A sum of differences `w` places apart. -/
theorem sum_apart (g : ℕ → ℝ) (w n : ℕ) : ∑ k ∈ Finset.range n, (g k - g (k + w)) = ∑ m ∈ Finset.range w, g m - ∑ m ∈ Finset.range w, g (n + m) := by
  induction n with
  | zero => simp
  | succ n ih =>
    have h := (Finset.sum_range_succ (fun m => g (n + m)) w).symm.trans (Finset.sum_range_succ' (fun m => g (n + m)) w)
    rw [Finset.sum_range_succ, ih]
    simp only [show ∀ m, n + 1 + m = n + (m + 1) from fun m => by omega] at h ⊢
    simp only [Nat.add_zero] at h
    linarith

theorem G_end {n : ℕ} (h : ¬n < 4096) (q) : G X3 n q = 0 := dif_neg h

/-- The cotangent of the means' input: a window's sum of `G` less the cotangent itself. -/
def Dp (r : ℕ) (q : Fin 256) : ℝ := ∑ m ∈ Finset.range (win q), G X3 (r + m) q

open Reference4Ideal.Read in
open Routing (shape2 numel_col symm_col) in
theorem ref_dp (r : Fin 4096) (q : Fin 256) : val_main_v361 (F := Ideal) (up X3) (ix2 r q) = Dp X3 r q := by
  unfold val_main_v361 Host.reduceWindowAdd
  rw [Ideal.hostReduceWindowAdd_def]
  unfold Ideal.hostReduceWindowAdd Host.reduceWindow
  have hq : win q ≤ 16 := by unfold win; split <;> [omega; split] <;> [omega; split] <;> omega
  refine (foldl_coe _ _ (fun n => G X3 (r + n.val) q - G X3 (r + n.val + win q) q) (fun n _ => ?_) _ 0 ?_).trans ?_
  · have hw0 : ((shape2 4096 1).rowMajor.symm n 0).val = n.val := by rw [symm_col]; rfl
    have hw1 : ((shape2 4096 1).rowMajor.symm n 1).val = 0 := by rw [symm_col]; rfl
    have hr := r.isLt
    split
    · next hin =>
      have h0 := (hin 0).2
      change r.val * 1 + ((shape2 4096 1).rowMajor.symm n 0).val - 0 < 4096 at h0
      rw [hw0] at h0
      refine (congrArg _ ?_).trans (ref_g X3 ⟨r.val + n.val, by omega⟩ q)
      refine funext fun a => Fin.ext ?_
      match a with
      | ⟨0, _⟩ =>
        show r.val * 1 + ((shape2 4096 1).rowMajor.symm n 0).val - 0 = r.val + n.val
        rw [hw0]; omega
      | ⟨1, _⟩ =>
        show q.val * 1 + ((shape2 4096 1).rowMajor.symm n 1).val - 0 = q.val
        rw [hw1]; omega
    · next hin =>
      have hn : ¬r.val + n.val < 4096 := fun h => hin fun a => by
        match a with
        | ⟨0, _⟩ =>
          show 0 ≤ r.val * 1 + ((shape2 4096 1).rowMajor.symm n 0).val ∧ r.val * 1 + ((shape2 4096 1).rowMajor.symm n 0).val - 0 < 4096
          rw [hw0]; omega
        | ⟨1, _⟩ =>
          show 0 ≤ q.val * 1 + ((shape2 4096 1).rowMajor.symm n 1).val ∧ q.val * 1 + ((shape2 4096 1).rowMajor.symm n 1).val - 0 < 256
          rw [hw1]; have := q.isLt; omega
      rw [G_end X3 hn, G_end X3 (fun h => hn (by omega)), sub_zero]
      pointwise [val_main_call1_call0_v0, val_main_call1_call0_cst]
      rfl
  · pointwise [val_main_call1_call0_v0, val_main_call1_call0_cst]
    rfl
  · rw [← Fin.sum_univ_def, zero_add]
    refine congrArg _ ((Fin.sum_univ_eq_sum_range (fun n => G X3 (r + n) q - G X3 (r + n + win q) q) _).trans ?_)
    refine (Finset.sum_congr rfl fun k _ => congrArg (fun n => G X3 (r + k) q - G X3 n q) (Nat.add_assoc _ _ _)).trans ?_
    refine (sum_apart (fun n => G X3 (r + n) q) (win q) _).trans ?_
    refine (congrArg (fun n => _ - ∑ m ∈ Finset.range (win q), G X3 (r + (n + m)) q) (numel_col 4096)).trans ?_
    rw [Finset.sum_eq_zero (s := Finset.range (win q)) (f := fun m => G X3 (r + (4096 + m)) q) fun m _ => G_end X3 (by omega) q, sub_zero]
    rfl

/-- The cotangent of the projection. -/
def Dz (r : Fin 4096) (k : Fin 1792) : ℝ :=
  if h : k.val < 768 then X1 (ix2 r ⟨k.val, h⟩)
  else if h1 : k.val < 1152 then Da X2 X8 r ⟨k.val - 768, by omega⟩ * sg (Z X0 X5 X6 X7 X9 r ⟨1152 + (k.val - 768), by omega⟩)
  else if h2 : k.val < 1536 then
    Z X0 X5 X6 X7 X9 r ⟨768 + (k.val - 1152), by omega⟩ * Da X2 X8 r ⟨k.val - 1152, by omega⟩
      * (sg (Z X0 X5 X6 X7 X9 r ⟨1152 + (k.val - 1152), by omega⟩) * (1 - sg (Z X0 X5 X6 X7 X9 r ⟨1152 + (k.val - 1152), by omega⟩)))
  else Dp X3 r ⟨k.val - 1536, by omega⟩ - X3 (ix2 r ⟨k.val - 1536, by omega⟩)

open Reference4Ideal.Read in
theorem ref_dz (r k) : val_main_v716 (F := Ideal) (up X0) (up X1) (up X2) (up X3) (up X5) (up X6) (up X7) (up X8) (up X9) (ix2 r k) = Dz X0 X1 X2 X3 X5 X6 X7 X8 X9 r k := by
  pointwise [val_main_v716, val_main_v715, val_main_v714, val_main_v713, val_main_v712, val_main_v711, val_main_v710, val_main_v709, val_main_v363, val_main_v362, val_main_v319, val_main_v36,
    val_main_v35, val_main_v34, val_main_cst_7, val_main_cst_32, val_main_cst_159, val_main_cst_160, ref_dp X3, ref_da X2 X8, ref_a X0 X5 X6 X7 X9, ref_sg X0 X5 X6 X7 X9, ofBits_one]
  have := k.isLt
  have := r.isLt
  unfold Dz
  by_cases h : k.val < 768
  · simp (disch := omega) only [dif_pos, dif_neg, zero_add, add_zero, up]
  by_cases h1 : k.val < 1152
  · simp (disch := omega) only [dif_pos, dif_neg, zero_add, add_zero, ← EReal.coe_mul]
  by_cases h2 : k.val < 1536
  · simp (disch := omega) only [dif_pos, dif_neg, zero_add, add_zero, ← EReal.coe_mul, ← EReal.coe_sub, show k.val - 768 - 384 = k.val - 1152 by omega]
  · simp (disch := omega) only [dif_pos, dif_neg, zero_add, add_zero, up, ← EReal.coe_neg, ← EReal.coe_add, neg_add_eq_sub]

/-- The cotangent of the projection's input. -/
def DH (r : Fin 4096) (k : Fin 1024) : ℝ := ∑ l, Dz X0 X1 X2 X3 X5 X6 X7 X8 X9 r l * X9 (ix2 k l)

open Reference4Ideal.Read in
theorem ref_dh (r k) : val_main_v717 (F := Ideal) (up X0) (up X1) (up X2) (up X3) (up X5) (up X6) (up X7) (up X8) (up X9) (ix2 r k) = DH X0 X1 X2 X3 X5 X6 X7 X8 X9 r k := by
  pointwise [val_main_v717, ref_dz X0 X1 X2 X3 X5 X6 X7 X8 X9, up, ← EReal.coe_mul, sum_coe]
  rfl

open Reference4Ideal.Read in
theorem ref_sh (z k) : val_main_v719 (F := Ideal) (up X0) (up X1) (up X2) (up X3) (up X5) (up X6) (up X7) (up X8) (up X9) (ix2 z k) = ((∑ r, DH X0 X1 X2 X3 X5 X6 X7 X8 X9 r k : ℝ) : EReal) := by
  pointwise [val_main_v719, val_main_v718, val_main_cst_161, ref_dh X0 X1 X2 X3 X5 X6 X7 X8 X9, sum_coe]

open Reference4Ideal.Read in
theorem ref_sc (z k) : val_main_v722 (F := Ideal) (up X0) (up X1) (up X2) (up X3) (up X5) (up X6) (up X7) (up X8) (up X9) (ix2 z k)
    = ((∑ r, N X0 r k * X5 (ix1 k) * DH X0 X1 X2 X3 X5 X6 X7 X8 X9 r k : ℝ) : EReal) := by
  pointwise [val_main_v722, val_main_v721, val_main_v720, val_main_v15, val_main_v14, val_main_v13, val_main_cst_162, ref_n X0, ref_dh X0 X1 X2 X3 X5 X6 X7 X8 X9, up, ← EReal.coe_mul, sum_coe]

open Reference4Ideal.Read in
theorem ref_v724 (r k) : val_main_v724 (F := Ideal) (up X0) (up X1) (up X2) (up X3) (up X5) (up X6) (up X7) (up X8) (up X9) (ix2 r k)
    = ((DH X0 X1 X2 X3 X5 X6 X7 X8 X9 r k * (1 + X7 (ix2 0 k)) : ℝ) : EReal) := by
  pointwise [val_main_v724, val_main_v723, val_main_v17, val_main_v16, val_main_cst_3, ref_dh X0 X1 X2 X3 X5 X6 X7 X8 X9, up, ofBits_one, ← EReal.coe_add, ← EReal.coe_mul]

open Reference4Ideal.Read in
theorem ref_dg (z k) : val_main_v747 (F := Ideal) (up X0) (up X1) (up X2) (up X3) (up X5) (up X6) (up X7) (up X8) (up X9) (ix2 z k)
    = ((∑ r, N X0 r k * (DH X0 X1 X2 X3 X5 X6 X7 X8 X9 r k * (1 + X7 (ix2 0 k))) : ℝ) : EReal) := by
  pointwise [val_main_v747, val_main_v730, val_main_v727, val_main_v726, val_main_v725, val_main_cst_163, val_main_cst_164, ref_n X0, ref_v724 X0 X1 X2 X3 X5 X6 X7 X8 X9, ← EReal.coe_mul, sum_coe,
    Finset.univ_unique, Finset.sum_singleton]

/-- The cotangent of the normalised rows. -/
def T (r : Fin 4096) (k : Fin 1024) : ℝ := DH X0 X1 X2 X3 X5 X6 X7 X8 X9 r k * (1 + X7 (ix2 0 k)) * X5 (ix1 k)
/-- The gradient of the norm's input, the cotangent that goes round it added. -/
def DX (r : Fin 4096) (k : Fin 1024) : ℝ :=
  X4 (ix2 r k) + (√(M X0 r))⁻¹ * (T X0 X1 X2 X3 X5 X6 X7 X8 X9 r k - N X0 r k * ((∑ j, T X0 X1 X2 X3 X5 X6 X7 X8 X9 r j * N X0 r j) / 1024))

open Reference4Ideal.Read in
theorem ref_dx (r k) : val_main_v745 (F := Ideal) (up X0) (up X1) (up X2) (up X3) (up X4) (up X5) (up X6) (up X7) (up X8) (up X9) (ix2 r k) = DX X0 X1 X2 X3 X4 X5 X6 X7 X8 X9 r k := by
  have hM := M_pos X0 r
  pointwise [val_main_v745, val_main_v744, val_main_v743, val_main_v742, val_main_v741, val_main_v740, val_main_v739, val_main_v738, val_main_v737, val_main_v736, val_main_v735, val_main_v734,
    val_main_v733, val_main_v732, val_main_v731, val_main_v729, val_main_v728, val_main_v13, val_main_v10, val_main_v9, val_main_v8, val_main_v7, val_main_cst_2, val_main_cst_165, val_main_cst_166,
    val_main_cst_167, ref_v724 X0 X1 X2 X3 X5 X6 X7 X8 X9, ref_m X0, up, ofBits_1024, ofBits_neg_half, ← EReal.coe_mul, sum_coe]
  simp only [rsqrt_coe' hM, div_coe' hM.ne', div_coe' (by norm_num : (1024 : ℝ) ≠ 0), ← EReal.coe_mul, ← EReal.coe_add, sum_coe, Finset.univ_unique, Finset.sum_singleton]
  congr 1
  have e : ∑ j, T X0 X1 X2 X3 X5 X6 X7 X8 X9 r j * N X0 r j = (√(M X0 r))⁻¹ * ∑ j, X0 (ix2 r j) * (DH X0 X1 X2 X3 X5 X6 X7 X8 X9 r j * (1 + X7 (ix2 0 j)) * X5 (ix1 j)) := by
    rw [Finset.mul_sum]
    exact Finset.sum_congr rfl fun j _ => by unfold T N; ring
  unfold DX
  rw [e]
  unfold T N
  have hs := Real.mul_self_sqrt hM.le
  have hp := Real.sqrt_pos.mpr hM
  generalize M X0 r = m at *
  generalize √m = s at *
  subst hs
  field_simp
  ring

/-- The gradient of the convolution's weights. -/
def Dw (k : Fin 31) (q : Fin 384) : ℝ := ∑ r : Fin 4096, X2 (ix2 r q) * Cc X0 X5 X6 X7 X9 (r + k.val) q

section weights
open Reference4Ideal.Read Reference4Ideal.Gen Reference4Ideal.Facts

/-- One row of the gradient of the convolution's weights as the reference writes it. -/
def wtap (x2 : FVec Ideal S4096x384 .f32) (cc : FVec Ideal S4126x384 .f32) (k : Fin 31) : FVec Ideal S31x384 .f32 :=
  pad S31x384 ![k.val, 0] ![30 - k.val, 0] ![0, 0]
    (broadcastInDim S1x384 ![1] bcast_S384_S1x384_1 (Host.reduceAdd (shapeCast S1x384 (Host.reduceAdd
      (mulf (shapeCast S4096x384 x2 shapeCasts_S4096x384_S4096x384) (extractStridedSlice S4096x384 ![k.val, 0] cc ((by decide +kernel : ∀ k : Fin 31, S4126x384.Slices ![k.val, 0] S4096x384) k)))
      (constant S_ .f32 0x00000000#32) reducesTo_S4096x384_S384_d0 h_S_) shapeCasts_S384_S1x384) (constant S_ .f32 0x00000000#32) reducesTo_S1x384_S384_d0 h_S_)) (constant S_ .f32 0x00000000#32)
    ((by decide +kernel : ∀ k : Fin 31, S1x384.Pads ![k.val, 0] ![30 - k.val, 0] ![0, 0] S31x384) k) h_S_
/-- The rows put together, the last first. -/
def wtaps (x2 : FVec Ideal S4096x384 .f32) (cc : FVec Ideal S4126x384 .f32) : ℕ → FVec Ideal S31x384 .f32
  | 0 => wtap x2 cc 30
  | n + 1 => addf (wtaps x2 cc n) (wtap x2 cc (Fin.ofNat 31 (29 - n)))

theorem wtaps_eq (x0 x2 x5 x6 x7 x9) : val_main_v706 (F := Ideal) x0 x2 x5 x6 x7 x9 = wtaps x2 (val_main_v39 (F := Ideal) x0 x5 x6 x7 x9) 30 := rfl

theorem wtap_apply (k p q) : wtap (up X2) (val_main_v39 (F := Ideal) (up X0) (up X5) (up X6) (up X7) (up X9)) k (ix2 p q) = if k = p then ((Dw X0 X2 X5 X6 X7 X9 k q : ℝ) : EReal) else 0 := by
  unfold wtap
  pointwise [ref_cc X0 X5 X6 X7 X9, up, ← EReal.coe_mul, sum_coe, Finset.univ_unique, Finset.sum_singleton]
  by_cases h : k = p
  · subst h
    rw [dif_pos ⟨le_rfl, by omega⟩, if_pos rfl]
    unfold Dw
    simp only [Nat.add_comm]
  · rw [dif_neg fun g => h (Fin.ext (by omega)), if_neg h]

theorem wtaps_apply (p q) (n : ℕ) (hn : n ≤ 30) :
    wtaps (up X2) (val_main_v39 (F := Ideal) (up X0) (up X5) (up X6) (up X7) (up X9)) n (ix2 p q) = if 30 - n ≤ p.val then ((Dw X0 X2 X5 X6 X7 X9 p q : ℝ) : EReal) else 0 := by
  have := p.isLt
  induction n with
  | zero =>
    refine (wtap_apply X0 X2 X5 X6 X7 X9 30 p q).trans ?_
    by_cases h : (30 : Fin 31) = p
    · subst h; rfl
    · rw [if_neg h, if_neg (fun g => h (Fin.ext (by show 30 = p.val; omega)))]
  | succ n ih =>
    refine (congrArg₂ (· + ·) (ih (by omega)) (wtap_apply X0 X2 X5 X6 X7 X9 (Fin.ofNat 31 (29 - n)) p q)).trans ?_
    have hv : (Fin.ofNat 31 (29 - n)).val = 29 - n := Nat.mod_eq_of_lt (by omega)
    by_cases h : Fin.ofNat 31 (29 - n) = p
    · rw [if_pos h, h]
      rw [h] at hv
      rw [if_neg (by omega), if_pos (by omega), zero_add]
    · have hne : p.val ≠ 29 - n := fun e => h (Fin.ext (hv.trans e.symm))
      rw [if_neg h, add_zero]
      by_cases g : 30 - n ≤ p.val
      · rw [if_pos g, if_pos (by omega)]
      · rw [if_neg g, if_neg (by omega)]

theorem ref_dw (k q) : val_main_v706 (F := Ideal) (up X0) (up X2) (up X5) (up X6) (up X7) (up X9) (ix2 k q) = Dw X0 X2 X5 X6 X7 X9 k q := by
  rw [wtaps_eq]
  exact (wtaps_apply X0 X2 X5 X6 X7 X9 k q 30 le_rfl).trans (if_pos (Nat.zero_le _))

theorem ref_db (z q) : val_main_v748 (F := Ideal) (up X2) (ix2 z q) = ((∑ r, X2 (ix2 r q) : ℝ) : EReal) := by
  pointwise [val_main_v748, val_main_v367, val_main_v366, val_main_v365, val_main_cst_33, val_main_cst_34, up, sum_coe, Finset.univ_unique, Finset.sum_singleton]

end weights

end Cert.MixB
end
-- ==== Proof.MixBBlk.lean ====
/- The kernel of the mixer's second gradient, block by block: what each block of its arguments holds, what its scratch
   arrays hold entry by entry, and the block of the projection's cotangent it writes. -/
module

public import proofs.«01_k».proof.Defs
public import proofs.«01_k».proof.Proof.MixBRows
public import proofs.«01_k».proof.Proof.MixBRef
public import proofs.«01_k».proof.Proof.FfnIn
public import proofs.«01_k».proof.Proof.Stores
public import proofs.«01_k».proof.Proof.Gen.Kernel4Ideal.Value
public import Idealize.ShloMosaic.Lib.Pipeline.ReadBack
public import proofs.«01_k».proof.Proof.Gen.Reference4Ideal.Run
public import proofs.«01_k».proof.Proof.Gen.Reference4Ideal.Read
public import Idealize.ShloMosaic.Lib.Pipeline.ValueKit
public import Idealize.ShloMosaic.Lib.Claim
public import Idealize.ShloMosaic.Lib.Pointwise

@[expose] public section

set_option maxRecDepth 16384

noncomputable section

namespace Cert.MixB

open Cert.Kernel4Ideal Cert.Kernel4Ideal.Gen Idealize.ShloMosaic Idealize.ShloMosaic.TcCoe Idealize.SL.Sem Cert.Lift
open Idealize.ShloMosaic.Pipeline (Dat)
open Cert.FfnIn (M M_pos N row sum_rows)

variable (X0 : S4096x1024.Idx → ℝ) (X1 : S4096x768.Idx → ℝ) (X2 : S4096x384.Idx → ℝ) (X3 : S4096x256.Idx → ℝ) (X4 : S4096x1024.Idx → ℝ)
  (X5 : S1024.Idx → ℝ) (X6 X7 : S1x1024.Idx → ℝ) (X8 : S31x384.Idx → ℝ) (X9 : S1024x1792.Idx → ℝ) (m : (ℓ : Loc nD τ sig) → Buf (Elt Ideal) ℓ) (c : Dev nD)

/-! What the kernel's scratch arrays hold, the last store first. -/

theorem inb_z (r p n : ℕ) (hr : r + n ≤ 256) (hp : p + 384 ≤ 1792) : ∀ a, ![r, p] a + ![n, 384] a ≤ S256x1792.size a := Fin.forall_fin_two.mpr ⟨hr, hp⟩
theorem inb_zh (p : ℕ) (hp : p + 384 ≤ 1792) : ∀ a, ![0, p] a + ![32, 384] a ≤ S32x1792.size a := Fin.forall_fin_two.mpr ⟨le_rfl, hp⟩
theorem inb_cw (k : Fin 31) : ∀ a, ![k.val, 0] a + ![1, 384] a ≤ S31x384.size a := Fin.forall_fin_two.mpr ⟨show k.val + 1 ≤ 31 by omega, le_rfl⟩

/-- `n` rows of one of the block's two gated halves. -/
abbrev zl (t : Fin 16) (r p n : ℕ) (hr : r + n ≤ 256) (hp : p + 384 ≤ 1792) : FVec Ideal ⟨2, ![n, 384]⟩ .f32 := View.ld (iblk m c 0 t) (Rect.unit (s := S256x1792) ![r, p] ![n, 384] (inb_z r p n hr hp))
/-- The gated input: 32 rows before the block, then the block. -/
abbrev inL (t : Fin 16) : List (View.Piece (Elt Ideal) S288x384 .f32) :=
  [⟨Rect.unit (s := S288x384) ![32, 0] ![256, 384] inb_S288x384_S256x384_32_0, k0_pay7 (F := Ideal) (zl m c t 0 768 256 (by decide) (by decide)) (zl m c t 0 1152 256 (by decide) (by decide))⟩,
    ⟨Rect.unit (s := S288x384) ![0, 0] ![32, 384] inb_S288x384_S32x384_0_0, k0_pay6 (F := Ideal) (grid0.coords t)
      (View.ld (iblk m c 1 t) (Rect.unit (s := S32x1792) ![0, 768] ![32, 384] (inb_zh 768 (by decide)))) (View.ld (iblk m c 1 t) (Rect.unit (s := S32x1792) ![0, 1152] ![32, 384] (inb_zh 1152 (by decide))))⟩]
/-- Whether the block is the last. -/
abbrev last (t : Fin 16) : BitVec 1 := Scalar.cmpi .eq (BitVec.ofNat 32 (grid0.coords t 0).val) 15#32
/-- The convolution's cotangent: the block, then 32 rows after it. -/
abbrev cbL (t : Fin 16) : List (View.Piece (Elt Ideal) S288x384 .f32) :=
  [⟨Rect.unit (s := S288x384) ![256, 0] ![32, 384] inb_S288x384_S32x384_256_0, k0_pay55 (F := Ideal) (last t) (iblk m c 4 t)⟩,
    ⟨Rect.unit (s := S288x384) ![0, 0] ![256, 384] inb_S288x384_S256x384_0_0, k0_pay54 (F := Ideal) (iblk m c 3 t)⟩]
/-- The windowed means' cotangent, over the counts: the block, then 32 rows after it. -/
abbrev ddL (t : Fin 16) : List (View.Piece (Elt Ideal) S288x256 .f32) :=
  [⟨Rect.unit (s := S288x256) ![256, 0] ![32, 256] inb_S288x256_S32x256_256_0, k0_pay164 (F := Ideal) (last t) (k0_pay161 (BitVec.ofNat 32 (grid0.coords t 0).val)) k0_pay162 (k0_pay163 (F := Ideal)) (iblk m c 6 t)⟩,
    ⟨Rect.unit (s := S288x256) ![0, 0] ![256, 256] inb_S288x256_S256x256_0_0, k0_pay160 (F := Ideal) (iblk m c 5 t) (Scalar.muli (BitVec.ofNat 32 (grid0.coords t 0).val) 256#32)⟩]

/-- A copy of an array of 288 rows from row `b + 1` on. -/
abbrev cp {sp : Space} (u : View sig .tc sp S288x384 .f32) (L : List (View.Piece (Elt Ideal) S288x384 .f32)) (b : Fin 7) : FVec Ideal S1x280x384 .f32 :=
  shapeCast S1x280x384 (u.readCov (Val := Elt Ideal) L (Rect.unit (s := S288x384) ![b.val + 1, 0] ![280, 384] (Fin.forall_fin_two.mpr ⟨show b.val + 1 + 280 ≤ 288 by omega, le_rfl⟩)).toLoadRect) shapeCasts_S280x384_S1x280x384
/-- The seven copies. -/
abbrev cps {sp : Space} (u : View sig .tc sp S288x384 .f32) (L : List (View.Piece (Elt Ideal) S288x384 .f32)) (L' : List (View.Piece (Elt Ideal) S7x280x384 .f32)) : List (View.Piece (Elt Ideal) S7x280x384 .f32) :=
  ⟨Rect.unit (s := S7x280x384) ![6, 0, 0] ![1, 280, 384] inb_S7x280x384_S1x280x384_6_0_0, cp u L 6⟩ :: ⟨Rect.unit (s := S7x280x384) ![5, 0, 0] ![1, 280, 384] inb_S7x280x384_S1x280x384_5_0_0, cp u L 5⟩
    :: ⟨Rect.unit (s := S7x280x384) ![4, 0, 0] ![1, 280, 384] inb_S7x280x384_S1x280x384_4_0_0, cp u L 4⟩ :: ⟨Rect.unit (s := S7x280x384) ![3, 0, 0] ![1, 280, 384] inb_S7x280x384_S1x280x384_3_0_0, cp u L 3⟩
    :: ⟨Rect.unit (s := S7x280x384) ![2, 0, 0] ![1, 280, 384] inb_S7x280x384_S1x280x384_2_0_0, cp u L 2⟩ :: ⟨Rect.unit (s := S7x280x384) ![1, 0, 0] ![1, 280, 384] inb_S7x280x384_S1x280x384_1_0_0, cp u L 1⟩
    :: ⟨Rect.unit (s := S7x280x384) ![0, 0, 0] ![1, 280, 384] inb_S7x280x384_S1x280x384_0_0_0, cp u L 0⟩ :: L'

/-- Copies of the gated input; -/
abbrev inC (t : Fin 16) : List (View.Piece (Elt Ideal) S7x280x384 .f32) := cps (View.whole cc0_scratch0) (inL m c t) []
/-- of the cotangent. -/
abbrev cbC (t : Fin 16) : List (View.Piece (Elt Ideal) S7x280x384 .f32) := cps (View.whole cc0_scratch1) (cbL m c t) (inC m c t)

/-- The cotangent's rows that tap `k` meets, for rows `32 r` on of the block. -/
def cbR (t : Fin 16) (r : Fin 8) (k : Fin 31) : FVec Ideal S32x384 .f32 :=
  rowsAt (View.whole cc0_scratch1) (View.whole cc0_scratch3) (cbL m c t) (cbC m c t) 32 (30 - k.val + 32 * r.val) shapeCasts_S1x32x384_S32x384 (by omega) rfl ((30 - k.val + 32 * r.val) % 8) rfl
/-- 32 rows of the cotangent of the convolution's input. -/
def da (t : Fin 16) (r : Fin 8) : FVec Ideal S32x384 .f32 :=
  acc (fun k => View.ld (iblk m c 11 t) (Rect.unit (s := S31x384) ![k.val, 0] ![1, 384] (inb_cw k))) (cbR m c t r) 31 le_rfl

/-- The gated half's tile; -/
def tA (da g : FVec Ideal S32x384 .f32) : FVec Ideal S32x384 .bf16 := truncf .bf16 (mulf da (logistic (shapeCast S32x384 g shapeCasts_S32x384_S32x384))) bitsLt_bf16_f32
/-- the gate's. -/
def tG (da a g : FVec Ideal S32x384 .f32) : FVec Ideal S32x384 .bf16 :=
  truncf .bf16 (mulf (mulf (mulf da (shapeCast S32x384 a shapeCasts_S32x384_S32x384)) (logistic (shapeCast S32x384 g shapeCasts_S32x384_S32x384)))
    (subf (broadcast S32x384 (Scalar.ofBits .f32 0x3F800000#32)) (logistic (shapeCast S32x384 g shapeCasts_S32x384_S32x384)))) bitsLt_bf16_f32

/-- The tiles of the first `n` groups of 32 rows. -/
def tiles (t : Fin 16) : ∀ n, n ≤ 8 → List (View.Piece (Elt Ideal) S256x1792 .bf16)
  | 0, _ => []
  | n + 1, h =>
    ⟨Rect.unit (s := S256x1792) ![32 * n, 1152] ![32, 384] (inb_z _ _ 32 (by omega) (by decide)), tG (da m c t ⟨n, h⟩) (zl m c t (32 * n) 768 32 (by omega) (by decide)) (zl m c t (32 * n) 1152 32 (by omega) (by decide))⟩
      :: ⟨Rect.unit (s := S256x1792) ![32 * n, 768] ![32, 384] (inb_z _ _ 32 (by omega) (by decide)), tA (da m c t ⟨n, h⟩) (zl m c t (32 * n) 1152 32 (by omega) (by decide))⟩
      :: tiles t n (Nat.le_of_succ_le h)

/-- Sixteen reads of the windowed means' cotangent. -/
abbrev dr (t : Fin 16) (n : Fin 16) : FVec Ideal S256x256 .f32 :=
  (View.whole cc0_scratch2).readCov (Val := Elt Ideal) (e := .f32) (ddL m c t) (Rect.unit (s := S288x256) ![n.val, 0] ![256, 256] (Fin.forall_fin_two.mpr ⟨show n.val + 256 ≤ 288 by omega, le_rfl⟩)).toLoadRect
/-- The tile of the means' input. -/
abbrev tP (t : Fin 16) : FVec Ideal S256x256 .bf16 :=
  k0_pay173 (F := Ideal) (iblk m c 5 t)
    (k0_pay169 (iota .tc S256x256 32 [1] iota_S256x256_d1_w32) (k0_pay166 (dr m c t 0) (dr m c t 1) (dr m c t 2) (dr m c t 3)) (k0_pay167 (dr m c t 0) (dr m c t 1) (dr m c t 2) (dr m c t 3)) (dr m c t 4) (dr m c t 5) (dr m c t 6) (dr m c t 7))
    (k0_pay170 (k0_pay166 (dr m c t 0) (dr m c t 1) (dr m c t 2) (dr m c t 3)) (dr m c t 4) (dr m c t 5) (dr m c t 6) (dr m c t 7)
      (dr m c t 8) (dr m c t 9) (dr m c t 10) (dr m c t 11) (dr m c t 12) (dr m c t 13) (dr m c t 14) (dr m c t 15))
    (k0_pay171 (iota .tc S256x256 32 [1] iota_S256x256_d1_w32)) (k0_pay172 (iota .tc S256x256 32 [1] iota_S256x256_d1_w32))

/-- The whole block of the projection's cotangent. -/
abbrev dzL (t : Fin 16) : List (View.Piece (Elt Ideal) S256x1792 .bf16) :=
  ⟨Rect.unit (s := S256x1792) ![0, 0] ![256, 768] inb_S256x1792_S256x768_0_0, k0_pay174 (F := Ideal) (iblk m c 2 t)⟩
    :: ⟨Rect.unit (s := S256x1792) ![0, 1536] ![256, 256] inb_S256x1792_S256x256_0_1536, tP m c t⟩ :: tiles m c t 8 le_rfl

/-- The blocks' places. -/
theorem idx : ∀ t : Fin grid0.N, win0_0.index t = ![t.val, 0] ∧ win0_1.index t = ![t.val * 8 - 1, 0] ∧ win0_2.index t = ![t.val, 0] ∧ win0_3.index t = ![t.val, 0]
    ∧ win0_4.index t = ![min ((t.val + 1) * 8) 127, 0] ∧ win0_5.index t = ![t.val, 0] ∧ win0_6.index t = ![min ((t.val + 1) * 8) 127, 0] ∧ win0_7.index t = ![t.val, 0]
    ∧ win0_8.index t = ![t.val, 0] ∧ win0_9.index t = ![0, 0] ∧ win0_10.index t = ![0, 0] ∧ win0_11.index t = ![0, 0] ∧ win0_12.index t = ![0, 0]
    ∧ win0_13.index t = ![t.val, 0] ∧ win0_14.index t = ![t.val, 0] := by decide +kernel

/-- The arguments are the reals `X0` … `X9`. -/
structure Args : Prop where
  h0 : m ((c.tc : Thread nD τ).loc main_arg0) = up X0
  h1 : m ((c.tc : Thread nD τ).loc main_arg1) = up X1
  h2 : m ((c.tc : Thread nD τ).loc main_arg2) = up X2
  h3 : m ((c.tc : Thread nD τ).loc main_arg3) = up X3
  h4 : m ((c.tc : Thread nD τ).loc main_arg4) = up X4
  h5 : m ((c.tc : Thread nD τ).loc main_arg5) = up X5
  h6 : m ((c.tc : Thread nD τ).loc main_arg6) = up X6
  h7 : m ((c.tc : Thread nD τ).loc main_arg7) = up X7
  h8 : m ((c.tc : Thread nD τ).loc main_arg8) = up X8
  h9 : m ((c.tc : Thread nD τ).loc main_arg9) = up X9

/-! What each block of the kernel's operands holds. -/

section blocks
variable (H : Args X0 X1 X2 X3 X4 X5 X6 X7 X8 X9 m c)
include H

theorem bda (t : Fin 16) (a k) : iblk m c 2 t (ix2 a k) = ((X1 (ix2 (row t a) k) : ℝ) : EReal) := by
  rw [show ((X1 (ix2 (row t a) k) : ℝ) : EReal) = _ from (congrFun H.h1 (ix2 (row t a) k)).symm]
  blk_simp [iblk, V]
  entry_read
  pointwise
  blk_ext [idx t, row]

theorem bcb (t : Fin 16) (a k) : iblk m c 3 t (ix2 a k) = ((X2 (ix2 (row t a) k) : ℝ) : EReal) := by
  rw [show ((X2 (ix2 (row t a) k) : ℝ) : EReal) = _ from (congrFun H.h2 (ix2 (row t a) k)).symm]
  blk_ext [iblk, V, idx t, row]

theorem bcn (t : Fin 16) (ht : t.val < 15) (e k) : iblk m c 4 t (ix2 e k) = ((X2 (ix2 ⟨t.val * 256 + 256 + e.val, by have := e.isLt; omega⟩ k) : ℝ) : EReal) := by
  rw [show ((X2 (ix2 ⟨t.val * 256 + 256 + e.val, by have := e.isLt; omega⟩ k) : ℝ) : EReal) = _ from (congrFun H.h2 (ix2 ⟨t.val * 256 + 256 + e.val, by have := e.isLt; omega⟩ k)).symm]
  blk_ext [iblk, V, idx t]

theorem bd (t : Fin 16) (a k) : iblk m c 5 t (ix2 a k) = ((X3 (ix2 (row t a) k) : ℝ) : EReal) := by
  rw [show ((X3 (ix2 (row t a) k) : ℝ) : EReal) = _ from (congrFun H.h3 (ix2 (row t a) k)).symm]
  blk_ext [iblk, V, idx t, row]

theorem bdn (t : Fin 16) (ht : t.val < 15) (e k) : iblk m c 6 t (ix2 e k) = ((X3 (ix2 ⟨t.val * 256 + 256 + e.val, by have := e.isLt; omega⟩ k) : ℝ) : EReal) := by
  rw [show ((X3 (ix2 ⟨t.val * 256 + 256 + e.val, by have := e.isLt; omega⟩ k) : ℝ) : EReal) = _ from (congrFun H.h3 (ix2 ⟨t.val * 256 + 256 + e.val, by have := e.isLt; omega⟩ k)).symm]
  blk_ext [iblk, V, idx t]

theorem bx (t : Fin 16) (a k) : iblk m c 7 t (ix2 a k) = ((X0 (ix2 (row t a) k) : ℝ) : EReal) := by
  rw [show ((X0 (ix2 (row t a) k) : ℝ) : EReal) = _ from (congrFun H.h0 (ix2 (row t a) k)).symm]
  blk_ext [iblk, V, idx t, row]

theorem br (t : Fin 16) (a k) : iblk m c 8 t (ix2 a k) = ((X4 (ix2 (row t a) k) : ℝ) : EReal) := by
  rw [show ((X4 (ix2 (row t a) k) : ℝ) : EReal) = _ from (congrFun H.h4 (ix2 (row t a) k)).symm]
  blk_ext [iblk, V, idx t, row]

theorem bg (t : Fin 16) (z k) : iblk m c 9 t (ix2 z k) = ((X5 (ix1 k) : ℝ) : EReal) := by
  rw [show ((X5 (ix1 k) : ℝ) : EReal) = _ from (congrFun H.h5 (ix1 k)).symm]
  blk_simp [iblk, V]
  entry_read
  pointwise
  blk_ext [idx t]

theorem bs (t : Fin 16) (z k) : iblk m c 10 t (ix2 z k) = ((1 + X7 (ix2 0 k) : ℝ) : EReal) := by
  rw [EReal.coe_add, show ((X7 (ix2 0 k) : ℝ) : EReal) = _ from (congrFun H.h7 (ix2 0 k)).symm]
  blk_simp [iblk, V]
  entry_read
  pointwise [ofBits_one]
  refine congrArg _ ?_
  blk_ext [idx t]

theorem bk (t : Fin 16) (k : Fin 31) (z q) : View.ld (iblk m c 11 t) (Rect.unit (s := S31x384) ![k.val, 0] ![1, 384] (inb_cw k)) (ix2 z q) = ((X8 (ix2 k q) : ℝ) : EReal) := by
  rw [show ((X8 (ix2 k q) : ℝ) : EReal) = _ from (congrFun H.h8 (ix2 k q)).symm]
  refine (View.ld_unit_apply_of (S := S31x384) _ _ _ _ _ (ix2 k q) (Fin.forall_fin_two.mpr ⟨?_, ?_⟩)).trans ?_
  · show k.val = k.val + z.val; omega
  · show q.val = 0 + q.val; omega
  · blk_ext [iblk, V, idx t]

theorem bw (t : Fin 16) (l k) : iblk m c 12 t (ix2 l k) = ((X9 (ix2 k l) : ℝ) : EReal) := by
  rw [show ((X9 (ix2 k l) : ℝ) : EReal) = _ from (congrFun H.h9 (ix2 k l)).symm]
  blk_simp [iblk, V]
  entry_read
  pointwise
  blk_ext [idx t]

omit H in
theorem z_sum (r : Fin 4096) (k : Fin 1792) :
    (∑ x, (up X0 (ix2 r x) * Ideal.rsqrt (Ideal.div (∑ x, up X0 (ix2 r x) * up X0 (ix2 r x)) (Ideal.ofBits FTy.f32 1149239296#32) + Ideal.ofBits FTy.f32 897988541#32)
        * up X5 (ix1 x) * (1 + up X7 (ix2 0 x)) + up X6 (ix2 0 x)) * up X9 (ix2 x k) : EReal) = ((Z X0 X5 X6 X7 X9 r k : ℝ) : EReal) := by
  simp only [up, ofBits_1024, ofBits_eps, ← EReal.coe_mul, sum_coe]
  rw [div_coe' (by norm_num), ← EReal.coe_add, show (∑ i, X0 (ix2 r i) * X0 (ix2 r i)) / 1024 + eps = M X0 r from rfl, rsqrt_coe' (M_pos X0 r), ← EReal.coe_one]
  simp only [← EReal.coe_mul, ← EReal.coe_add, sum_coe]
  rfl

theorem bz (t : Fin 16) (a k) : iblk m c 0 t (ix2 a k) = ((Z X0 X5 X6 X7 X9 (row t a) k : ℝ) : EReal) := by
  blk_simp [iblk, V]
  entry_read
  have e : ((cfg0.win 0).blk t).view.emb (ix2 a k) = ix2 (row t a) k := by blk_ext [idx t, row]
  refine (congrArg _ e).trans ?_
  pointwise
  rw [show m (c, Proc.tc.devRef main_arg0) = up X0 from H.h0, show m (c, Proc.tc.devRef main_arg5) = up X5 from H.h5, show m (c, Proc.tc.devRef main_arg6) = up X6 from H.h6,
    show m (c, Proc.tc.devRef main_arg7) = up X7 from H.h7, show m (c, Proc.tc.devRef main_arg9) = up X9 from H.h9]
  exact z_sum X0 X5 X6 X7 X9 _ _

theorem bzh (t : Fin 16) (ht : 0 < t.val) (e k) : iblk m c 1 t (ix2 e k) = ((Z X0 X5 X6 X7 X9 ⟨t.val * 256 - 32 + e.val, by have := e.isLt; omega⟩ k : ℝ) : EReal) := by
  blk_simp [iblk, V]
  entry_read
  have e : ((cfg0.win 1).blk t).view.emb (ix2 e k) = ix2 ⟨t.val * 256 - 32 + e.val, by have := e.isLt; omega⟩ k := by blk_ext [idx t]
  refine (congrArg _ e).trans ?_
  pointwise
  rw [show m (c, Proc.tc.devRef main_arg0) = up X0 from H.h0, show m (c, Proc.tc.devRef main_arg5) = up X5 from H.h5, show m (c, Proc.tc.devRef main_arg6) = up X6 from H.h6,
    show m (c, Proc.tc.devRef main_arg7) = up X7 from H.h7, show m (c, Proc.tc.devRef main_arg9) = up X9 from H.h9]
  exact z_sum X0 X5 X6 X7 X9 _ _

theorem zl_apply (t : Fin 16) (r p n : ℕ) (hr hp) (a : Fin n) (q : Fin 384) :
    zl m c t r p n hr hp (ix2 a q) = ((Z X0 X5 X6 X7 X9 (row t ⟨r + a.val, by omega⟩) ⟨p + q.val, by omega⟩ : ℝ) : EReal) :=
  (View.ld_unit_apply_of (S := S256x1792) _ _ _ _ _ (ix2 ⟨r + a.val, by omega⟩ ⟨p + q.val, by omega⟩) (Fin.forall_fin_two.mpr ⟨rfl, rfl⟩)).trans (bz X0 X1 X2 X3 X4 X5 X6 X7 X8 X9 m c H t _ _)

theorem zh_apply (t : Fin 16) (ht : 0 < t.val) (p : ℕ) (hp) (e : Fin 32) (q : Fin 384) :
    View.ld (iblk m c 1 t) (Rect.unit (s := S32x1792) ![0, p] ![32, 384] (inb_zh p hp)) (ix2 e q) = ((Z X0 X5 X6 X7 X9 ⟨t.val * 256 - 32 + e.val, by omega⟩ ⟨p + q.val, by omega⟩ : ℝ) : EReal) :=
  (View.ld_unit_apply_of (S := S32x1792) _ _ _ _ _ (ix2 e ⟨p + q.val, by omega⟩) (Fin.forall_fin_two.mpr ⟨(Nat.zero_add _).symm, rfl⟩)).trans (bzh X0 X1 X2 X3 X4 X5 X6 X7 X8 X9 m c H t ht _ _)

end blocks

/-! What the scratch arrays' entries are. -/

theorem ofNat_val {n : ℕ} [NeZero n] (q : Fin n) : Fin.ofNat n q.val = q := Fin.ext (Nat.mod_eq_of_lt q.isLt)

theorem Cc_at (n : ℕ) (r : Fin 4096) (q) (h : n = r.val + 30) :
    Cc X0 X5 X6 X7 X9 n q = Z X0 X5 X6 X7 X9 r ⟨768 + q.val, by omega⟩ * sg (Z X0 X5 X6 X7 X9 r ⟨1152 + q.val, by omega⟩) := by
  subst h
  have e : (⟨r.val + 30 - 30, by omega⟩ : Fin 4096) = r := Fin.ext (by show r.val + 30 - 30 = r.val; omega)
  unfold Cc
  rw [dif_pos (by omega), e]

theorem Cc_lt (n : ℕ) (q) (h : n < 30) : Cc X0 X5 X6 X7 X9 n q = 0 := dif_neg fun g => absurd g.1 (by omega)

theorem first_eq : ∀ t : Fin 16, Scalar.cmpi CmpIPredicate.eq (BitVec.ofNat 32 (grid0.coords t 0).val) 0#32 = if 0 < t.val then 0#1 else 1#1 := by decide +kernel
theorem last_eq : ∀ t : Fin 16, last t = if t.val < 15 then 0#1 else 1#1 := by decide +kernel

theorem coords_eq : ∀ t : Fin 16, (grid0.coords t 0).val = t.val := by decide +kernel

theorem ofBits_two : Ideal.ofBits .f32 1073741824#32 = (((2 : ℕ) : ℝ) : EReal) := by
  simp [Ideal.ofBits, Ideal.ieee, -EReal.coe_mul]; norm_num
theorem ofBits_four : Ideal.ofBits .f32 1082130432#32 = (((4 : ℕ) : ℝ) : EReal) := by
  simp [Ideal.ofBits, Ideal.ieee, -EReal.coe_mul]; norm_num
theorem ofBits_eight : Ideal.ofBits .f32 1090519040#32 = (((8 : ℕ) : ℝ) : EReal) := by
  simp [Ideal.ofBits, Ideal.ieee, -EReal.coe_mul]; norm_num
theorem ofBits_sixteen : Ideal.ofBits .f32 1098907648#32 = (((16 : ℕ) : ℝ) : EReal) := by
  simp [Ideal.ofBits, Ideal.ieee, -EReal.coe_mul]; norm_num

theorem lane : ∀ b : Fin 256, IntOp.cmpi .slt (BitVec.ofNat 32 b.val) 64#32 = (if b.val < 64 then 1#1 else 0#1) ∧ IntOp.cmpi .slt (BitVec.ofNat 32 b.val) 128#32 = (if b.val < 128 then 1#1 else 0#1)
    ∧ IntOp.cmpi .slt (BitVec.ofNat 32 b.val) 192#32 = (if b.val < 192 then 1#1 else 0#1) := by decide +kernel

theorem win_pos (b) : 0 < win b := by unfold win; split_ifs <;> decide

/-- The kernel's choice of a window, by column. -/
theorem width (b : Fin 256) :
    Scalar.select (IntOp.cmpi .slt (BitVec.ofNat 32 b.val) 64#32) (Ideal.ofBits FTy.f32 1073741824#32) (Scalar.select (IntOp.cmpi .slt (BitVec.ofNat 32 b.val) 128#32) (Ideal.ofBits FTy.f32 1082130432#32)
      (Scalar.select (IntOp.cmpi .slt (BitVec.ofNat 32 b.val) 192#32) (Ideal.ofBits FTy.f32 1090519040#32) (Ideal.ofBits FTy.f32 1098907648#32))) = ((win b : ℝ) : EReal) := by
  rw [(lane b).1, (lane b).2.1, (lane b).2.2]
  unfold win
  by_cases h : b.val < 64
  · rw [if_pos h, if_pos h]; exact ofBits_two
  rw [if_neg h, if_neg h]
  by_cases h : b.val < 128
  · rw [if_pos h, if_pos h]; exact ofBits_four
  rw [if_neg h, if_neg h]
  by_cases h : b.val < 192
  · rw [if_pos h, if_pos h]; exact ofBits_eight
  rw [if_neg h, if_neg h]; exact ofBits_sixteen

/-- The number of rows a window has taken in at row `n`, as the kernel computes it. -/
theorem taken (n w : ℕ) (hn : n < 8192) : min (FloatOps.sitofp (F := Ideal) FTy.f32 (BitVec.ofNat 32 (n + 1))) ((w : ℝ) : EReal) = (((min (n + 1) w : ℕ) : ℝ) : EReal) := by
  have : (BitVec.ofNat 32 (n + 1)).toInt = ((n + 1 : ℕ) : ℤ) := by
    rw [BitVec.toInt_eq_toNat_of_lt (by rw [BitVec.toNat_ofNat]; omega), BitVec.toNat_ofNat, Nat.mod_eq_of_lt (by omega)]
  rw [show FloatOps.sitofp (F := Ideal) FTy.f32 (BitVec.ofNat 32 (n + 1)) = (((n + 1 : ℕ) : ℝ) : EReal) from (Ideal.scalar_sitofp_def _).trans (by rw [this]; norm_cast),
    Nat.cast_min]
  exact (EReal.coe_strictMono.monotone.map_min).symm

section entries
variable (H : Args X0 X1 X2 X3 X4 X5 X6 X7 X8 X9 m c)
include H

theorem in_entry (t : Fin 16) (y : S288x384.Idx) : View.canon (Val := Elt Ideal) (e := .f32) (inL m c t) y = ((Cc X0 X5 X6 X7 X9 (t.val * 256 + (y 0).val - 2) (Fin.ofNat 384 (y 1).val) : ℝ) : EReal) := by
  have h0 : (y 0).val < 288 := (y 0).isLt
  have h1 : (y 1).val < 384 := (y 1).isLt
  refine canon_tile 32 0 256 384 _ _ _ y _ (fun a b ha hb => ?_) fun n => ?_
  · rw [show Fin.ofNat 384 (y 1).val = b by rw [show (y 1).val = b.val by omega, ofNat_val], Cc_at X0 X5 X6 X7 X9 _ (row t a) b (by unfold row; dsimp only; omega)]
    unfold k0_pay7
    pointwise [zl_apply X0 X1 X2 X3 X4 X5 X6 X7 X8 X9 m c H, sg_coe, ← EReal.coe_mul]
  · refine canon_tile 0 0 32 384 _ _ _ y _ (fun a b ha hb => ?_) fun n' => by omega
    rw [show Fin.ofNat 384 (y 1).val = b by rw [show (y 1).val = b.val by omega, ofNat_val]]
    unfold k0_pay6
    pointwise
    rw [first_eq]
    split
    · rename_i h
      rw [Cc_at X0 X5 X6 X7 X9 _ ⟨t.val * 256 - 32 + a.val, by omega⟩ b (by dsimp only; omega), bzh X0 X1 X2 X3 X4 X5 X6 X7 X8 X9 m c H t h, bzh X0 X1 X2 X3 X4 X5 X6 X7 X8 X9 m c H t h, sg_coe, ← EReal.coe_mul]
      rfl
    · rename_i h
      rw [Cc_lt X0 X5 X6 X7 X9 _ _ (by omega)]
      rfl

theorem cb_entry (t : Fin 16) (y : S288x384.Idx) : View.canon (Val := Elt Ideal) (e := .f32) (cbL m c t) y = ((Cb X2 (t.val * 256 + (y 0).val) (Fin.ofNat 384 (y 1).val) : ℝ) : EReal) := by
  have h0 : (y 0).val < 288 := (y 0).isLt
  have h1 : (y 1).val < 384 := (y 1).isLt
  refine canon_tile 256 0 32 384 _ _ _ y _ (fun a b ha hb => ?_) fun n => ?_
  · rw [show Fin.ofNat 384 (y 1).val = b by rw [show (y 1).val = b.val by omega, ofNat_val], ha]
    unfold k0_pay55 Cb
    pointwise
    rw [last_eq]
    split
    · rename_i h
      rw [dif_pos (by omega), bcn X0 X1 X2 X3 X4 X5 X6 X7 X8 X9 m c H t h]
      simp only [Nat.add_assoc]
      rfl
    · rename_i h
      rw [dif_neg (by omega)]
      rfl
  · refine canon_tile 0 0 256 384 _ _ _ y _ (fun a b ha hb => ?_) fun n' => by omega
    rw [show Fin.ofNat 384 (y 1).val = b by rw [show (y 1).val = b.val by omega, ofNat_val], ha]
    unfold k0_pay54 Cb
    pointwise [bcb X0 X1 X2 X3 X4 X5 X6 X7 X8 X9 m c H]
    rw [dif_pos (by omega)]
    rfl

theorem dd_entry (t : Fin 16) (y : S288x256.Idx) : View.canon (Val := Elt Ideal) (e := .f32) (ddL m c t) y = ((G X3 (t.val * 256 + (y 0).val) (Fin.ofNat 256 (y 1).val) : ℝ) : EReal) := by
  have h0 : (y 0).val < 288 := (y 0).isLt
  have h1 : (y 1).val < 256 := (y 1).isLt
  refine canon_tile 256 0 32 256 _ _ _ y _ (fun a b ha hb => ?_) fun n => ?_
  · rw [show Fin.ofNat 256 (y 1).val = b by rw [show (y 1).val = b.val by omega, ofNat_val], ha]
    unfold k0_pay164 k0_pay163 k0_pay162 k0_pay161 G
    pointwise
    rw [last_eq]
    split
    · rename_i h
      rw [dif_pos (by omega), bdn X0 X1 X2 X3 X4 X5 X6 X7 X8 X9 m c H t h]
      rw [coords_eq, show IntOp.addi (IntOp.addi (Scalar.muli (Scalar.addi (BitVec.ofNat 32 t.val) 1#32) 256#32) (BitVec.ofNat 32 a.val)) 1#32 = BitVec.ofNat 32 (t.val * 256 + (256 + a.val) + 1) from
        BitVec.eq_of_toNat_eq (by simp [IntOp.addi, Scalar.addi, Scalar.muli, IntOp.muli]; omega), width, taken _ _ (by omega), div_coe' (Nat.cast_ne_zero.mpr (by have := win_pos b; omega))]
      simp only [Nat.add_assoc]
      rfl
    · rename_i h
      rw [dif_neg (by omega)]
      rfl
  · refine canon_tile 0 0 256 256 _ _ _ y _ (fun a b ha hb => ?_) fun n' => by omega
    rw [show Fin.ofNat 256 (y 1).val = b by rw [show (y 1).val = b.val by omega, ofNat_val], ha]
    unfold k0_pay160 G
    pointwise [bd X0 X1 X2 X3 X4 X5 X6 X7 X8 X9 m c H]
    rw [dif_pos (by omega), coords_eq, show IntOp.addi (Scalar.addi (Scalar.muli (BitVec.ofNat 32 t.val) 256#32) 1#32) (BitVec.ofNat 32 a.val) = BitVec.ofNat 32 (t.val * 256 + a.val + 1) from
      BitVec.eq_of_toNat_eq (by simp [IntOp.addi, Scalar.addi, Scalar.muli, IntOp.muli]; omega), width, taken _ _ (by omega), div_coe' (Nat.cast_ne_zero.mpr (by have := win_pos b; omega))]
    rfl

theorem inC_entry (t : Fin 16) (y : S7x280x384.Idx) :
    View.canon (Val := Elt Ideal) (e := .f32) (inC m c t) y = ((Cc X0 X5 X6 X7 X9 (t.val * 256 + ((y 0).val + 1 + (y 1).val) - 2) (Fin.ofNat 384 (y 2).val) : ℝ) : EReal) :=
  canon_copies (fun n q => ((Cc X0 X5 X6 X7 X9 (t.val * 256 + n - 2) (Fin.ofNat 384 q) : ℝ) : EReal)) (cp (View.whole cc0_scratch0) (inL m c t)) _ _ _ _ _ _ _ _
    (fun b a q => copy_apply _ _ (fun n q => ((Cc X0 X5 X6 X7 X9 (t.val * 256 + n - 2) (Fin.ofNat 384 q) : ℝ) : EReal)) (in_entry X0 X1 X2 X3 X4 X5 X6 X7 X8 X9 m c H t) _ _ _ a q) y

theorem cbC_entry (t : Fin 16) (y : S7x280x384.Idx) :
    View.canon (Val := Elt Ideal) (e := .f32) (cbC m c t) y = ((Cb X2 (t.val * 256 + ((y 0).val + 1 + (y 1).val)) (Fin.ofNat 384 (y 2).val) : ℝ) : EReal) :=
  canon_copies (fun n q => ((Cb X2 (t.val * 256 + n) (Fin.ofNat 384 q) : ℝ) : EReal)) (cp (View.whole cc0_scratch1) (cbL m c t)) _ _ _ _ _ _ _ _
    (fun b a q => copy_apply _ _ (fun n q => ((Cb X2 (t.val * 256 + n) (Fin.ofNat 384 q) : ℝ) : EReal)) (cb_entry X0 X1 X2 X3 X4 X5 X6 X7 X8 X9 m c H t) _ _ _ a q) y

/-- 32 rows of the cotangent of the convolution's input. -/
theorem da_apply (t : Fin 16) (r : Fin 8) (a q) : da m c t r (ix2 a q) = ((Da X2 X8 (t.val * 256 + (32 * r.val + a.val)) q : ℝ) : EReal) := by
  refine (acc_apply _ _ (fun k q => X8 (ix2 k q)) (fun k a q => Cb X2 (t.val * 256 + (30 - k.val + 32 * r.val + a.val)) q) (fun k z q => bk X0 X1 X2 X3 X4 X5 X6 X7 X8 X9 m c H t k z q)
    (fun k a q => ?_) a q 31 le_rfl).trans ?_
  · refine (rowsAt_apply _ _ _ _ (fun n q => ((Cb X2 (t.val * 256 + n) (Fin.ofNat 384 q) : ℝ) : EReal)) (cb_entry X0 X1 X2 X3 X4 X5 X6 X7 X8 X9 m c H t) (cbC_entry X0 X1 X2 X3 X4 X5 X6 X7 X8 X9 m c H t) _ _ _ _ _ _ _ a q).trans ?_
    rw [ofNat_val]
  · unfold Da
    refine congrArg _ (Finset.sum_congr rfl fun k _ => ?_)
    have := k.isLt
    rw [show t.val * 256 + (32 * r.val + a.val) + 30 - k.val = t.val * 256 + (30 - k.val + 32 * r.val + a.val) by omega]

end entries

/-! The block of the projection's cotangent. -/

/-- Whether column `b` is one of those from `l` up to `h`. -/
abbrev among (b : ℕ) (l h : BitVec 32) : BitVec 1 := IntOp.andi (IntOp.cmpi CmpIPredicate.sge (BitVec.ofNat 32 b) l) (IntOp.cmpi CmpIPredicate.slt (BitVec.ofNat 32 b) h)

theorem lanes : ∀ b : Fin 256, (b.val < 64 → among b 192#32 256#32 = 0#1 ∧ among b 128#32 192#32 = 0#1 ∧ among b 64#32 128#32 = 0#1 ∧ among b 0#32 64#32 = 1#1)
    ∧ (64 ≤ b.val → b.val < 128 → among b 192#32 256#32 = 0#1 ∧ among b 128#32 192#32 = 0#1 ∧ among b 64#32 128#32 = 1#1)
    ∧ (128 ≤ b.val → b.val < 192 → among b 192#32 256#32 = 0#1 ∧ among b 128#32 192#32 = 1#1) ∧ (192 ≤ b.val → among b 192#32 256#32 = 1#1) := by decide +kernel

section dz
variable (H : Args X0 X1 X2 X3 X4 X5 X6 X7 X8 X9 m c)
include H

theorem dr_apply (t : Fin 16) (n : Fin 16) (a b) : dr m c t n (ix2 a b) = ((G X3 (t.val * 256 + a.val + n.val) b : ℝ) : EReal) := by
  refine (read_tile _ _ (fun n q => ((G X3 (t.val * 256 + n) (Fin.ofNat 256 q) : ℝ) : EReal)) (dd_entry X0 X1 X2 X3 X4 X5 X6 X7 X8 X9 m c H t) _ _ _ _ _ a b).trans ?_
  rw [Nat.zero_add, ofNat_val, show t.val * 256 + (n.val + a.val) = t.val * 256 + a.val + n.val by omega]

theorem tP_apply (t : Fin 16) (a b) : tP m c t (ix2 a b) = ((Dp X3 (row t a) b - X3 (ix2 (row t a) b) : ℝ) : EReal) := by
  unfold tP k0_pay173 k0_pay172 k0_pay171 k0_pay170 k0_pay169 k0_pay168 k0_pay167 k0_pay166 k0_pay165
  pointwise [dr_apply X0 X1 X2 X3 X4 X5 X6 X7 X8 X9 m c H, bd X0 X1 X2 X3 X4 X5 X6 X7 X8 X9 m c H, ← EReal.coe_add, zero_add]
  unfold Dp
  have e : (row t a).val = t.val * 256 + a.val := rfl
  have ls := lanes b
  unfold among at ls
  rw [e]
  by_cases h1 : b.val < 64
  · obtain ⟨g1, g2, g3, g4⟩ := ls.1 h1
    rw [g1, g2, g3, g4, show win b = 2 from if_pos h1]
    simp only [Finset.sum_range_succ, Finset.sum_range_zero, zero_add, add_zero]
    exact (EReal.coe_sub _ _).symm
  by_cases h2 : b.val < 128
  · obtain ⟨g1, g2, g3⟩ := ls.2.1 (by omega) h2
    rw [g1, g2, g3, show win b = 4 from (if_neg h1).trans (if_pos h2)]
    simp only [Finset.sum_range_succ, Finset.sum_range_zero, zero_add, add_zero]
    exact (EReal.coe_sub _ _).symm
  by_cases h3 : b.val < 192
  · obtain ⟨g1, g2⟩ := ls.2.2.1 (by omega) h3
    rw [g1, g2, show win b = 8 from (if_neg h1).trans ((if_neg h2).trans (if_pos h3))]
    simp only [Finset.sum_range_succ, Finset.sum_range_zero, zero_add, add_zero]
    exact (EReal.coe_sub _ _).symm
  · rw [ls.2.2.2 (by omega), show win b = 16 from (if_neg h1).trans ((if_neg h2).trans (if_neg h3))]
    simp only [Finset.sum_range_succ, Finset.sum_range_zero, zero_add, add_zero]
    exact (EReal.coe_sub _ _).symm

theorem tiles_entry (t : Fin 16) (y : S256x1792.Idx) (h1 : 768 ≤ (y 1).val) (h2 : (y 1).val < 1536) :
    ∀ n hn, (y 0).val < 32 * n → View.canon (Val := Elt Ideal) (e := .bf16) (tiles m c t n hn) y = ((Dz X0 X1 X2 X3 X5 X6 X7 X8 X9 (row t (y 0)) (y 1) : ℝ) : EReal)
  | 0, _ => fun h => absurd h (by omega)
  | n + 1, hn => fun h => by
    unfold tiles
    refine canon_tile (32 * n) 1152 32 384 _ _ _ y _ (fun a b ha hb => ?_) fun g => canon_tile (32 * n) 768 32 384 _ _ _ y _ (fun a b ha hb => ?_) fun g' => tiles_entry t y h1 h2 n _ (by omega)
    · rw [show y 0 = (⟨32 * n + a.val, by omega⟩ : Fin 256) from Fin.ext ha, show y 1 = (⟨1152 + b.val, by omega⟩ : Fin 1792) from Fin.ext hb]
      unfold Dz tG
      rw [dif_neg (by dsimp only; omega), dif_neg (by dsimp only; omega), dif_pos (by dsimp only; omega)]
      pointwise [da_apply X0 X1 X2 X3 X4 X5 X6 X7 X8 X9 m c H, zl_apply X0 X1 X2 X3 X4 X5 X6 X7 X8 X9 m c H, sg_coe, ofBits_one, ← EReal.coe_mul, ← EReal.coe_sub]
      refine congrArg _ ?_
      rw [show (row t ⟨32 * n + a.val, by omega⟩).val = t.val * 256 + (32 * n + a.val) from rfl]
      ring
    · rw [show y 0 = (⟨32 * n + a.val, by omega⟩ : Fin 256) from Fin.ext ha, show y 1 = (⟨768 + b.val, by omega⟩ : Fin 1792) from Fin.ext hb]
      unfold Dz tA
      rw [dif_neg (by dsimp only; omega), dif_pos (by dsimp only; omega)]
      pointwise [da_apply X0 X1 X2 X3 X4 X5 X6 X7 X8 X9 m c H, zl_apply X0 X1 X2 X3 X4 X5 X6 X7 X8 X9 m c H, sg_coe, ← EReal.coe_mul]
      rfl

theorem dz_entry (t : Fin 16) (y : S256x1792.Idx) : View.canon (Val := Elt Ideal) (e := .bf16) (dzL m c t) y = ((Dz X0 X1 X2 X3 X5 X6 X7 X8 X9 (row t (y 0)) (y 1) : ℝ) : EReal) := by
  have h0 : (y 0).val < 256 := (y 0).isLt
  have h1 : (y 1).val < 1792 := (y 1).isLt
  refine canon_tile 0 0 256 768 _ _ _ y _ (fun a b ha hb => ?_) fun g => canon_tile 0 1536 256 256 _ _ _ y _ (fun a b ha hb => ?_) fun g' => tiles_entry X0 X1 X2 X3 X4 X5 X6 X7 X8 X9 m c H t y (by omega) (by omega) 8 le_rfl (by omega)
  · rw [show y 0 = a from Fin.ext (by omega), show y 1 = (⟨b.val, by omega⟩ : Fin 1792) from Fin.ext (by show (y 1).val = b.val; omega)]
    unfold Dz k0_pay174
    pointwise [bda X0 X1 X2 X3 X4 X5 X6 X7 X8 X9 m c H]
  · rw [show y 0 = a from Fin.ext (by omega), show y 1 = (⟨1536 + b.val, by omega⟩ : Fin 1792) from Fin.ext hb]
    refine (tP_apply X0 X1 X2 X3 X4 X5 X6 X7 X8 X9 m c H t a b).trans ?_
    unfold Dz
    rw [dif_neg (by dsimp only; omega), dif_neg (by dsimp only; omega), dif_neg (by dsimp only; omega)]
    simp only [Nat.add_sub_cancel_left]

end dz

end Cert.MixB
end
-- ==== Proof.MixBOut.lean ====
/- What the kernel of the mixer's second gradient leaves in all its results but the gradient of the convolution's weights. -/
module

public import proofs.«01_k».proof.Defs
public import proofs.«01_k».proof.Proof.MixBBlk
public import proofs.«01_k».proof.Proof.MixBRef
public import proofs.«01_k».proof.Proof.FfnIn
public import proofs.«01_k».proof.Proof.Stores
public import proofs.«01_k».proof.Proof.Gen.Kernel4Ideal.Value
public import Idealize.ShloMosaic.Lib.Pipeline.ReadBack
public import proofs.«01_k».proof.Proof.Gen.Reference4Ideal.Run
public import proofs.«01_k».proof.Proof.Gen.Reference4Ideal.Read
public import Idealize.ShloMosaic.Lib.Pipeline.ValueKit
public import Idealize.ShloMosaic.Lib.Claim
public import Idealize.ShloMosaic.Lib.Pointwise

@[expose] public section

set_option maxRecDepth 16384
set_option maxHeartbeats 2000000

noncomputable section

namespace Cert.MixB

open Cert.Kernel4Ideal Cert.Kernel4Ideal.Gen Idealize.ShloMosaic Idealize.ShloMosaic.TcCoe Idealize.SL.Sem Cert.Lift
open Idealize.ShloMosaic.Pipeline (Dat)
open Cert.FfnIn (M M_pos N row sum_rows)

variable (X0 : S4096x1024.Idx → ℝ) (X1 : S4096x768.Idx → ℝ) (X2 : S4096x384.Idx → ℝ) (X3 : S4096x256.Idx → ℝ) (X4 : S4096x1024.Idx → ℝ)
  (X5 : S1024.Idx → ℝ) (X6 X7 : S1x1024.Idx → ℝ) (X8 : S31x384.Idx → ℝ) (X9 : S1024x1792.Idx → ℝ) (m : (ℓ : Loc nD τ sig) → Buf (Elt Ideal) ℓ) (c : Dev nD)

/-! The results. -/

/-- The block of the projection's cotangent, read back. -/
abbrev dzB (t : Fin 16) : FVec Ideal S256x1792 .bf16 :=
  (Memref.view (ms0_14 t)).readCov (Val := Elt Ideal) (dzL m c t) (Rect.unit (s := S256x1792) ![0, 0] ![256, 1792] inb_S256x1792_S256x1792_0_0).toLoadRect

section out
variable (H : Args X0 X1 X2 X3 X4 X5 X6 X7 X8 X9 m c)
include H

theorem dz_read {sp : Space} (u : View sig .tc sp S256x1792 .bf16) (t : Fin 16) (inb) (a l) :
    u.readCov (Val := Elt Ideal) (dzL m c t) (Rect.unit (s := S256x1792) ![0, 0] ![256, 1792] inb).toLoadRect (ix2 a l) = ((Dz X0 X1 X2 X3 X5 X6 X7 X8 X9 (row t a) l : ℝ) : EReal) := by
  refine (read_tile u _ (fun n q => ((Dz X0 X1 X2 X3 X5 X6 X7 X8 X9 (row t (Fin.ofNat 256 n)) (Fin.ofNat 1792 q) : ℝ) : EReal)) (fun y => ?_) _ _ _ _ _ a l).trans ?_
  · refine (dz_entry X0 X1 X2 X3 X4 X5 X6 X7 X8 X9 m c H t y).trans ?_
    rw [show Fin.ofNat 256 (y 0).val = y 0 from ofNat_val (n := 256) (y 0), show Fin.ofNat 1792 (y 1).val = y 1 from ofNat_val (n := 1792) (y 1)]
  · rw [Nat.zero_add, Nat.zero_add, ofNat_val, ofNat_val]

theorem pay_r (t : Fin 16) (a z) : k0_pay178 (F := Ideal) (iblk m c 7 t) (ix2 a z) = (((√(M X0 (row t a)))⁻¹ : ℝ) : EReal) := by
  unfold k0_pay178
  pointwise [bx X0 X1 X2 X3 X4 X5 X6 X7 X8 X9 m c H, ofBits_1024, ofBits_eps, ← EReal.coe_mul, sum_coe]
  rw [div_coe' (by norm_num), ← EReal.coe_add]
  exact rsqrt_coe' (M_pos X0 _)

theorem pay_n (t : Fin 16) (a k) : k0_pay179 (F := Ideal) (iblk m c 7 t) (ix2 a k) = ((N X0 (row t a) k : ℝ) : EReal) := by
  unfold k0_pay179
  pointwise [bx X0 X1 X2 X3 X4 X5 X6 X7 X8 X9 m c H, pay_r X0 X1 X2 X3 X4 X5 X6 X7 X8 X9 m c H, ← EReal.coe_mul]
  rfl

/-- A block of rows of the gradient of the projection's input. -/
theorem pay_dh {sp : Space} (u : View sig .tc sp S256x1792 .bf16) (t : Fin 16) (inb) (a k) :
    k0_pay175 (F := Ideal) (u.readCov (Val := Elt Ideal) (dzL m c t) (Rect.unit (s := S256x1792) ![0, 0] ![256, 1792] inb).toLoadRect) (iblk m c 12 t) (ix2 a k)
      = ((DH X0 X1 X2 X3 X5 X6 X7 X8 X9 (row t a) k : ℝ) : EReal) := by
  unfold k0_pay175
  pointwise [dz_read X0 X1 X2 X3 X4 X5 X6 X7 X8 X9 m c H u t, bw X0 X1 X2 X3 X4 X5 X6 X7 X8 X9 m c H, ← EReal.coe_mul, sum_coe, zero_add]
  rfl

theorem pay_dzB (t : Fin 16) (a k) : k0_pay175 (F := Ideal) (dzB m c t) (iblk m c 12 t) (ix2 a k) = ((DH X0 X1 X2 X3 X5 X6 X7 X8 X9 (row t a) k : ℝ) : EReal) :=
  pay_dh X0 X1 X2 X3 X4 X5 X6 X7 X8 X9 m c H (Memref.view (ms0_14 t)) t _ a k

variable (D : FVec Ideal S256x1792 .bf16) (t : Fin 16) (hD : ∀ a k, k0_pay175 (F := Ideal) D (iblk m c 12 t) (ix2 a k) = ((DH X0 X1 X2 X3 X5 X6 X7 X8 X9 (row t a) k : ℝ) : EReal))
include hD

theorem pay_dx (a k) : k0_pay183 (F := Ideal) (k0_pay175 D (iblk m c 12 t)) (k0_pay176 (iblk m c 9 t)) (k0_pay177 (iblk m c 10 t)) (iblk m c 8 t) (k0_pay178 (iblk m c 7 t)) (k0_pay179 (iblk m c 7 t)) (ix2 a k)
    = ((DX X0 X1 X2 X3 X4 X5 X6 X7 X8 X9 (row t a) k : ℝ) : EReal) := by
  unfold k0_pay183 k0_pay176 k0_pay177
  pointwise [pay_n X0 X1 X2 X3 X4 X5 X6 X7 X8 X9 m c H, hD, br X0 X1 X2 X3 X4 X5 X6 X7 X8 X9 m c H, bg X0 X1 X2 X3 X4 X5 X6 X7 X8 X9 m c H, bs X0 X1 X2 X3 X4 X5 X6 X7 X8 X9 m c H, ofBits_1024,
    pay_r X0 X1 X2 X3 X4 X5 X6 X7 X8 X9 m c H, ← EReal.coe_mul, sum_coe, div_coe' (by norm_num : (1024 : ℝ) ≠ 0), ← EReal.coe_sub, ← EReal.coe_add]
  have e : ∀ k, DH X0 X1 X2 X3 X5 X6 X7 X8 X9 (row t a) k * (X5 (ix1 k) * (1 + X7 (ix2 0 k))) = T X0 X1 X2 X3 X5 X6 X7 X8 X9 (row t a) k := fun k => by unfold T; ring
  simp only [e]
  exact congrArg _ (add_comm _ _)

theorem term_sh (o : FVec Ideal S1x1024 .f32) (z k) : k0_pay184 (F := Ideal) (k0_pay180 D (iblk m c 12 t)) o (ix2 z k) = o (ix2 z k) + ((∑ a, DH X0 X1 X2 X3 X5 X6 X7 X8 X9 (row t a) k : ℝ) : EReal) := by
  unfold k0_pay184 k0_pay180
  pointwise [hD, sum_coe]

theorem term_sc (o : FVec Ideal S1x1024 .f32) (z k) : k0_pay185 (F := Ideal) (k0_pay182 D (iblk m c 12 t) (iblk m c 7 t) (iblk m c 9 t)) o (ix2 z k)
    = o (ix2 z k) + ((∑ a, DH X0 X1 X2 X3 X5 X6 X7 X8 X9 (row t a) k * N X0 (row t a) k * X5 (ix1 k) : ℝ) : EReal) := by
  unfold k0_pay185 k0_pay182 k0_pay181 k0_pay176
  pointwise [pay_n X0 X1 X2 X3 X4 X5 X6 X7 X8 X9 m c H, hD, bg X0 X1 X2 X3 X4 X5 X6 X7 X8 X9 m c H, ← EReal.coe_mul, sum_coe]

theorem term_g (o : FVec Ideal S1x1024 .f32) (z k) : k0_pay186 (F := Ideal) (k0_pay177 (iblk m c 10 t)) (k0_pay181 D (iblk m c 12 t) (iblk m c 7 t)) o (ix2 z k)
    = o (ix2 z k) + ((∑ a, DH X0 X1 X2 X3 X5 X6 X7 X8 X9 (row t a) k * N X0 (row t a) k * (1 + X7 (ix2 0 k)) : ℝ) : EReal) := by
  unfold k0_pay186 k0_pay181 k0_pay177
  pointwise [pay_n X0 X1 X2 X3 X4 X5 X6 X7 X8 X9 m c H, hD, bs X0 X1 X2 X3 X4 X5 X6 X7 X8 X9 m c H, ← EReal.coe_mul, sum_coe]

omit hD
omit D t

theorem out13 : (dats m 0 c).arrAt 13 (cfgs 0).N = Reference4Ideal.Read.val_main_v745 (F := Ideal) (up X0) (up X1) (up X2) (up X3) (up X4) (up X5) (up X6) (up X7) (up X8) (up X9) := by
  refine (dats m 0 c).arrAt_eq_of_covers 13 _ (by decide +kernel) fun t hf y => ?_
  have e : (((cfgs 0).win 13).blk t).view.emb y = ix2 (row t (y 0)) (y 1) := by blk_ext [idx t, row]
  have ej : y = ix2 (y 0) (y 1) := by blk_ext []
  rw [e]
  blk_simp
  rw [after0_13]
  refine Eq.trans (b := k0_pay183 (F := Ideal) (k0_pay175 (dzB m c t) (iblk m c 12 t)) (k0_pay176 (iblk m c 9 t)) (k0_pay177 (iblk m c 10 t)) (iblk m c 8 t) (k0_pay178 (iblk m c 7 t)) (k0_pay179 (iblk m c 7 t)) y) ?_
    ((congrArg _ ej).trans <| (pay_dx X0 X1 X2 X3 X4 X5 X6 X7 X8 X9 m c H _ t (pay_dzB X0 X1 X2 X3 X4 X5 X6 X7 X8 X9 m c H t) (y 0) (y 1)).trans (ref_dx X0 X1 X2 X3 X4 X5 X6 X7 X8 X9 _ _).symm)
  by_cases h : t.val % 16 = 0
  · rw [outsAt0_A m c t h]
    frame_out
    sl_kernel_rfl
  · rw [outsAt0_B m c t h]
    frame_out
    sl_kernel_rfl

theorem out14 : (dats m 0 c).arrAt 14 (cfgs 0).N = Reference4Ideal.Read.val_main_v746 (F := Ideal) (up X0) (up X1) (up X2) (up X3) (up X5) (up X6) (up X7) (up X8) (up X9) := by
  refine (dats m 0 c).arrAt_eq_of_covers 14 _ (by decide +kernel) fun t hf y => ?_
  have e : (((cfgs 0).win 14).blk t).view.emb y = ix2 (row t (y 0)) (y 1) := by blk_ext [idx t, row]
  rw [e]
  blk_simp
  rw [after0_14]
  refine Eq.trans ?_ ((dz_entry X0 X1 X2 X3 X4 X5 X6 X7 X8 X9 m c H t y).trans (ref_dz X0 X1 X2 X3 X5 X6 X7 X8 X9 _ _).symm)
  by_cases h : t.val % 16 = 0
  · rw [outsAt0_A m c t h]
    frame_out
    sl_kernel_rfl
  · rw [outsAt0_B m c t h]
    frame_out
    sl_kernel_rfl

theorem out15 : (dats m 0 c).arrAt 15 (cfgs 0).N = Reference4Ideal.Read.val_main_v719 (F := Ideal) (up X0) (up X1) (up X2) (up X3) (up X5) (up X6) (up X7) (up X8) (up X9) := by
  refine (dats m 0 c).arrAt_eq_of_after_last 15 t0_15 (by decide +kernel) _ fun j => ?_
  have e : (cfg0.win 15).arr.view.emb j = ix2 (j 0) (j 1) := by blk_ext []
  rw [e]
  refine Eq.trans ?_ (ref_sh X0 X1 X2 X3 X5 X6 X7 X8 X9 _ _).symm
  blk_simp
  rw [after0_15]
  refine (Pipeline.eq_sum_fin_of_reset_step_apply_last (fun n h => (outsAt0 m c n h).2.2.1) 16 (fun _ => (0 : EReal))
    (fun t j => ((∑ a, DH X0 X1 X2 X3 X5 X6 X7 X8 X9 (row t a) (j 1) : ℝ) : EReal)) ?_ ?_ (by decide) t0_15 rfl j).trans ?_
  · intro t h j
    have ej : j = ix2 (j 0) (j 1) := by blk_ext []
    refine Eq.trans (b := k0_pay184 (F := Ideal) (k0_pay180 (dzB m c t) (iblk m c 12 t)) (k0_pay1 (F := Ideal)) j) (by rw [outsAt0_A m c t h]; frame_out; sl_kernel_rfl) ?_
    refine (congrArg _ ej).trans ((term_sh X0 X1 X2 X3 X4 X5 X6 X7 X8 X9 m c H _ t (pay_dzB X0 X1 X2 X3 X4 X5 X6 X7 X8 X9 m c H t) _ (j 0) (j 1)).trans (congrArg (· + _) ?_))
    unfold k0_pay1
    pointwise
  · intro t h j
    have ej : j = ix2 (j 0) (j 1) := by blk_ext []
    refine Eq.trans (b := k0_pay184 (F := Ideal) (k0_pay180 (dzB m c t) (iblk m c 12 t)) (outsAt0 m c (t.val - 1) (Nat.lt_of_le_of_lt (Nat.sub_le _ _) t.isLt)).2.2.1 j) (by rw [outsAt0_B m c t h]; frame_out; sl_kernel_rfl) ?_
    exact (congrArg _ ej).trans ((term_sh X0 X1 X2 X3 X4 X5 X6 X7 X8 X9 m c H _ t (pay_dzB X0 X1 X2 X3 X4 X5 X6 X7 X8 X9 m c H t) _ (j 0) (j 1)).trans (congrArg (· + _) (congrArg _ ej.symm)))
  · rw [sum_coe, zero_add]
    refine congrArg _ (Eq.trans ?_ (sum_rows _))
    rfl

theorem out16 : (dats m 0 c).arrAt 16 (cfgs 0).N = Reference4Ideal.Read.val_main_v722 (F := Ideal) (up X0) (up X1) (up X2) (up X3) (up X5) (up X6) (up X7) (up X8) (up X9) := by
  refine (dats m 0 c).arrAt_eq_of_after_last 16 t0_15 (by decide +kernel) _ fun j => ?_
  have e : (cfg0.win 16).arr.view.emb j = ix2 (j 0) (j 1) := by blk_ext []
  rw [e]
  refine Eq.trans ?_ (ref_sc X0 X1 X2 X3 X5 X6 X7 X8 X9 _ _).symm
  blk_simp
  rw [after0_16]
  refine (Pipeline.eq_sum_fin_of_reset_step_apply_last (fun n h => (outsAt0 m c n h).2.2.2.1) 16 (fun _ => (0 : EReal))
    (fun t j => ((∑ a, DH X0 X1 X2 X3 X5 X6 X7 X8 X9 (row t a) (j 1) * N X0 (row t a) (j 1) * X5 (ix1 (j 1)) : ℝ) : EReal)) ?_ ?_ (by decide) t0_15 rfl j).trans ?_
  · intro t h j
    have ej : j = ix2 (j 0) (j 1) := by blk_ext []
    refine Eq.trans (b := k0_pay185 (F := Ideal) (k0_pay182 (dzB m c t) (iblk m c 12 t) (iblk m c 7 t) (iblk m c 9 t)) (k0_pay2 (F := Ideal)) j) (by rw [outsAt0_A m c t h]; frame_out; sl_kernel_rfl) ?_
    refine (congrArg _ ej).trans ((term_sc X0 X1 X2 X3 X4 X5 X6 X7 X8 X9 m c H _ t (pay_dzB X0 X1 X2 X3 X4 X5 X6 X7 X8 X9 m c H t) _ (j 0) (j 1)).trans (congrArg (· + _) ?_))
    unfold k0_pay2
    pointwise
  · intro t h j
    have ej : j = ix2 (j 0) (j 1) := by blk_ext []
    refine Eq.trans (b := k0_pay185 (F := Ideal) (k0_pay182 (dzB m c t) (iblk m c 12 t) (iblk m c 7 t) (iblk m c 9 t)) (outsAt0 m c (t.val - 1) (Nat.lt_of_le_of_lt (Nat.sub_le _ _) t.isLt)).2.2.2.1 j) (by rw [outsAt0_B m c t h]; frame_out; sl_kernel_rfl) ?_
    exact (congrArg _ ej).trans ((term_sc X0 X1 X2 X3 X4 X5 X6 X7 X8 X9 m c H _ t (pay_dzB X0 X1 X2 X3 X4 X5 X6 X7 X8 X9 m c H t) _ (j 0) (j 1)).trans (congrArg (· + _) (congrArg _ ej.symm)))
  · rw [sum_coe, zero_add]
    refine congrArg _ (Eq.trans ?_ (sum_rows _))
    exact Finset.sum_congr rfl fun p _ => Finset.sum_congr rfl fun a _ => by ring

theorem out17 : (dats m 0 c).arrAt 17 (cfgs 0).N = Reference4Ideal.Read.val_main_v747 (F := Ideal) (up X0) (up X1) (up X2) (up X3) (up X5) (up X6) (up X7) (up X8) (up X9) := by
  refine (dats m 0 c).arrAt_eq_of_after_last 17 t0_15 (by decide +kernel) _ fun j => ?_
  have e : (cfg0.win 17).arr.view.emb j = ix2 (j 0) (j 1) := by blk_ext []
  rw [e]
  refine Eq.trans ?_ (ref_dg X0 X1 X2 X3 X5 X6 X7 X8 X9 _ _).symm
  blk_simp
  rw [after0_17]
  refine (Pipeline.eq_sum_fin_of_reset_step_apply_last (fun n h => (outsAt0 m c n h).2.2.2.2.1) 16 (fun _ => (0 : EReal))
    (fun t j => ((∑ a, DH X0 X1 X2 X3 X5 X6 X7 X8 X9 (row t a) (j 1) * N X0 (row t a) (j 1) * (1 + X7 (ix2 0 (j 1))) : ℝ) : EReal)) ?_ ?_ (by decide) t0_15 rfl j).trans ?_
  · intro t h j
    have ej : j = ix2 (j 0) (j 1) := by blk_ext []
    refine Eq.trans (b := k0_pay186 (F := Ideal) (k0_pay177 (iblk m c 10 t)) (k0_pay181 (dzB m c t) (iblk m c 12 t) (iblk m c 7 t)) (k0_pay3 (F := Ideal)) j) (by rw [outsAt0_A m c t h]; frame_out; sl_kernel_rfl) ?_
    refine (congrArg _ ej).trans ((term_g X0 X1 X2 X3 X4 X5 X6 X7 X8 X9 m c H _ t (pay_dzB X0 X1 X2 X3 X4 X5 X6 X7 X8 X9 m c H t) _ (j 0) (j 1)).trans (congrArg (· + _) ?_))
    unfold k0_pay3
    pointwise
  · intro t h j
    have ej : j = ix2 (j 0) (j 1) := by blk_ext []
    refine Eq.trans (b := k0_pay186 (F := Ideal) (k0_pay177 (iblk m c 10 t)) (k0_pay181 (dzB m c t) (iblk m c 12 t) (iblk m c 7 t)) (outsAt0 m c (t.val - 1) (Nat.lt_of_le_of_lt (Nat.sub_le _ _) t.isLt)).2.2.2.2.1 j) (by rw [outsAt0_B m c t h]; frame_out; sl_kernel_rfl) ?_
    exact (congrArg _ ej).trans ((term_g X0 X1 X2 X3 X4 X5 X6 X7 X8 X9 m c H _ t (pay_dzB X0 X1 X2 X3 X4 X5 X6 X7 X8 X9 m c H t) _ (j 0) (j 1)).trans (congrArg (· + _) (congrArg _ ej.symm)))
  · rw [sum_coe, zero_add]
    refine congrArg _ (Eq.trans ?_ (sum_rows _))
    exact Finset.sum_congr rfl fun p _ => Finset.sum_congr rfl fun a _ => by ring

theorem term_b (t : Fin 16) (o : FVec Ideal S1x384 .f32) (z q) : k0_pay15 (F := Ideal) (iblk m c 3 t) o (ix2 z q) = o (ix2 z q) + ((∑ a, X2 (ix2 (row t a) q) : ℝ) : EReal) := by
  unfold k0_pay15
  pointwise [bcb X0 X1 X2 X3 X4 X5 X6 X7 X8 X9 m c H, sum_coe]

theorem out19 : (dats m 0 c).arrAt 19 (cfgs 0).N = Reference4Ideal.Read.val_main_v748 (F := Ideal) (up X2) := by
  refine (dats m 0 c).arrAt_eq_of_after_last 19 t0_15 (by decide +kernel) _ fun j => ?_
  have e : (cfg0.win 19).arr.view.emb j = ix2 (j 0) (j 1) := by blk_ext []
  rw [e]
  refine Eq.trans ?_ (ref_db X2 _ _).symm
  blk_simp
  rw [after0_19]
  refine (Pipeline.eq_sum_fin_of_reset_step_apply_last (fun n h => (outsAt0 m c n h).2.2.2.2.2.2) 16 (fun _ => (0 : EReal))
    (fun t j => ((∑ a, X2 (ix2 (row t a) (j 1)) : ℝ) : EReal)) ?_ ?_ (by decide) t0_15 rfl j).trans ?_
  · intro t h j
    have ej : j = ix2 (j 0) (j 1) := by blk_ext []
    refine Eq.trans (b := k0_pay15 (F := Ideal) (iblk m c 3 t) (k0_pay5 (F := Ideal)) j) (by rw [outsAt0_A m c t h]; frame_out) ?_
    refine (congrArg _ ej).trans ((term_b X0 X1 X2 X3 X4 X5 X6 X7 X8 X9 m c H t _ (j 0) (j 1)).trans (congrArg (· + _) ?_))
    unfold k0_pay5
    pointwise
  · intro t h j
    have ej : j = ix2 (j 0) (j 1) := by blk_ext []
    refine Eq.trans (b := k0_pay15 (F := Ideal) (iblk m c 3 t) (outsAt0 m c (t.val - 1) (Nat.lt_of_le_of_lt (Nat.sub_le _ _) t.isLt)).2.2.2.2.2.2 j) (by rw [outsAt0_B m c t h]; frame_out) ?_
    exact (congrArg _ ej).trans ((term_b X0 X1 X2 X3 X4 X5 X6 X7 X8 X9 m c H t _ (j 0) (j 1)).trans (congrArg (· + _) (congrArg _ ej.symm)))
  · rw [sum_coe, zero_add]
    refine congrArg _ (Eq.trans ?_ (sum_rows _))
    rfl

end out

end Cert.MixB
end
-- ==== Proof.MixBDw.lean ====
/- What the kernel of the mixer's second gradient leaves as the gradient of the convolution's weights. -/
module

public import proofs.«01_k».proof.Defs
public import proofs.«01_k».proof.Proof.MixBBlk
public import proofs.«01_k».proof.Proof.MixBRef
public import proofs.«01_k».proof.Proof.FfnIn
public import proofs.«01_k».proof.Proof.Stores
public import proofs.«01_k».proof.Proof.Gen.Kernel4Ideal.Value
public import Idealize.ShloMosaic.Lib.Pipeline.ReadBack
public import proofs.«01_k».proof.Proof.Gen.Reference4Ideal.Run
public import proofs.«01_k».proof.Proof.Gen.Reference4Ideal.Read
public import Idealize.ShloMosaic.Lib.Pipeline.ValueKit
public import Idealize.ShloMosaic.Lib.Claim
public import Idealize.ShloMosaic.Lib.Pointwise

@[expose] public section

set_option maxRecDepth 16384
set_option maxHeartbeats 2000000

noncomputable section

namespace Cert.MixB

open Cert.Kernel4Ideal Cert.Kernel4Ideal.Gen Idealize.ShloMosaic Idealize.ShloMosaic.TcCoe Idealize.SL.Sem Cert.Lift
open Idealize.ShloMosaic.Pipeline (Dat)
open Cert.FfnIn (M M_pos N row sum_rows)

variable (X0 : S4096x1024.Idx → ℝ) (X1 : S4096x768.Idx → ℝ) (X2 : S4096x384.Idx → ℝ) (X3 : S4096x256.Idx → ℝ) (X4 : S4096x1024.Idx → ℝ)
  (X5 : S1024.Idx → ℝ) (X6 X7 : S1x1024.Idx → ℝ) (X8 : S31x384.Idx → ℝ) (X9 : S1024x1792.Idx → ℝ) (m : (ℓ : Loc nD τ sig) → Buf (Elt Ideal) ℓ) (c : Dev nD)

/-! The gradient of the convolution's weights. -/

/-- One tap's sum, on top of what was there. -/
def wrow (v : FVec Ideal S256x384 .f32) (o : FVec Ideal S1x384 .f32) (x : FVec Ideal S256x384 .f32) : FVec Ideal S1x384 .f32 :=
  addf (shapeCast S1x384 o shapeCasts_S1x384_S1x384) (shapeCast S1x384 (multiReduction .add [0] S384 (mulf v x) 0x00000000#32 reduces_S256x384_S384 (.inl rfl) rfl) shapeCasts_S384_S1x384)

theorem wrow_apply (v o x) (z q) : wrow v o x (ix2 z q) = o (ix2 z q) + ∑ a, v (ix2 a q) * x (ix2 a q) := by
  unfold wrow
  pointwise

/-- The gated input's rows that tap `k` meets. -/
def inR (t : Fin 16) (k : Fin 31) : FVec Ideal S256x384 .f32 :=
  rowsAt (View.whole cc0_scratch0) (View.whole cc0_scratch3) (inL m c t) (inC m c t) 256 (2 + k.val) shapeCasts_S1x256x384_S256x384 (by omega) rfl ((2 + k.val) % 8) rfl

/-- The first `n` taps' sums, stored one by one over the list `B`, each on top of what `o` finds there. -/
def wL (t : Fin 16) (B : List (View.Piece (Elt Ideal) S31x384 .f32)) (o : List (View.Piece (Elt Ideal) S31x384 .f32) → Fin 31 → FVec Ideal S1x384 .f32) : ∀ n, n ≤ 31 → List (View.Piece (Elt Ideal) S31x384 .f32)
  | 0, _ => B
  | n + 1, h => ⟨Rect.unit (s := S31x384) ![n, 0] ![1, 384] (inb_cw ⟨n, h⟩), wrow (iblk m c 3 t) (o (wL t B o n (Nat.le_of_succ_le h)) ⟨n, h⟩) (inR m c t ⟨n, h⟩)⟩ :: wL t B o n (Nat.le_of_succ_le h)

/-- What lies there at a first block; -/
abbrev oA {sp : Space} (u : View sig .tc sp S31x384 .f32) (L : List (View.Piece (Elt Ideal) S31x384 .f32)) (k : Fin 31) : FVec Ideal S1x384 .f32 :=
  u.readCov (Val := Elt Ideal) L (Rect.unit (s := S31x384) ![k.val, 0] ![1, 384] (inb_cw k)).toLoadRect
/-- at a later one. -/
abbrev oB (p : FVec Ideal S31x384 .f32) (_ : List (View.Piece (Elt Ideal) S31x384 .f32)) (k : Fin 31) : FVec Ideal S1x384 .f32 := View.ld (Val := Elt Ideal) (e' := .f32) (S := S31x384) p (Rect.unit (s := S31x384) ![k.val, 0] ![1, 384] (inb_cw k))

section dw
variable (H : Args X0 X1 X2 X3 X4 X5 X6 X7 X8 X9 m c)
include H

theorem inR_apply (t : Fin 16) (k a q) : inR m c t k (ix2 a q) = ((Cc X0 X5 X6 X7 X9 (row t a + k.val) q : ℝ) : EReal) := by
  refine (rowsAt_apply _ _ _ _ (fun n q => ((Cc X0 X5 X6 X7 X9 (t.val * 256 + n - 2) (Fin.ofNat 384 q) : ℝ) : EReal)) (in_entry X0 X1 X2 X3 X4 X5 X6 X7 X8 X9 m c H t) (inC_entry X0 X1 X2 X3 X4 X5 X6 X7 X8 X9 m c H t) _ _ _ _ _ _ _ a q).trans ?_
  rw [ofNat_val, show t.val * 256 + (2 + k.val + a.val) - 2 = (row t a).val + k.val by unfold row; dsimp only; omega]

theorem wL_entry (t : Fin 16) (B o) (p : Fin 31 → Fin 384 → EReal)
    (ho : ∀ L k, (∀ y : S31x384.Idx, k.val ≤ (y 0).val → View.canon (Val := Elt Ideal) (e := .f32) L y = View.canon (Val := Elt Ideal) (e := .f32) B y) → ∀ z q, o L k (ix2 z q) = p k q) :
    ∀ n hn (y : S31x384.Idx), View.canon (Val := Elt Ideal) (e := .f32) (wL m c t B o n hn) y
      = if (y 0).val < n then p (y 0) (y 1) + ((∑ a, X2 (ix2 (row t a) (y 1)) * Cc X0 X5 X6 X7 X9 (row t a + (y 0).val) (y 1) : ℝ) : EReal) else View.canon (Val := Elt Ideal) (e := .f32) B y
  | 0, _, y => by rw [if_neg (Nat.not_lt_zero _)]; rfl
  | n + 1, hn, y => by
    have h1 : (y 1).val < 384 := (y 1).isLt
    unfold wL
    refine canon_tile n 0 1 384 _ _ _ y _ (fun a b ha hb => ?_) fun g => ?_
    · have e0 : y 0 = (⟨n, hn⟩ : Fin 31) := Fin.ext (by show (y 0).val = n; omega)
      have e1 : y 1 = (b : Fin 384) := Fin.ext (by omega)
      rw [wrow_apply, ho _ ⟨n, hn⟩ (fun y' hy => (wL_entry t B o p ho n _ y').trans (if_neg (by have : n ≤ (y' 0).val := hy; omega))), if_pos (by omega), e0, e1]
      refine congrArg _ ?_
      simp only [bcb X0 X1 X2 X3 X4 X5 X6 X7 X8 X9 m c H, inR_apply X0 X1 X2 X3 X4 X5 X6 X7 X8 X9 m c H, ← EReal.coe_mul, sum_coe]
    · refine (wL_entry t B o p ho n _ y).trans ?_
      by_cases h : (y 0).val < n
      · rw [if_pos h, if_pos (by omega)]
      · rw [if_neg h, if_neg (by omega)]

theorem out18 : (dats m 0 c).arrAt 18 (cfgs 0).N = Reference4Ideal.Read.val_main_v706 (F := Ideal) (up X0) (up X2) (up X5) (up X6) (up X7) (up X9) := by
  refine (dats m 0 c).arrAt_eq_of_after_last 18 t0_15 (by decide +kernel) _ fun j => ?_
  have e : (cfg0.win 18).arr.view.emb j = ix2 (j 0) (j 1) := by blk_ext []
  rw [e]
  refine Eq.trans ?_ (ref_dw X0 X2 X5 X6 X7 X9 _ _).symm
  blk_simp
  rw [after0_18]
  refine (Pipeline.eq_sum_fin_of_reset_step_apply_last (fun n h => (outsAt0 m c n h).2.2.2.2.2.1) 16 (fun _ => (0 : EReal))
    (fun t j => ((∑ a, X2 (ix2 (row t a) (j 1)) * Cc X0 X5 X6 X7 X9 (row t a + (j 0).val) (j 1) : ℝ) : EReal)) ?_ ?_ (by decide) t0_15 rfl j).trans ?_
  · intro t h j
    refine Eq.trans (b := View.canon (Val := Elt Ideal) (e := .f32) (wL m c t [⟨Rect.unit (s := S31x384) ![0, 0] ![31, 384] inb_S31x384_S31x384_0_0, k0_pay4 (F := Ideal)⟩] (oA (Memref.view (ms0_18 t))) 31 le_rfl) j)
      (by rw [outsAt0_A m c t h]; frame_out; sl_kernel_rfl) ?_
    refine (wL_entry X0 X1 X2 X3 X4 X5 X6 X7 X8 X9 m c H t _ _ (fun _ _ => 0) (fun L k hL z q => ?_) 31 le_rfl j).trans (if_pos (j 0).isLt)
    have y0 := Rect.idx_unit_val (s := S31x384) ![k.val, 0] ![1, 384] (inb_cw k) (ix2 z q) 0
    unfold oA
    rw [View.readCov_eq_canon']
    refine (hL _ (by rw [show (((Rect.unit (s := S31x384) ![k.val, 0] ![1, 384] (inb_cw k)).idx (ix2 z q)) 0).val = k.val + z.val from y0]; omega)).trans ?_
    change View.canon _ ((Rect.unit (s := S31x384) ![k.val, 0] ![1, 384] (inb_cw k)).idx (ix2 z q)) = _
    generalize (Rect.unit (s := S31x384) ![k.val, 0] ![1, 384] (inb_cw k)).idx (ix2 z q) = y
    have h0 : (y 0).val < 31 := (y 0).isLt
    have h1 : (y 1).val < 384 := (y 1).isLt
    refine canon_tile 0 0 31 384 _ _ _ y _ (fun a b _ _ => ?_) fun g => by omega
    unfold k0_pay4
    pointwise
  · intro t h j
    have ej : j = ix2 (j 0) (j 1) := by blk_ext []
    refine Eq.trans (b := View.canon (Val := Elt Ideal) (e := .f32) (wL m c t [] (oB (outsAt0 m c (t.val - 1) (Nat.lt_of_le_of_lt (Nat.sub_le _ _) t.isLt)).2.2.2.2.2.1) 31 le_rfl) j)
      (by rw [outsAt0_B m c t h]; frame_out; sl_kernel_rfl) ?_
    refine (wL_entry X0 X1 X2 X3 X4 X5 X6 X7 X8 X9 m c H t _ _ (fun k q => (outsAt0 m c (t.val - 1) (Nat.lt_of_le_of_lt (Nat.sub_le _ _) t.isLt)).2.2.2.2.2.1 (ix2 k q)) (fun L k _ z q => ?_) 31 le_rfl j).trans
      ((if_pos (j 0).isLt).trans (congrArg (· + _) (congrArg _ ej.symm)))
    exact View.ld_unit_apply_of (S := S31x384) _ _ _ _ _ (ix2 k q) (Fin.forall_fin_two.mpr ⟨by show k.val = k.val + z.val; omega, by show q.val = 0 + q.val; omega⟩)
  · rw [sum_coe, zero_add]
    refine congrArg _ (Eq.trans ?_ (sum_rows _))
    rfl

end dw

end Cert.MixB
end
-- ==== Proof.MixB.lean ====
/- The kernel of the mixer's second gradient and its reference compute the same seven arrays of finite arguments. -/
module

public import proofs.«01_k».proof.Defs
public import proofs.«01_k».proof.Proof.MixBOut
public import proofs.«01_k».proof.Proof.MixBDw
public import proofs.«01_k».proof.Proof.MixBRef
public import proofs.«01_k».proof.Proof.FfnIn
public import proofs.«01_k».proof.Proof.Stores
public import proofs.«01_k».proof.Proof.Gen.Kernel4Ideal.Value
public import Idealize.ShloMosaic.Lib.Pipeline.ReadBack
public import proofs.«01_k».proof.Proof.Gen.Reference4Ideal.Run
public import proofs.«01_k».proof.Proof.Gen.Reference4Ideal.Read
public import Idealize.ShloMosaic.Lib.Pipeline.ValueKit
public import Idealize.ShloMosaic.Lib.Claim
public import Idealize.ShloMosaic.Lib.Pointwise

@[expose] public section

set_option maxRecDepth 16384
set_option maxHeartbeats 2000000

noncomputable section

namespace Cert.MixB

open Cert.Kernel4Ideal Cert.Kernel4Ideal.Gen Idealize.ShloMosaic Idealize.ShloMosaic.TcCoe Idealize.SL.Sem Cert.Lift
open Idealize.ShloMosaic.Pipeline (Dat)
open Cert.FfnIn (M M_pos N row sum_rows)

variable (X0 : S4096x1024.Idx → ℝ) (X1 : S4096x768.Idx → ℝ) (X2 : S4096x384.Idx → ℝ) (X3 : S4096x256.Idx → ℝ) (X4 : S4096x1024.Idx → ℝ)
  (X5 : S1024.Idx → ℝ) (X6 X7 : S1x1024.Idx → ℝ) (X8 : S31x384.Idx → ℝ) (X9 : S1024x1792.Idx → ℝ) (m : (ℓ : Loc nD τ sig) → Buf (Elt Ideal) ℓ) (c : Dev nD)

instance : Cert.Pre_finite4.Facts where
  bcast_S_S4096x1024 := by decide
  bcast_S_S4096x768 := by decide
  bcast_S_S4096x384 := by decide
  bcast_S_S4096x256 := by decide
  bcast_S_S1024 := by decide
  bcast_S_S1x1024 := by decide
  bcast_S_S31x384 := by decide
  bcast_S_S1024x1792 := by decide

omit X0 X1 X2 X3 X4 X5 X6 X7 X8 X9 in
/-- Finite arguments are arrays of reals. -/
theorem args (h : Cert.Pre_Kernel4Ideal_finite4 m) : ∃ X0 X1 X2 X3 X4 X5 X6 X7 X8 X9, Args X0 X1 X2 X3 X4 X5 X6 X7 X8 X9 m c := by
  obtain ⟨h0, h1, h2, h3, h4, h5, h6, h7, h8, h9⟩ := h c
  obtain ⟨X0, e0⟩ := exists_reals (fun _ => ofBits_inf) h0
  obtain ⟨X1, e1⟩ := exists_reals (fun _ => ofBits_inf) h1
  obtain ⟨X2, e2⟩ := exists_reals (fun _ => ofBits_inf) h2
  obtain ⟨X3, e3⟩ := exists_reals (fun _ => ofBits_inf) h3
  obtain ⟨X4, e4⟩ := exists_reals (fun _ => ofBits_inf) h4
  obtain ⟨X5, e5⟩ := exists_reals (fun _ => ofBits_inf) h5
  obtain ⟨X6, e6⟩ := exists_reals (fun _ => ofBits_inf) h6
  obtain ⟨X7, e7⟩ := exists_reals (fun _ => ofBits_inf) h7
  obtain ⟨X8, e8⟩ := exists_reals (fun _ => ofBits_inf) h8
  obtain ⟨X9, e9⟩ := exists_reals (fun _ => ofBits_inf) h9
  exact ⟨X0, X1, X2, X3, X4, X5, X6, X7, X8, X9, e0, e1, e2, e3, e4, e5, e6, e7, e8, e9⟩

/-- An argument of the reference. -/
abbrev arg (m' : (ℓ : Loc Reference4Ideal.nD Reference4Ideal.τ Reference4Ideal.sig) → Buf (Elt Ideal) ℓ) (c : Dev Reference4Ideal.nD) (r : Ref Reference4Ideal.sig .tc) :=
  m' ((c.tc : Thread Reference4Ideal.nD Reference4Ideal.τ).loc r)

open Reference4Ideal Reference4Ideal.Read in
theorem algebraic : Cert.algebraic_Kernel4Ideal_Reference4Ideal_pre_finite4 := by
  intro m g m' g' hpre hagree
  refine ⟨fun c => (dats m 0 c).arrAt 13 (cfgs 0).N, fun c => (dats m 0 c).arrAt 14 (cfgs 0).N, fun c => (dats m 0 c).arrAt 15 (cfgs 0).N, fun c => (dats m 0 c).arrAt 16 (cfgs 0).N, fun c => (dats m 0 c).arrAt 17 (cfgs 0).N, fun c => (dats m 0 c).arrAt 18 (cfgs 0).N, fun c => (dats m 0 c).arrAt 19 (cfgs 0).N,
    Cert.Kernel4Ideal.Value.run_blocks m g,
    (θ_run _ _ _).mono (fun r h c => ?_) (Cert.Reference4Ideal.Value.run m' g')⟩
  obtain ⟨X0, X1, X2, X3, X4, X5, X6, X7, X8, X9, H⟩ := args m c hpre
  obtain ⟨a0, a1, a2, a3, a4, a5, a6, a7, a8, a9⟩ := hagree c
  obtain ⟨r0, r1, r2, r3, r4, r5, r6, k⟩ := h c
  have e0 : arg m' c Reference4Ideal.main_arg0 = up X0 := a0.trans H.h0
  have e1 : arg m' c Reference4Ideal.main_arg1 = up X1 := a1.trans H.h1
  have e2 : arg m' c Reference4Ideal.main_arg2 = up X2 := a2.trans H.h2
  have e3 : arg m' c Reference4Ideal.main_arg3 = up X3 := a3.trans H.h3
  have e4 : arg m' c Reference4Ideal.main_arg4 = up X4 := a4.trans H.h4
  have e5 : arg m' c Reference4Ideal.main_arg5 = up X5 := a5.trans H.h5
  have e6 : arg m' c Reference4Ideal.main_arg6 = up X6 := a6.trans H.h6
  have e7 : arg m' c Reference4Ideal.main_arg7 = up X7 := a7.trans H.h7
  have e8 : arg m' c Reference4Ideal.main_arg8 = up X8 := a8.trans H.h8
  have e9 : arg m' c Reference4Ideal.main_arg9 = up X9 := a9.trans H.h9
  refine ⟨r0.trans ?_, r1.trans ?_, r2.trans ?_, r3.trans ?_, r4.trans ?_, r5.trans ?_, r6.trans ?_, k⟩
  · refine (val_main_v745_eq (StableHlo.launchContents m' c)).trans ?_
    refine (show _ = val_main_v745 (F := Ideal) (arg m' c Reference4Ideal.main_arg0) (arg m' c Reference4Ideal.main_arg1) (arg m' c Reference4Ideal.main_arg2) (arg m' c Reference4Ideal.main_arg3) (arg m' c Reference4Ideal.main_arg4) (arg m' c Reference4Ideal.main_arg5) (arg m' c Reference4Ideal.main_arg6) (arg m' c Reference4Ideal.main_arg7) (arg m' c Reference4Ideal.main_arg8) (arg m' c Reference4Ideal.main_arg9) from rfl).trans ?_
    rw [e0, e1, e2, e3, e4, e5, e6, e7, e8, e9]
    exact (out13 X0 X1 X2 X3 X4 X5 X6 X7 X8 X9 m c H).symm
  · refine (val_main_v746_eq (StableHlo.launchContents m' c)).trans ?_
    refine (show _ = val_main_v746 (F := Ideal) (arg m' c Reference4Ideal.main_arg0) (arg m' c Reference4Ideal.main_arg1) (arg m' c Reference4Ideal.main_arg2) (arg m' c Reference4Ideal.main_arg3) (arg m' c Reference4Ideal.main_arg5) (arg m' c Reference4Ideal.main_arg6) (arg m' c Reference4Ideal.main_arg7) (arg m' c Reference4Ideal.main_arg8) (arg m' c Reference4Ideal.main_arg9) from rfl).trans ?_
    rw [e0, e1, e2, e3, e5, e6, e7, e8, e9]
    exact (out14 X0 X1 X2 X3 X4 X5 X6 X7 X8 X9 m c H).symm
  · refine (val_main_v719_eq (StableHlo.launchContents m' c)).trans ?_
    refine (show _ = val_main_v719 (F := Ideal) (arg m' c Reference4Ideal.main_arg0) (arg m' c Reference4Ideal.main_arg1) (arg m' c Reference4Ideal.main_arg2) (arg m' c Reference4Ideal.main_arg3) (arg m' c Reference4Ideal.main_arg5) (arg m' c Reference4Ideal.main_arg6) (arg m' c Reference4Ideal.main_arg7) (arg m' c Reference4Ideal.main_arg8) (arg m' c Reference4Ideal.main_arg9) from rfl).trans ?_
    rw [e0, e1, e2, e3, e5, e6, e7, e8, e9]
    exact (out15 X0 X1 X2 X3 X4 X5 X6 X7 X8 X9 m c H).symm
  · refine (val_main_v722_eq (StableHlo.launchContents m' c)).trans ?_
    refine (show _ = val_main_v722 (F := Ideal) (arg m' c Reference4Ideal.main_arg0) (arg m' c Reference4Ideal.main_arg1) (arg m' c Reference4Ideal.main_arg2) (arg m' c Reference4Ideal.main_arg3) (arg m' c Reference4Ideal.main_arg5) (arg m' c Reference4Ideal.main_arg6) (arg m' c Reference4Ideal.main_arg7) (arg m' c Reference4Ideal.main_arg8) (arg m' c Reference4Ideal.main_arg9) from rfl).trans ?_
    rw [e0, e1, e2, e3, e5, e6, e7, e8, e9]
    exact (out16 X0 X1 X2 X3 X4 X5 X6 X7 X8 X9 m c H).symm
  · refine (val_main_v747_eq (StableHlo.launchContents m' c)).trans ?_
    refine (show _ = val_main_v747 (F := Ideal) (arg m' c Reference4Ideal.main_arg0) (arg m' c Reference4Ideal.main_arg1) (arg m' c Reference4Ideal.main_arg2) (arg m' c Reference4Ideal.main_arg3) (arg m' c Reference4Ideal.main_arg5) (arg m' c Reference4Ideal.main_arg6) (arg m' c Reference4Ideal.main_arg7) (arg m' c Reference4Ideal.main_arg8) (arg m' c Reference4Ideal.main_arg9) from rfl).trans ?_
    rw [e0, e1, e2, e3, e5, e6, e7, e8, e9]
    exact (out17 X0 X1 X2 X3 X4 X5 X6 X7 X8 X9 m c H).symm
  · refine (val_main_v706_eq (StableHlo.launchContents m' c)).trans ?_
    refine (show _ = val_main_v706 (F := Ideal) (arg m' c Reference4Ideal.main_arg0) (arg m' c Reference4Ideal.main_arg2) (arg m' c Reference4Ideal.main_arg5) (arg m' c Reference4Ideal.main_arg6) (arg m' c Reference4Ideal.main_arg7) (arg m' c Reference4Ideal.main_arg9) from rfl).trans ?_
    rw [e0, e2, e5, e6, e7, e9]
    exact (out18 X0 X1 X2 X3 X4 X5 X6 X7 X8 X9 m c H).symm
  · refine (val_main_v748_eq (StableHlo.launchContents m' c)).trans ?_
    refine (show _ = val_main_v748 (F := Ideal) (arg m' c Reference4Ideal.main_arg2) from rfl).trans ?_
    rw [e2]
    exact (out19 X0 X1 X2 X3 X4 X5 X6 X7 X8 X9 m c H).symm

end Cert.MixB
end
-- ==== Proof.NormMod.lean ====
/- The modulated norm and its product: what the kernel leaves in its two results is what the reference leaves. Both compute
   `x · rsqrt (mean (x²) + ε) · gain · (1 + sc) + sh` in the same order, so the arguments are any extended reals. -/
module

public import proofs.«01_k».proof.Defs
public import proofs.«01_k».proof.Proof.Gen.Kernel5Ideal.Value
public import Idealize.ShloMosaic.Lib.Pipeline.ReadBack
public import proofs.«01_k».proof.Proof.Gen.Reference5Ideal.Run
public import proofs.«01_k».proof.Proof.Gen.Reference5Ideal.Read
public import Idealize.ShloMosaic.Lib.Pipeline.ValueKit
public import Idealize.ShloMosaic.Lib.Claim
public import Idealize.ShloMosaic.Lib.Pointwise

@[expose] public section

set_option maxRecDepth 16384

noncomputable section

namespace Cert.NormMod

open Cert.Kernel5Ideal Cert.Kernel5Ideal.Gen Idealize.ShloMosaic Idealize.ShloMosaic.TcCoe Idealize.SL.Sem
open Idealize.ShloMosaic.Pipeline (Dat)

variable (X0 : S4096x1024.Idx → EReal) (X1 : S1024.Idx → EReal) (X2 X3 : S1x1024.Idx → EReal) (X4 : S1024x5632.Idx → EReal)

variable (m : (ℓ : Loc nD τ sig) → Buf (Elt Ideal) ℓ) (c : Dev nD)

/-- The modulated norm. -/
def N (r : Fin 4096) (k : Fin 1024) : EReal :=
  X0 (ix2 r k) * Ideal.rsqrt (Ideal.div (∑ j, X0 (ix2 r j) * X0 (ix2 r j)) (Ideal.ofBits .f32 0x44800000#32) + Ideal.ofBits .f32 0x358637BD#32) * X1 (ix1 k)
    * (1 + X3 (ix2 0 k)) + X2 (ix2 0 k)

open Reference5Ideal.Read in
theorem ref_h (r k) : val_main_v18 (F := Ideal) X0 X1 X2 X3 (ix2 r k) = N X0 X1 X2 X3 r k := by
  pointwise [val_main_v18, val_main_v17, val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2]
  rfl

open Reference5Ideal.Read in
theorem ref_z (r l) : val_main_v19 (F := Ideal) X0 X1 X2 X3 X4 (ix2 r l) = ∑ k, N X0 X1 X2 X3 r k * X4 (ix2 k l) := by
  pointwise [val_main_v19, ref_h]

open Reference5Ideal.Read in
theorem ref_h' (r k) : val_main_v20 (F := Ideal) X0 X1 X2 X3 (ix2 r k) = N X0 X1 X2 X3 r k := by
  pointwise [val_main_v20, ref_h]

/-- Row `a` of block `t`. -/
def row (t : Fin 8) (a : Fin 512) : Fin 4096 := ⟨t.val * 512 + a.val, by omega⟩

/-- Column `q` of block `b`. -/
def col (b : Fin 4) (q : Fin 1408) : Fin 5632 := ⟨b.val * 1408 + q.val, by omega⟩

/-- The blocks' places. -/
theorem idx : ∀ t : Fin grid0.N, win0_0.index t = ![t.val, 0] ∧ win0_1.index t = ![0, 0] ∧ win0_2.index t = ![0, 0] ∧ win0_3.index t = ![0, 0]
    ∧ win0_4.index t = ![0, 0, 0] ∧ win0_5.index t = ![t.val, 0] ∧ win0_6.index t = ![t.val, 0] := by decide +kernel

/-- The arguments are `X0` … `X4`. -/
structure Args : Prop where
  h0 : m ((c.tc : Thread nD τ).loc main_arg0) = X0
  h1 : m ((c.tc : Thread nD τ).loc main_arg1) = X1
  h2 : m ((c.tc : Thread nD τ).loc main_arg2) = X2
  h3 : m ((c.tc : Thread nD τ).loc main_arg3) = X3
  h4 : m ((c.tc : Thread nD τ).loc main_arg4) = X4

section
variable (H : Args X0 X1 X2 X3 X4 m c)
include H

/-! What each block of the kernel's operands holds. -/

theorem b0 (t : Fin 8) (a k) : iblk m c 0 t (ix2 a k) = X0 (ix2 (row t a) k) := by
  rw [← H.h0]
  blk_ext [iblk, V, idx t, row]

theorem b1 (t : Fin 8) (z k) : iblk m c 1 t (ix2 z k) = X1 (ix1 k) := by
  rw [← H.h1]
  blk_simp [iblk, V]
  entry_read
  pointwise
  blk_ext [idx t]

theorem b2 (t : Fin 8) (z k) : iblk m c 2 t (ix2 z k) = 1 + X3 (ix2 0 k) := by
  rw [← H.h3]
  blk_simp [iblk, V]
  entry_read
  pointwise
  refine congrArg _ ?_
  blk_ext [idx t]

theorem b3 (t : Fin 8) (z k) : iblk m c 3 t (ix2 z k) = X2 (ix2 0 k) := by
  rw [← H.h2]
  blk_ext [iblk, V, idx t, row]

theorem b4 (t : Fin 8) (o i) (b : Fin 4) (ho : o = ![b.val, 0, 0]) (z k q) :
    View.ld (iblk m c 4 t) (Rect.unit (s := S4x1024x1408) o ![1, 1024, 1408] i) (ix3 z k q) = X4 (ix2 k (col b q)) := by
  subst ho
  rw [← H.h4]
  refine (View.ld_unit_apply_of (S := S4x1024x1408) _ _ _ _ _ (ix3 b k q) (Fin.forall_fin_succ.mpr ⟨?_, Fin.forall_fin_two.mpr ⟨?_, ?_⟩⟩)).trans ?_
  · show b.val = b.val + z.val; omega
  · show k.val = 0 + k.val; omega
  · show q.val = 0 + q.val; omega
  blk_simp [iblk, V]
  entry_read
  have e : ((cfg0.win 4).blk t).view.emb (ix3 b k q) = ix3 b k q := by blk_ext [idx t]
  refine (congrArg _ e).trans ?_
  pointwise
  blk_ext [col]

/-- A block of the modulated norm. -/
theorem pay_h (t : Fin 8) (a k) : k0_pay3 (F := Ideal) (iblk m c 0 t) (iblk m c 1 t) (iblk m c 2 t) (iblk m c 3 t) (ix2 a k)
    = N X0 X1 X2 X3 (row t a) k := by
  unfold k0_pay3
  pointwise [b0 X0 X1 X2 X3 X4 m c H, b1 X0 X1 X2 X3 X4 m c H, b2 X0 X1 X2 X3 X4 m c H, b3 X0 X1 X2 X3 X4 m c H]
  rfl

omit H in
/-- A block of columns of the product of `h` and the block's weights. -/
theorem prod (h : FVec Ideal S512x1024 .bf16) (w : FVec Ideal S1x1024x1408 .bf16) (a q) : k0_pay1 (F := Ideal) h w (ix2 a q) = ∑ k, h (ix2 a k) * w (ix3 0 k q) := by
  unfold k0_pay1
  pointwise

/-- A block of the product's columns. -/
theorem pay_z (t : Fin 8) (b : Fin 4) (o i) (ho : o = ![b.val, 0, 0]) (a q) :
    k0_pay1 (F := Ideal) (k0_pay3 (F := Ideal) (iblk m c 0 t) (iblk m c 1 t) (iblk m c 2 t) (iblk m c 3 t))
      (View.ld (iblk m c 4 t) (Rect.unit (s := S4x1024x1408) o ![1, 1024, 1408] i)) (ix2 a q)
    = ∑ k, N X0 X1 X2 X3 (row t a) k * X4 (ix2 k (col b q)) := by
  rw [prod]
  exact Finset.sum_congr rfl fun k _ => congrArg₂ _ (pay_h X0 X1 X2 X3 X4 m c H t a k) (b4 X0 X1 X2 X3 X4 m c H t o i b ho 0 k q)

omit H in
/-- The product of the last columns, and the products of the first two with the norm spelt out, are that product. -/
theorem pay2_eq : k0_pay2 (F := Ideal) = k0_pay1 (F := Ideal) := rfl

omit H in
theorem pay4_eq (x g s b w) : k0_pay4 (F := Ideal) x g s b w = k0_pay1 (F := Ideal) (k0_pay3 (F := Ideal) x g s b) w := rfl

omit H in
theorem pay5_eq (x g s b w) : k0_pay5 (F := Ideal) x g s b w = k0_pay1 (F := Ideal) (k0_pay3 (F := Ideal) x g s b) w := rfl

omit H in
theorem pay6_eq (x g s b w) : k0_pay6 (F := Ideal) x g s b w = k0_pay3 (F := Ideal) x g s b := by
  unfold k0_pay6
  frame_out

omit H in
/-- A stored block of columns is the reference's. -/
theorem tile (t : Fin 8) (b : Fin 4) (y : S512x5632.Idx) (x : S512x1408.Idx) (w : FVec Ideal S512x1408 .f32)
    (hw : ∀ a q, w (ix2 a q) = ∑ k, N X0 X1 X2 X3 (row t a) k * X4 (ix2 k (col b q))) (e0 : (y 0).val = (x 0).val) (e1 : (y 1).val = b.val * 1408 + (x 1).val) :
    w x = Reference5Ideal.Read.val_main_v19 (F := Ideal) X0 X1 X2 X3 X4 (ix2 (row t (y 0)) (y 1)) := by
  have ex : x = ix2 (x 0) (x 1) := by blk_ext []
  refine (congrArg _ ex).trans ((hw _ _).trans (Eq.trans ?_ (ref_z X0 X1 X2 X3 X4 _ _).symm))
  rw [show y 0 = x 0 from Fin.ext e0, show y 1 = col b (x 1) from Fin.ext e1]

omit H in
/-- The four blocks side by side. -/
theorem tiles (t : Fin 8) (y : S512x5632.Idx) (w0 w1 w2 w3 : FVec Ideal S512x1408 .f32) (i0 i1 i2 i3)
    (g0 : ∀ a q, w0 (ix2 a q) = ∑ k, N X0 X1 X2 X3 (row t a) k * X4 (ix2 k (col 0 q))) (g1 : ∀ a q, w1 (ix2 a q) = ∑ k, N X0 X1 X2 X3 (row t a) k * X4 (ix2 k (col 1 q)))
    (g2 : ∀ a q, w2 (ix2 a q) = ∑ k, N X0 X1 X2 X3 (row t a) k * X4 (ix2 k (col 2 q))) (g3 : ∀ a q, w3 (ix2 a q) = ∑ k, N X0 X1 X2 X3 (row t a) k * X4 (ix2 k (col 3 q))) :
    View.canon (Val := Elt Ideal) (e := .f32) [⟨Rect.unit (s := S512x5632) ![0, 4224] ![512, 1408] i3, w3⟩, ⟨Rect.unit (s := S512x5632) ![0, 2816] ![512, 1408] i2, w2⟩,
      ⟨Rect.unit (s := S512x5632) ![0, 1408] ![512, 1408] i1, w1⟩, ⟨Rect.unit (s := S512x5632) ![0, 0] ![512, 1408] i0, w0⟩] y
    = Reference5Ideal.Read.val_main_v19 (F := Ideal) X0 X1 X2 X3 X4 (ix2 (row t (y 0)) (y 1)) := by
  canon_tiles x h using View.cover_of_tiledL (s := S512x5632) _ ![512, 1408] (by sl_kernel_rfl) y
  · exact tile X0 X1 X2 X3 X4 t 3 y x _ g3 (by omega) (by omega)
  · exact tile X0 X1 X2 X3 X4 t 2 y x _ g2 (by omega) (by omega)
  · exact tile X0 X1 X2 X3 X4 t 1 y x _ g1 (by omega) (by omega)
  · exact tile X0 X1 X2 X3 X4 t 0 y x _ g0 (by omega) (by omega)

theorem out5 : (dats m 0 c).arrAt 5 (cfgs 0).N = Reference5Ideal.Read.val_main_v19 (F := Ideal) X0 X1 X2 X3 X4 := by
  refine (dats m 0 c).arrAt_eq_of_covers 5 _ (by decide +kernel) fun t hf y => ?_
  have e : (((cfgs 0).win 5).blk t).view.emb y = ix2 (row t (y 0)) (y 1) := by blk_ext [idx t, row]
  rw [e]
  blk_simp
  rw [after0_5]
  frame_out
  rw [pay2_eq, pay4_eq, pay5_eq, pay6_eq]
  exact tiles X0 X1 X2 X3 X4 t y _ _ _ _ _ _ _ _ (pay_z X0 X1 X2 X3 X4 m c H t 0 _ _ rfl) (pay_z X0 X1 X2 X3 X4 m c H t 1 _ _ rfl) (pay_z X0 X1 X2 X3 X4 m c H t 2 _ _ rfl)
    (pay_z X0 X1 X2 X3 X4 m c H t 3 _ _ rfl)

theorem out6 : (dats m 0 c).arrAt 6 (cfgs 0).N = Reference5Ideal.Read.val_main_v20 (F := Ideal) X0 X1 X2 X3 := by
  refine (dats m 0 c).arrAt_eq_of_covers 6 _ (by decide +kernel) fun t hf y => ?_
  have e : (((cfgs 0).win 6).blk t).view.emb y = ix2 (row t (y 0)) (y 1) := by blk_ext [idx t, row]
  rw [e]
  refine Eq.trans ?_ ((pay_h X0 X1 X2 X3 X4 m c H t (y 0) (y 1)).trans (ref_h' X0 X1 X2 X3 _ _).symm)
  blk_simp
  rw [after0_6]
  frame_out
  refine congrArg _ ?_
  blk_ext []

end

/-- An argument of the reference. -/
abbrev arg (m' : (ℓ : Loc Reference5Ideal.nD Reference5Ideal.τ Reference5Ideal.sig) → Buf (Elt Ideal) ℓ) (c : Dev Reference5Ideal.nD) (r : Ref Reference5Ideal.sig .tc) :=
  m' ((c.tc : Thread Reference5Ideal.nD Reference5Ideal.τ).loc r)

open Reference5Ideal Reference5Ideal.Read in
theorem algebraic : Cert.algebraic_Kernel5Ideal_Reference5Ideal := by
  intro m g m' g' _ hagree
  refine ⟨fun c => (dats m 0 c).arrAt 5 (cfgs 0).N, fun c => (dats m 0 c).arrAt 6 (cfgs 0).N,
    Cert.Kernel5Ideal.Value.run_blocks m g,
    (θ_run _ _ _).mono (fun r h c => ?_) (Cert.Reference5Ideal.Value.run m' g')⟩
  obtain ⟨a0, a1, a2, a3, a4⟩ := hagree c
  obtain ⟨r0, r1, k⟩ := h c
  refine ⟨r0.trans ?_, r1.trans ?_, k⟩
  · exact (show _ = val_main_v19 (F := Ideal) (arg m' c Reference5Ideal.main_arg0) (arg m' c Reference5Ideal.main_arg1) (arg m' c Reference5Ideal.main_arg2) (arg m' c Reference5Ideal.main_arg3) (arg m' c Reference5Ideal.main_arg4) from rfl).trans
      (out5 _ _ _ _ _ m c ⟨a0.symm, a1.symm, a2.symm, a3.symm, a4.symm⟩).symm
  · exact (show _ = val_main_v20 (F := Ideal) (arg m' c Reference5Ideal.main_arg0) (arg m' c Reference5Ideal.main_arg1) (arg m' c Reference5Ideal.main_arg2) (arg m' c Reference5Ideal.main_arg3) from rfl).trans
      (out6 _ _ _ _ _ m c ⟨a0.symm, a1.symm, a2.symm, a3.symm, a4.symm⟩).symm

end Cert.NormMod
end
-- ==== Proof.ResidFwd.lean ====
/- The output product with its normed residual: what the kernel leaves in its two results is what the reference leaves. Both
   compute `o = a @ w` and `x + gate · (o · rsqrt (mean (o²) + ε) · gain)` in the same order, so the arguments are any extended
   reals. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Claim
public import Idealize.ShloMosaic.Lib.Pointwise

@[expose] public section

set_option maxRecDepth 16384

noncomputable section

namespace Cert.ResidFwd

open Cert.Kernel6Ideal Cert.Kernel6Ideal.Gen Idealize.ShloMosaic Idealize.ShloMosaic.TcCoe Idealize.SL.Sem
open Idealize.ShloMosaic.Pipeline (Dat)

variable (X0 : S4096x2816.Idx → EReal) (X1 : S2816x1024.Idx → EReal) (X2 : S4096x1024.Idx → EReal) (X3 : S1x1024.Idx → EReal) (X4 : S1024.Idx → EReal)

variable (m : (ℓ : Loc nD τ sig) → Buf (Elt Ideal) ℓ) (c : Dev nD)

/-- The product. -/
def O (r : Fin 4096) (k : Fin 1024) : EReal := ∑ l, X0 (ix2 r l) * X1 (ix2 l k)

/-- The residual with the normed product. -/
def Y (r : Fin 4096) (k : Fin 1024) : EReal :=
  X2 (ix2 r k) + X3 (ix2 0 k) * (O X0 X1 r k * Ideal.rsqrt (Ideal.div (∑ j, O X0 X1 r j * O X0 X1 r j) (Ideal.ofBits .f32 0x44800000#32) + Ideal.ofBits .f32 0x358637BD#32) * X4 (ix1 k))

open Reference6Ideal.Read in
theorem ref_o (r k) : val_main_v0 (F := Ideal) X0 X1 (ix2 r k) = O X0 X1 r k := by
  pointwise [val_main_v0]
  rfl

open Reference6Ideal.Read in
theorem ref_y (r k) : val_main_v16 (F := Ideal) X0 X1 X2 X3 X4 (ix2 r k) = Y X0 X1 X2 X3 X4 r k := by
  pointwise [val_main_v16, val_main_v15, val_main_v14, val_main_v13, val_main_v12, val_main_v11, val_main_v10, val_main_v9, val_main_v8, val_main_v7, val_main_v6, val_main_v5, val_main_v4,
    val_main_v3, val_main_v2, val_main_v1, val_main_cst, val_main_cst_0, val_main_cst_1, ref_o]
  rfl

/-- Row `a` of block `t`. -/
def row (t : Fin 4) (a : Fin 1024) : Fin 4096 := ⟨t.val * 1024 + a.val, by omega⟩

/-- The blocks' places. -/
theorem idx : ∀ t : Fin grid0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] := by decide +kernel

/-- The arguments are `X0` … `X4`. -/
structure Args : Prop where
  h0 : m ((c.tc : Thread nD τ).loc main_arg0) = X0
  h1 : m ((c.tc : Thread nD τ).loc main_arg1) = X1
  h2 : m ((c.tc : Thread nD τ).loc main_arg2) = X2
  h3 : m ((c.tc : Thread nD τ).loc main_arg3) = X3
  h4 : m ((c.tc : Thread nD τ).loc main_arg4) = X4

section
variable (H : Args X0 X1 X2 X3 X4 m c)
include H

/-! What each block of the kernel's operands holds. -/

theorem b0 (t : Fin 4) (a k) : iblk m c 0 t (ix2 a k) = X0 (ix2 (row t a) k) := by
  rw [← H.h0]
  blk_simp [iblk, V]
  entry_read
  pointwise
  blk_ext [idx t, row]

theorem b1 (t : Fin 4) (l k) : iblk m c 1 t (ix2 l k) = X1 (ix2 l k) := by
  rw [← H.h1]
  blk_simp [iblk, V]
  entry_read
  pointwise
  blk_ext [idx t, row]

theorem b2 (t : Fin 4) (a k) : iblk m c 2 t (ix2 a k) = X2 (ix2 (row t a) k) := by
  rw [← H.h2]
  blk_ext [iblk, V, idx t, row]

theorem b3 (t : Fin 4) (z k) : iblk m c 3 t (ix2 z k) = X3 (ix2 0 k) := by
  rw [← H.h3]
  blk_ext [iblk, V, idx t, row]

theorem b4 (t : Fin 4) (z k) : iblk m c 4 t (ix2 z k) = X4 (ix1 k) := by
  rw [← H.h4]
  blk_simp [iblk, V]
  entry_read
  pointwise
  blk_ext [idx t]

/-- A block of the product. -/
theorem pay_o (t : Fin 4) (a k) : k0_pay1 (F := Ideal) (iblk m c 0 t) (iblk m c 1 t) (ix2 a k) = O X0 X1 (row t a) k := by
  unfold k0_pay1
  pointwise [b0 X0 X1 X2 X3 X4 m c H, b1 X0 X1 X2 X3 X4 m c H]
  rfl

/-- A block of the residual. -/
theorem pay_y (t : Fin 4) (a k) : k0_pay2 (F := Ideal) (iblk m c 0 t) (iblk m c 1 t) (iblk m c 2 t) (iblk m c 3 t) (iblk m c 4 t) (ix2 a k) = Y X0 X1 X2 X3 X4 (row t a) k := by
  unfold k0_pay2
  pointwise [pay_o X0 X1 X2 X3 X4 m c H, b2 X0 X1 X2 X3 X4 m c H, b3 X0 X1 X2 X3 X4 m c H, b4 X0 X1 X2 X3 X4 m c H]
  rfl

theorem out5 : (dats m 0 c).arrAt 5 (cfgs 0).N = Reference6Ideal.Read.val_main_v0 (F := Ideal) X0 X1 := by
  refine (dats m 0 c).arrAt_eq_of_covers 5 _ (by decide +kernel) fun t hf y => ?_
  have e : (((cfgs 0).win 5).blk t).view.emb y = ix2 (row t (y 0)) (y 1) := by blk_ext [idx t, row]
  rw [e]
  refine Eq.trans ?_ ((pay_o X0 X1 X2 X3 X4 m c H t (y 0) (y 1)).trans (ref_o X0 X1 _ _).symm)
  blk_simp
  rw [after0_5]
  frame_out
  refine congrArg _ ?_
  blk_ext []

theorem out6 : (dats m 0 c).arrAt 6 (cfgs 0).N = Reference6Ideal.Read.val_main_v16 (F := Ideal) X0 X1 X2 X3 X4 := by
  refine (dats m 0 c).arrAt_eq_of_covers 6 _ (by decide +kernel) fun t hf y => ?_
  have e : (((cfgs 0).win 6).blk t).view.emb y = ix2 (row t (y 0)) (y 1) := by blk_ext [idx t, row]
  rw [e]
  refine Eq.trans ?_ ((pay_y X0 X1 X2 X3 X4 m c H t (y 0) (y 1)).trans (ref_y X0 X1 X2 X3 X4 _ _).symm)
  blk_simp
  rw [after0_6]
  frame_out
  refine congrArg _ ?_
  blk_ext []

end

/-- An argument of the reference. -/
abbrev arg (m' : (ℓ : Loc Reference6Ideal.nD Reference6Ideal.τ Reference6Ideal.sig) → Buf (Elt Ideal) ℓ) (c : Dev Reference6Ideal.nD) (r : Ref Reference6Ideal.sig .tc) :=
  m' ((c.tc : Thread Reference6Ideal.nD Reference6Ideal.τ).loc r)

open Reference6Ideal Reference6Ideal.Read in
theorem algebraic : Cert.algebraic_Kernel6Ideal_Reference6Ideal := by
  intro m g m' g' _ hagree
  refine ⟨fun c => (dats m 0 c).arrAt 5 (cfgs 0).N, fun c => (dats m 0 c).arrAt 6 (cfgs 0).N,
    Cert.Kernel6Ideal.Value.run_blocks m g,
    (θ_run _ _ _).mono (fun r h c => ?_) (Cert.Reference6Ideal.Value.run m' g')⟩
  obtain ⟨a0, a1, a2, a3, a4⟩ := hagree c
  obtain ⟨r0, r1, k⟩ := h c
  refine ⟨r0.trans ?_, r1.trans ?_, k⟩
  · exact (show _ = val_main_v0 (F := Ideal) (arg m' c Reference6Ideal.main_arg0) (arg m' c Reference6Ideal.main_arg1) from rfl).trans
      (out5 _ _ _ _ _ m c ⟨a0.symm, a1.symm, a2.symm, a3.symm, a4.symm⟩).symm
  · exact (show _ = val_main_v16 (F := Ideal) (arg m' c Reference6Ideal.main_arg0) (arg m' c Reference6Ideal.main_arg1) (arg m' c Reference6Ideal.main_arg2) (arg m' c Reference6Ideal.main_arg3) (arg m' c Reference6Ideal.main_arg4) from rfl).trans
      (out6 _ _ _ _ _ m c ⟨a0.symm, a1.symm, a2.symm, a3.symm, a4.symm⟩).symm

end Cert.ResidFwd
end
-- ==== Proof.Wgrad.lean ====
/- The gradient of the up-projection's weight in four column blocks: the kernel adds up the product over two halves of the rows in
   scratch, the reference multiplies once and cuts. The arguments are any extended reals. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Claim
public import Idealize.ShloMosaic.Lib.Pointwise

@[expose] public section

set_option maxRecDepth 16384

noncomputable section

namespace Cert.Wgrad

open Cert.Kernel7Ideal Cert.Kernel7Ideal.Gen Idealize.ShloMosaic Idealize.ShloMosaic.TcCoe Idealize.SL.Sem
open Idealize.ShloMosaic.Pipeline (Dat)

variable (X0 : S4096x1024.Idx → EReal) (X1 : S4096x5632.Idx → EReal)

variable (m : (ℓ : Loc nD τ sig) → Buf (Elt Ideal) ℓ) (c : Dev nD)

/-- Column `k` of block `j`. -/
def col (j : Fin 4) (k : Fin 1408) : Fin 5632 := ⟨j.val * 1408 + k.val, by omega⟩

/-- The gradient. -/
def G (j : Fin 4) (r : Fin 1024) (k : Fin 1408) : EReal := ∑ l, X0 (ix2 l r) * X1 (ix2 l (col j k))

open Reference7Ideal.Read in
theorem ref_g (j r k) : val_main_v6 (F := Ideal) X0 X1 (ix3 j r k) = G X0 X1 j r k := by
  pointwise [val_main_v6, val_main_v5, val_main_v4, val_main_v3, val_main_v2, val_main_v1, val_main_v0]
  refine Finset.sum_congr rfl fun l _ => ?_
  blk_ext [col]

/-- Row `a` of half `t % 2`. -/
def row (t : Fin 8) (a : Fin 2048) : Fin 4096 := ⟨t.val % 2 * 2048 + a.val, by omega⟩

/-- The column block of point `t`. -/
def blk (t : Fin 8) : Fin 4 := ⟨t.val / 2, by omega⟩

/-- The blocks' places. -/
theorem idx : ∀ t : Fin grid0.N, win0_0.index t = ![t.val % 2, 0] ∧ win0_1.index t = ![t.val % 2, t.val / 2] ∧ win0_2.index t = ![t.val / 2, 0, 0] := by decide +kernel

/-- A block is written back after its second half. -/
theorem odd : ∀ t : Fin cfg0.N, (cfg0.win 2).flush t = true → t.val % 2 = 1 := by decide +kernel

/-- The arguments are `X0` … `X1`. -/
structure Args : Prop where
  h0 : m ((c.tc : Thread nD τ).loc main_arg0) = X0
  h1 : m ((c.tc : Thread nD τ).loc main_arg1) = X1

section
variable (H : Args X0 X1 m c)
include H

theorem b0 (t : Fin 8) (a r) : iblk m c 0 t (ix2 a r) = X0 (ix2 (row t a) r) := by
  rw [← H.h0]
  blk_ext [iblk, V, idx t, row]

theorem b1 (t : Fin 8) (a k) : iblk m c 1 t (ix2 a k) = X1 (ix2 (row t a) (col (blk t) k)) := by
  rw [← H.h1]
  blk_ext [iblk, V, idx t, row, blk, col]

/-- What a point adds to the scratch. -/
theorem step (acc : FVec Ideal S1024x1408 .f32) (t : Fin 8) (r k) : k0_pay2 (F := Ideal) acc (iblk m c 0 t) (iblk m c 1 t) (ix2 r k)
    = acc (ix2 r k) + ∑ a, X0 (ix2 (row t a) r) * X1 (ix2 (row t a) (col (blk t) k)) := by
  unfold k0_pay2
  pointwise [b0 X0 X1 m c H, b1 X0 X1 m c H]

/-- The scratch after a first half. -/
theorem half (n : ℕ) (h : n < cfg0.N) (h0 : n % 2 = 0) (r k) :
    (outsAt0 m c n h).2 (ix2 r k) = ∑ a, X0 (ix2 (row ⟨n, h⟩ a) r) * X1 (ix2 (row ⟨n, h⟩ a) (col (blk ⟨n, h⟩) k)) := by
  rw [outsAt0_A m c ⟨n, h⟩ h0 (by show ¬n % 2 = 1; omega)]
  frame_out
  refine (step X0 X1 m c H _ ⟨n, h⟩ r k).trans ?_
  unfold k0_pay1
  pointwise

omit H in
/-- A sum over the rows, half by half. -/
theorem sum_halves (f : Fin 4096 → EReal) : ∑ l, f l = (∑ a : Fin 2048, f ⟨a.val, by omega⟩) + ∑ a : Fin 2048, f ⟨2048 + a.val, by omega⟩ :=
  Fin.sum_univ_add (a := 2048) (b := 2048) f

/-- The two halves are all rows. -/
theorem whole (t : Fin 8) (h : t.val % 2 = 1) (acc : FVec Ideal S1024x1408 .f32)
    (ha : ∀ r k, acc (ix2 r k) = (outsAt0 m c (t.val - 1) (Nat.lt_of_le_of_lt (Nat.sub_le _ _) t.isLt)).2 (ix2 r k)) (z r k) :
    k0_pay3 (F := Ideal) (k0_pay2 (F := Ideal) acc (iblk m c 0 t) (iblk m c 1 t)) (ix3 z r k) = G X0 X1 (blk t) r k := by
  unfold k0_pay3
  pointwise [step X0 X1 m c H]
  rw [ha, half X0 X1 m c H _ _ (by omega), G]
  refine Eq.trans ?_ (sum_halves _).symm
  refine congrArg₂ (· + ·) (Finset.sum_congr rfl fun a _ => ?_) (Finset.sum_congr rfl fun a _ => ?_)
  · refine congrArg₂ (· * ·) (congrArg X0 ?_) (congrArg X1 ?_) <;> blk_ext [row, blk, col]
  · refine congrArg₂ (· * ·) (congrArg X0 ?_) (congrArg X1 ?_) <;> blk_ext [row, blk, col]

theorem out2 : (dats m 0 c).arrAt 2 (cfgs 0).N = Reference7Ideal.Read.val_main_v6 (F := Ideal) X0 X1 := by
  refine (dats m 0 c).arrAt_eq_of_covers 2 _ (by decide +kernel) fun t hf y => ?_
  have h := odd t hf
  have e : (((cfgs 0).win 2).blk t).view.emb y = ix3 (blk t) (y 1) (y 2) := by blk_ext [idx t, blk]
  rw [e]
  blk_simp
  rw [after0_2, outsAt0_B m c t (by omega) h]
  frame_out
  refine Eq.trans (congrArg _ ?_) ((whole X0 X1 m c H t h _ (fun r k => congrFun ((Memref.isWhole_whole _).read_unread _) _) (y 0) (y 1) (y 2)).trans (ref_g X0 X1 _ _ _).symm)
  blk_ext []

end

/-- An argument of the reference. -/
abbrev arg (m' : (ℓ : Loc Reference7Ideal.nD Reference7Ideal.τ Reference7Ideal.sig) → Buf (Elt Ideal) ℓ) (c : Dev Reference7Ideal.nD) (r : Ref Reference7Ideal.sig .tc) :=
  m' ((c.tc : Thread Reference7Ideal.nD Reference7Ideal.τ).loc r)

open Reference7Ideal Reference7Ideal.Read in
theorem algebraic : Cert.algebraic_Kernel7Ideal_Reference7Ideal := by
  intro m g m' g' _ hagree
  refine ⟨fun c => (dats m 0 c).arrAt 2 (cfgs 0).N,
    Cert.Kernel7Ideal.Value.run_blocks m g,
    (θ_run _ _ _).mono (fun r h c => ?_) (Cert.Reference7Ideal.Value.run m' g')⟩
  obtain ⟨a0, a1⟩ := hagree c
  obtain ⟨r0, k⟩ := h c
  refine ⟨r0.trans ?_, k⟩
  · exact (show _ = val_main_v6 (F := Ideal) (arg m' c Reference7Ideal.main_arg0) (arg m' c Reference7Ideal.main_arg1) from rfl).trans
      (out2 _ _ m c ⟨a0.symm, a1.symm⟩).symm

end Cert.Wgrad
end
-- ==== Proof.Adam.lean ====
/- One AdamW step, elementwise, as both programs compute it. -/
module

public import Idealize.ShloMosaic.Lib.Pointwise

@[expose] public section

noncomputable section

namespace Cert.Adam

open Idealize.ShloMosaic

/-- The first moment. -/
def mom (mu g : EReal) : EReal := Ideal.ofBits .f32 0x3F666666#32 * mu + Ideal.ofBits .f32 0x3DCCCCCD#32 * g

/-- The second moment. -/
def var (nu g : EReal) : EReal := Ideal.ofBits .f32 0x3F7FBE77#32 * nu + Ideal.ofBits .f32 0x3A83126F#32 * (g * g)

/-- The update, from the weight and the two moments. -/
def upd (w mu nu : EReal) : EReal :=
  Ideal.ofBits .f32 0xBA83126F#32 * (Ideal.div (Ideal.div mu (Ideal.ofBits .f32 0x3F26BD02#32))
    (Ideal.sqrt (Ideal.div nu (Ideal.ofBits .f32 0x3C231ACC#32)) + Ideal.ofBits .f32 0x322BCC77#32) + Ideal.ofBits .f32 0x3C23D70A#32 * w)

end Cert.Adam
end
-- ==== Proof.ModW.lean ====
/- The optimiser's step on the modulation's weight: the gradient is the product of the eight devices' columns with their rows, which
   the kernel adds up one by one. What the kernel leaves in its four results is what the reference leaves; the arguments are any
   extended reals. -/
module

public import proofs.«01_k».proof.Defs
public import proofs.«01_k».proof.Proof.Adam
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit
public import Idealize.ShloMosaic.Lib.Claim
public import Idealize.ShloMosaic.Lib.Pointwise

@[expose] public section

set_option maxRecDepth 16384

noncomputable section

namespace Cert.ModW

open Cert.Kernel8Ideal Cert.Kernel8Ideal.Gen Idealize.ShloMosaic Idealize.ShloMosaic.TcCoe Idealize.SL.Sem
open Idealize.ShloMosaic.Pipeline (Dat)
open Cert.Adam

variable (X0 : S1024x8.Idx → EReal) (X1 : S2x8x1536.Idx → EReal) (X2 X3 X4 : S2x1024x1536.Idx → EReal)

variable (m : (ℓ : Loc nD τ sig) → Buf (Elt Ideal) ℓ) (c : Dev nD)

/-- The gradient at an index. -/
def G (l : Fin 2) (r : Fin 1024) (k : Fin 1536) : EReal := ∑ d, X0 (ix2 r d) * X1 (ix3 l d k)

open Reference8Ideal.Read

theorem ref_g (l r k) : val_main_v1 (F := Ideal) X0 X1 (ix3 l r k) = G X0 X1 l r k := by
  pointwise [val_main_v1, val_main_v0]
  rfl

theorem ref_m (l r k) : val_main_v6 (F := Ideal) X0 X1 X3 (ix3 l r k) = mom (X3 (ix3 l r k)) (G X0 X1 l r k) := by
  pointwise [val_main_v6, val_main_v5, val_main_v4, val_main_v3, val_main_v2, val_main_cst, val_main_cst_0, ref_g]
  rfl

theorem ref_v (l r k) : val_main_v12 (F := Ideal) X0 X1 X4 (ix3 l r k) = var (X4 (ix3 l r k)) (G X0 X1 l r k) := by
  pointwise [val_main_v12, val_main_v11, val_main_v10, val_main_v9, val_main_v8, val_main_v7, val_main_cst_1, val_main_cst_2, ref_g]
  rfl

theorem ref_u (l r k) : val_main_v25 (F := Ideal) X0 X1 X2 X3 X4 (ix3 l r k)
    = upd (X2 (ix3 l r k)) (mom (X3 (ix3 l r k)) (G X0 X1 l r k)) (var (X4 (ix3 l r k)) (G X0 X1 l r k)) := by
  pointwise [val_main_v25, val_main_v24, val_main_cst_7, val_main_v23, val_main_v22, val_main_v21, val_main_cst_6, val_main_v20, val_main_v19, val_main_v18, val_main_cst_5,
    val_main_v17, val_main_v16, val_main_v15, val_main_cst_4, val_main_v14, val_main_v13, val_main_cst_3, ref_m, ref_v]
  rfl

/-! What the body stores. -/

theorem stored5 (x0 x1 x2 x3 x4) : out0_5 (F := Ideal) x0 x1 x2 x3 x4 = k0_pay12 (k0_pay6 (F := Ideal) x0 x1) (k0_pay7 (F := Ideal) x0 x1) := by
  unfold_out out0_5
  frame_out

theorem stored6 (x0 x1 x2 x3 x4) : out0_6 (F := Ideal) x0 x1 x2 x3 x4 = k0_pay1 (k0_pay11 (F := Ideal) (k0_pay6 (F := Ideal) x0 x1) (k0_pay7 (F := Ideal) x0 x1) x2 x3 x4) := by
  unfold_out out0_6
  frame_out

theorem stored7 (x0 x1 x2 x3 x4) : out0_7 (F := Ideal) x0 x1 x2 x3 x4 = k0_pay2 (k0_pay9 (F := Ideal) (k0_pay6 (F := Ideal) x0 x1) (k0_pay7 (F := Ideal) x0 x1) x3) := by
  unfold_out out0_7
  frame_out

theorem stored8 (x0 x1 x2 x3 x4) : out0_8 (F := Ideal) x0 x1 x2 x3 x4 = k0_pay3 (k0_pay10 (F := Ideal) (k0_pay6 (F := Ideal) x0 x1) (k0_pay7 (F := Ideal) x0 x1) x4) := by
  unfold_out out0_8
  frame_out

/-- The layer of block `t`. -/
def lay (t : Fin 16) : Fin 2 := ⟨t.val / 8, by omega⟩

/-- Row `a` of block `t`. -/
def row (t : Fin 16) (a : Fin 128) : Fin 1024 := ⟨t.val % 8 * 128 + a.val, by omega⟩

/-- The blocks' places. -/
theorem idx : ∀ t : Fin grid0.N, win0_0.index t = ![t.val % 8, 0] ∧ win0_1.index t = ![t.val / 8, 0, 0] ∧ win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0] := by decide +kernel

/-- The arguments are `X0` … `X4`. -/
structure Args : Prop where
  h0 : m ((c.tc : Thread nD τ).loc main_arg0) = X0
  h1 : m ((c.tc : Thread nD τ).loc main_arg1) = X1
  h2 : m ((c.tc : Thread nD τ).loc main_arg2) = X2
  h3 : m ((c.tc : Thread nD τ).loc main_arg3) = X3
  h4 : m ((c.tc : Thread nD τ).loc main_arg4) = X4

section
variable (H : Args X0 X1 X2 X3 X4 m c)
include H

/-! What each block of the kernel's operands holds. -/

theorem b0 (t : Fin 16) (a d) : iblk m c 0 t (ix2 a d) = X0 (ix2 (row t a) d) := by
  rw [← H.h0]
  blk_ext [iblk, V, idx t, lay, row]

theorem b1 (t : Fin 16) (z d k) : iblk m c 1 t (ix3 z d k) = X1 (ix3 (lay t) d k) := by
  rw [← H.h1]
  blk_ext [iblk, V, idx t, lay, row]

theorem b2 (t : Fin 16) (z a k) : iblk m c 2 t (ix3 z a k) = X2 (ix3 (lay t) (row t a) k) := by
  rw [← H.h2]
  blk_ext [iblk, V, idx t, lay, row]

theorem b3 (t : Fin 16) (z a k) : iblk m c 3 t (ix3 z a k) = X3 (ix3 (lay t) (row t a) k) := by
  rw [← H.h3]
  blk_ext [iblk, V, idx t, lay, row]

theorem b4 (t : Fin 16) (z a k) : iblk m c 4 t (ix3 z a k) = X4 (ix3 (lay t) (row t a) k) := by
  rw [← H.h4]
  blk_ext [iblk, V, idx t, lay, row]

/-! Blocks of the four results. -/

theorem pay_g (t : Fin 16) (a k) : k0_pay8 (F := Ideal) (k0_pay6 (F := Ideal) (iblk m c 0 t) (iblk m c 1 t)) (k0_pay7 (F := Ideal) (iblk m c 0 t) (iblk m c 1 t)) (ix2 a k) = G X0 X1 (lay t) (row t a) k := by
  unfold k0_pay8 k0_pay6 k0_pay7 k0_pay4 k0_pay5
  pointwise [b0 X0 X1 X2 X3 X4 m c H, b1 X0 X1 X2 X3 X4 m c H]
  rw [G, Fin.sum_univ_eight]

theorem pay_m (t : Fin 16) (a k) : k0_pay9 (F := Ideal) (k0_pay6 (F := Ideal) (iblk m c 0 t) (iblk m c 1 t)) (k0_pay7 (F := Ideal) (iblk m c 0 t) (iblk m c 1 t)) (iblk m c 3 t) (ix2 a k)
    = mom (X3 (ix3 (lay t) (row t a) k)) (G X0 X1 (lay t) (row t a) k) := by
  unfold k0_pay9
  pointwise [pay_g X0 X1 X2 X3 X4 m c H, b3 X0 X1 X2 X3 X4 m c H]
  rfl

theorem pay_v (t : Fin 16) (a k) : k0_pay10 (F := Ideal) (k0_pay6 (F := Ideal) (iblk m c 0 t) (iblk m c 1 t)) (k0_pay7 (F := Ideal) (iblk m c 0 t) (iblk m c 1 t)) (iblk m c 4 t) (ix2 a k)
    = var (X4 (ix3 (lay t) (row t a) k)) (G X0 X1 (lay t) (row t a) k) := by
  unfold k0_pay10
  pointwise [pay_g X0 X1 X2 X3 X4 m c H, b4 X0 X1 X2 X3 X4 m c H]
  rfl

theorem pay5 (t : Fin 16) (z a k) : k0_pay12 (F := Ideal) (k0_pay6 (F := Ideal) (iblk m c 0 t) (iblk m c 1 t)) (k0_pay7 (F := Ideal) (iblk m c 0 t) (iblk m c 1 t)) (ix3 z a k) = G X0 X1 (lay t) (row t a) k := by
  unfold k0_pay12
  pointwise [pay_g X0 X1 X2 X3 X4 m c H]

theorem pay6 (t : Fin 16) (z a k) : k0_pay1 (F := Ideal) (k0_pay11 (F := Ideal) (k0_pay6 (F := Ideal) (iblk m c 0 t) (iblk m c 1 t)) (k0_pay7 (F := Ideal) (iblk m c 0 t) (iblk m c 1 t)) (iblk m c 2 t) (iblk m c 3 t) (iblk m c 4 t)) (ix3 z a k)
    = upd (X2 (ix3 (lay t) (row t a) k)) (mom (X3 (ix3 (lay t) (row t a) k)) (G X0 X1 (lay t) (row t a) k)) (var (X4 (ix3 (lay t) (row t a) k)) (G X0 X1 (lay t) (row t a) k)) := by
  unfold k0_pay1 k0_pay11
  pointwise [pay_m X0 X1 X2 X3 X4 m c H, pay_v X0 X1 X2 X3 X4 m c H, b2 X0 X1 X2 X3 X4 m c H]
  rfl

theorem pay7 (t : Fin 16) (z a k) : k0_pay2 (F := Ideal) (k0_pay9 (F := Ideal) (k0_pay6 (F := Ideal) (iblk m c 0 t) (iblk m c 1 t)) (k0_pay7 (F := Ideal) (iblk m c 0 t) (iblk m c 1 t)) (iblk m c 3 t)) (ix3 z a k)
    = mom (X3 (ix3 (lay t) (row t a) k)) (G X0 X1 (lay t) (row t a) k) := by
  unfold k0_pay2
  pointwise [pay_m X0 X1 X2 X3 X4 m c H]

theorem pay8 (t : Fin 16) (z a k) : k0_pay3 (F := Ideal) (k0_pay10 (F := Ideal) (k0_pay6 (F := Ideal) (iblk m c 0 t) (iblk m c 1 t)) (k0_pay7 (F := Ideal) (iblk m c 0 t) (iblk m c 1 t)) (iblk m c 4 t)) (ix3 z a k)
    = var (X4 (ix3 (lay t) (row t a) k)) (G X0 X1 (lay t) (row t a) k) := by
  unfold k0_pay3
  pointwise [pay_v X0 X1 X2 X3 X4 m c H]

theorem out5 : (dats m 0 c).arrAt 5 (cfgs 0).N = Reference8Ideal.Read.val_main_v1 (F := Ideal) X0 X1 := by
  refine (dats m 0 c).arrAt_eq_of_covers 5 _ (by decide +kernel) fun t hf y => ?_
  have e : (((cfgs 0).win 5).blk t).view.emb y = ix3 (lay t) (row t (y 1)) (y 2) := by blk_ext [idx t, lay, row]
  rw [e]
  refine Eq.trans ?_ ((pay5 X0 X1 X2 X3 X4 m c H t (y 0) (y 1) (y 2)).trans (ref_g X0 X1 _ _ _).symm)
  blk_simp
  rw [after0_5, stored5]
  refine congrArg _ ?_
  blk_ext []

theorem out6 : (dats m 0 c).arrAt 6 (cfgs 0).N = Reference8Ideal.Read.val_main_v25 (F := Ideal) X0 X1 X2 X3 X4 := by
  refine (dats m 0 c).arrAt_eq_of_covers 6 _ (by decide +kernel) fun t hf y => ?_
  have e : (((cfgs 0).win 6).blk t).view.emb y = ix3 (lay t) (row t (y 1)) (y 2) := by blk_ext [idx t, lay, row]
  rw [e]
  refine Eq.trans ?_ ((pay6 X0 X1 X2 X3 X4 m c H t (y 0) (y 1) (y 2)).trans (ref_u X0 X1 X2 X3 X4 _ _ _).symm)
  blk_simp
  rw [after0_6, stored6]
  refine congrArg _ ?_
  blk_ext []

theorem out7 : (dats m 0 c).arrAt 7 (cfgs 0).N = Reference8Ideal.Read.val_main_v6 (F := Ideal) X0 X1 X3 := by
  refine (dats m 0 c).arrAt_eq_of_covers 7 _ (by decide +kernel) fun t hf y => ?_
  have e : (((cfgs 0).win 7).blk t).view.emb y = ix3 (lay t) (row t (y 1)) (y 2) := by blk_ext [idx t, lay, row]
  rw [e]
  refine Eq.trans ?_ ((pay7 X0 X1 X2 X3 X4 m c H t (y 0) (y 1) (y 2)).trans (ref_m X0 X1 X3 _ _ _).symm)
  blk_simp
  rw [after0_7, stored7]
  refine congrArg _ ?_
  blk_ext []

theorem out8 : (dats m 0 c).arrAt 8 (cfgs 0).N = Reference8Ideal.Read.val_main_v12 (F := Ideal) X0 X1 X4 := by
  refine (dats m 0 c).arrAt_eq_of_covers 8 _ (by decide +kernel) fun t hf y => ?_
  have e : (((cfgs 0).win 8).blk t).view.emb y = ix3 (lay t) (row t (y 1)) (y 2) := by blk_ext [idx t, lay, row]
  rw [e]
  refine Eq.trans ?_ ((pay8 X0 X1 X2 X3 X4 m c H t (y 0) (y 1) (y 2)).trans (ref_v X0 X1 X4 _ _ _).symm)
  blk_simp
  rw [after0_8, stored8]
  refine congrArg _ ?_
  blk_ext []

end

/-- An argument of the reference. -/
abbrev arg (m' : (ℓ : Loc Reference8Ideal.nD Reference8Ideal.τ Reference8Ideal.sig) → Buf (Elt Ideal) ℓ) (c : Dev Reference8Ideal.nD) (r : Ref Reference8Ideal.sig .tc) :=
  m' ((c.tc : Thread Reference8Ideal.nD Reference8Ideal.τ).loc r)

open Reference8Ideal Reference8Ideal.Read in
theorem algebraic : Cert.algebraic_Kernel8Ideal_Reference8Ideal := by
  intro m g m' g' _ hagree
  refine ⟨fun c => (dats m 0 c).arrAt 5 (cfgs 0).N, fun c => (dats m 0 c).arrAt 6 (cfgs 0).N, fun c => (dats m 0 c).arrAt 7 (cfgs 0).N, fun c => (dats m 0 c).arrAt 8 (cfgs 0).N,
    (θ_run _ _ _).mono (fun r h c => ⟨(h c).1 5, (h c).1 6, (h c).1 7, (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m g),
    (θ_run _ _ _).mono (fun r h c => ?_) (Cert.Reference8Ideal.Value.run m' g')⟩
  obtain ⟨a0, a1, a2, a3, a4⟩ := hagree c
  obtain ⟨r0, r1, r2, r3, k⟩ := h c
  refine ⟨r0.trans ?_, r1.trans ?_, r2.trans ?_, r3.trans ?_, k⟩
  · exact (show _ = val_main_v1 (F := Ideal) (arg m' c Reference8Ideal.main_arg0) (arg m' c Reference8Ideal.main_arg1) from rfl).trans
      (out5 _ _ _ _ _ m c ⟨a0.symm, a1.symm, a2.symm, a3.symm, a4.symm⟩).symm
  · exact (show _ = val_main_v25 (F := Ideal) (arg m' c Reference8Ideal.main_arg0) (arg m' c Reference8Ideal.main_arg1) (arg m' c Reference8Ideal.main_arg2) (arg m' c Reference8Ideal.main_arg3) (arg m' c Reference8Ideal.main_arg4) from rfl).trans
      (out6 _ _ _ _ _ m c ⟨a0.symm, a1.symm, a2.symm, a3.symm, a4.symm⟩).symm
  · exact (show _ = val_main_v6 (F := Ideal) (arg m' c Reference8Ideal.main_arg0) (arg m' c Reference8Ideal.main_arg1) (arg m' c Reference8Ideal.main_arg3) from rfl).trans
      (out7 _ _ _ _ _ m c ⟨a0.symm, a1.symm, a2.symm, a3.symm, a4.symm⟩).symm
  · exact (show _ = val_main_v12 (F := Ideal) (arg m' c Reference8Ideal.main_arg0) (arg m' c Reference8Ideal.main_arg1) (arg m' c Reference8Ideal.main_arg4) from rfl).trans
      (out8 _ _ _ _ _ m c ⟨a0.symm, a1.symm, a2.symm, a3.symm, a4.symm⟩).symm

end Cert.ModW
end
-- ==== Proof.AdamW.lean ====
/- The optimiser's step on one weight: the gradient is the sum of two parts. What the kernel leaves in its four results is what
   the reference leaves; the arguments are any extended reals. -/
module

public import proofs.«01_k».proof.Defs
public import proofs.«01_k».proof.Proof.Adam
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Claim
public import Idealize.ShloMosaic.Lib.Pointwise

@[expose] public section

set_option maxRecDepth 16384

noncomputable section

namespace Cert.AdamW

open Cert.Kernel9Ideal Cert.Kernel9Ideal.Gen Idealize.ShloMosaic Idealize.ShloMosaic.TcCoe Idealize.SL.Sem
open Idealize.ShloMosaic.Pipeline (Dat)
open Cert.Adam

variable (X0 X1 X2 X3 X4 : S2x1024x1408.Idx → EReal)

variable (m : (ℓ : Loc nD τ sig) → Buf (Elt Ideal) ℓ) (c : Dev nD)

/-- The gradient at an index. -/
def G (i : S2x1024x1408.Idx) : EReal := X3 i + X4 i

open Reference9Ideal.Read

theorem ref_g (l r k) : val_main_v0 (F := Ideal) X3 X4 (ix3 l r k) = G X3 X4 (ix3 l r k) := by
  pointwise [val_main_v0]
  rfl

theorem ref_m (l r k) : val_main_v5 (F := Ideal) X1 X3 X4 (ix3 l r k) = mom (X1 (ix3 l r k)) (G X3 X4 (ix3 l r k)) := by
  pointwise [val_main_v5, val_main_v4, val_main_v2, val_main_v1, val_main_cst, val_main_v3, val_main_cst_0, ref_g]
  rfl

theorem ref_v (l r k) : val_main_v11 (F := Ideal) X2 X3 X4 (ix3 l r k) = var (X2 (ix3 l r k)) (G X3 X4 (ix3 l r k)) := by
  pointwise [val_main_v11, val_main_v10, val_main_v9, val_main_v8, val_main_v7, val_main_v6, val_main_cst_1, val_main_cst_2, ref_g]
  rfl

theorem ref_u (l r k) : val_main_v24 (F := Ideal) X0 X1 X2 X3 X4 (ix3 l r k)
    = upd (X0 (ix3 l r k)) (mom (X1 (ix3 l r k)) (G X3 X4 (ix3 l r k))) (var (X2 (ix3 l r k)) (G X3 X4 (ix3 l r k))) := by
  pointwise [val_main_v24, val_main_v23, val_main_cst_7, val_main_v22, val_main_v21, val_main_v20, val_main_cst_6, val_main_v19, val_main_v18, val_main_v17, val_main_cst_5,
    val_main_v16, val_main_v15, val_main_v14, val_main_cst_4, val_main_v13, val_main_v12, val_main_cst_3, ref_m, ref_v]
  rfl

/-- The layer of block `t`. -/
def lay (t : Fin 8) : Fin 2 := ⟨t.val / 4, by omega⟩

/-- Row `a` of block `t`. -/
def row (t : Fin 8) (a : Fin 256) : Fin 1024 := ⟨t.val % 4 * 256 + a.val, by omega⟩

/-- The blocks' places. -/
theorem idx : ∀ t : Fin grid0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] := by decide +kernel

/-- The arguments are `X0` … `X4`. -/
structure Args : Prop where
  h0 : m ((c.tc : Thread nD τ).loc main_arg0) = X0
  h1 : m ((c.tc : Thread nD τ).loc main_arg1) = X1
  h2 : m ((c.tc : Thread nD τ).loc main_arg2) = X2
  h3 : m ((c.tc : Thread nD τ).loc main_arg3) = X3
  h4 : m ((c.tc : Thread nD τ).loc main_arg4) = X4

section
variable (H : Args X0 X1 X2 X3 X4 m c)
include H

/-! What each block of the kernel's operands holds. -/

theorem b0 (t : Fin 8) (z a k) : iblk m c 0 t (ix3 z a k) = X0 (ix3 (lay t) (row t a) k) := by
  rw [← H.h0]
  blk_ext [iblk, V, idx t, lay, row]

theorem b1 (t : Fin 8) (z a k) : iblk m c 1 t (ix3 z a k) = X1 (ix3 (lay t) (row t a) k) := by
  rw [← H.h1]
  blk_ext [iblk, V, idx t, lay, row]

theorem b2 (t : Fin 8) (z a k) : iblk m c 2 t (ix3 z a k) = X2 (ix3 (lay t) (row t a) k) := by
  rw [← H.h2]
  blk_ext [iblk, V, idx t, lay, row]

theorem b3 (t : Fin 8) (z a k) : iblk m c 3 t (ix3 z a k) = X3 (ix3 (lay t) (row t a) k) := by
  rw [← H.h3]
  blk_ext [iblk, V, idx t, lay, row]

theorem b4 (t : Fin 8) (z a k) : iblk m c 4 t (ix3 z a k) = X4 (ix3 (lay t) (row t a) k) := by
  rw [← H.h4]
  blk_ext [iblk, V, idx t, lay, row]

/-! Blocks of the four results. -/

theorem pay_g (t : Fin 8) (a k) : k0_pay5 (F := Ideal) (iblk m c 3 t) (iblk m c 4 t) (ix2 a k) = G X3 X4 (ix3 (lay t) (row t a) k) := by
  unfold k0_pay5
  pointwise [b3 X0 X1 X2 X3 X4 m c H, b4 X0 X1 X2 X3 X4 m c H]
  rfl

theorem pay_m (t : Fin 8) (a k) : k0_pay6 (F := Ideal) (iblk m c 3 t) (iblk m c 4 t) (iblk m c 1 t) (ix2 a k)
    = mom (X1 (ix3 (lay t) (row t a) k)) (G X3 X4 (ix3 (lay t) (row t a) k)) := by
  unfold k0_pay6
  pointwise [pay_g X0 X1 X2 X3 X4 m c H, b1 X0 X1 X2 X3 X4 m c H]
  rfl

theorem pay_v (t : Fin 8) (a k) : k0_pay7 (F := Ideal) (iblk m c 3 t) (iblk m c 4 t) (iblk m c 2 t) (ix2 a k)
    = var (X2 (ix3 (lay t) (row t a) k)) (G X3 X4 (ix3 (lay t) (row t a) k)) := by
  unfold k0_pay7
  pointwise [pay_g X0 X1 X2 X3 X4 m c H, b2 X0 X1 X2 X3 X4 m c H]
  rfl

theorem pay5 (t : Fin 8) (z a k) : k0_pay1 (F := Ideal) (k0_pay5 (F := Ideal) (iblk m c 3 t) (iblk m c 4 t)) (ix3 z a k) = G X3 X4 (ix3 (lay t) (row t a) k) := by
  unfold k0_pay1
  pointwise [pay_g X0 X1 X2 X3 X4 m c H]

theorem pay6 (t : Fin 8) (z a k) :
    k0_pay2 (F := Ideal) (k0_pay8 (F := Ideal) (iblk m c 3 t) (iblk m c 4 t) (iblk m c 0 t) (iblk m c 1 t) (iblk m c 2 t)) (k0_pay9 (F := Ideal)) (ix3 z a k)
    = upd (X0 (ix3 (lay t) (row t a) k)) (mom (X1 (ix3 (lay t) (row t a) k)) (G X3 X4 (ix3 (lay t) (row t a) k))) (var (X2 (ix3 (lay t) (row t a) k)) (G X3 X4 (ix3 (lay t) (row t a) k))) := by
  unfold k0_pay2 k0_pay8 k0_pay9
  pointwise [pay_m X0 X1 X2 X3 X4 m c H, pay_v X0 X1 X2 X3 X4 m c H, b0 X0 X1 X2 X3 X4 m c H]
  rfl

theorem pay7 (t : Fin 8) (z a k) : k0_pay3 (F := Ideal) (k0_pay6 (F := Ideal) (iblk m c 3 t) (iblk m c 4 t) (iblk m c 1 t)) (ix3 z a k)
    = mom (X1 (ix3 (lay t) (row t a) k)) (G X3 X4 (ix3 (lay t) (row t a) k)) := by
  unfold k0_pay3
  pointwise [pay_m X0 X1 X2 X3 X4 m c H]

theorem pay8 (t : Fin 8) (z a k) : k0_pay4 (F := Ideal) (k0_pay7 (F := Ideal) (iblk m c 3 t) (iblk m c 4 t) (iblk m c 2 t)) (ix3 z a k)
    = var (X2 (ix3 (lay t) (row t a) k)) (G X3 X4 (ix3 (lay t) (row t a) k)) := by
  unfold k0_pay4
  pointwise [pay_v X0 X1 X2 X3 X4 m c H]

theorem out5 : (dats m 0 c).arrAt 5 (cfgs 0).N = Reference9Ideal.Read.val_main_v0 (F := Ideal) X3 X4 := by
  refine (dats m 0 c).arrAt_eq_of_covers 5 _ (by decide +kernel) fun t hf y => ?_
  have e : (((cfgs 0).win 5).blk t).view.emb y = ix3 (lay t) (row t (y 1)) (y 2) := by blk_ext [idx t, lay, row]
  rw [e]
  refine Eq.trans ?_ ((pay5 X0 X1 X2 X3 X4 m c H t (y 0) (y 1) (y 2)).trans (ref_g X3 X4 _ _ _).symm)
  blk_simp
  rw [after0_5]
  frame_out
  refine congrArg _ ?_
  blk_ext []

theorem out6 : (dats m 0 c).arrAt 6 (cfgs 0).N = Reference9Ideal.Read.val_main_v24 (F := Ideal) X0 X1 X2 X3 X4 := by
  refine (dats m 0 c).arrAt_eq_of_covers 6 _ (by decide +kernel) fun t hf y => ?_
  have e : (((cfgs 0).win 6).blk t).view.emb y = ix3 (lay t) (row t (y 1)) (y 2) := by blk_ext [idx t, lay, row]
  rw [e]
  refine Eq.trans ?_ ((pay6 X0 X1 X2 X3 X4 m c H t (y 0) (y 1) (y 2)).trans (ref_u X0 X1 X2 X3 X4 _ _ _).symm)
  blk_simp
  rw [after0_6]
  frame_out
  refine congrArg _ ?_
  blk_ext []

theorem out7 : (dats m 0 c).arrAt 7 (cfgs 0).N = Reference9Ideal.Read.val_main_v5 (F := Ideal) X1 X3 X4 := by
  refine (dats m 0 c).arrAt_eq_of_covers 7 _ (by decide +kernel) fun t hf y => ?_
  have e : (((cfgs 0).win 7).blk t).view.emb y = ix3 (lay t) (row t (y 1)) (y 2) := by blk_ext [idx t, lay, row]
  rw [e]
  refine Eq.trans ?_ ((pay7 X0 X1 X2 X3 X4 m c H t (y 0) (y 1) (y 2)).trans (ref_m X1 X3 X4 _ _ _).symm)
  blk_simp
  rw [after0_7]
  frame_out
  refine congrArg _ ?_
  blk_ext []

theorem out8 : (dats m 0 c).arrAt 8 (cfgs 0).N = Reference9Ideal.Read.val_main_v11 (F := Ideal) X2 X3 X4 := by
  refine (dats m 0 c).arrAt_eq_of_covers 8 _ (by decide +kernel) fun t hf y => ?_
  have e : (((cfgs 0).win 8).blk t).view.emb y = ix3 (lay t) (row t (y 1)) (y 2) := by blk_ext [idx t, lay, row]
  rw [e]
  refine Eq.trans ?_ ((pay8 X0 X1 X2 X3 X4 m c H t (y 0) (y 1) (y 2)).trans (ref_v X2 X3 X4 _ _ _).symm)
  blk_simp
  rw [after0_8]
  frame_out
  refine congrArg _ ?_
  blk_ext []

end

/-- An argument of the reference. -/
abbrev arg (m' : (ℓ : Loc Reference9Ideal.nD Reference9Ideal.τ Reference9Ideal.sig) → Buf (Elt Ideal) ℓ) (c : Dev Reference9Ideal.nD) (r : Ref Reference9Ideal.sig .tc) :=
  m' ((c.tc : Thread Reference9Ideal.nD Reference9Ideal.τ).loc r)

open Reference9Ideal Reference9Ideal.Read in
theorem algebraic : Cert.algebraic_Kernel9Ideal_Reference9Ideal := by
  intro m g m' g' _ hagree
  refine ⟨fun c => (dats m 0 c).arrAt 5 (cfgs 0).N, fun c => (dats m 0 c).arrAt 6 (cfgs 0).N, fun c => (dats m 0 c).arrAt 7 (cfgs 0).N, fun c => (dats m 0 c).arrAt 8 (cfgs 0).N,
    Cert.Kernel9Ideal.Value.run_blocks m g,
    (θ_run _ _ _).mono (fun r h c => ?_) (Cert.Reference9Ideal.Value.run m' g')⟩
  obtain ⟨a0, a1, a2, a3, a4⟩ := hagree c
  obtain ⟨r0, r1, r2, r3, k⟩ := h c
  refine ⟨r0.trans ?_, r1.trans ?_, r2.trans ?_, r3.trans ?_, k⟩
  · exact (show _ = val_main_v0 (F := Ideal) (arg m' c Reference9Ideal.main_arg3) (arg m' c Reference9Ideal.main_arg4) from rfl).trans
      (out5 _ _ _ _ _ m c ⟨a0.symm, a1.symm, a2.symm, a3.symm, a4.symm⟩).symm
  · exact (show _ = val_main_v24 (F := Ideal) (arg m' c Reference9Ideal.main_arg0) (arg m' c Reference9Ideal.main_arg1) (arg m' c Reference9Ideal.main_arg2) (arg m' c Reference9Ideal.main_arg3) (arg m' c Reference9Ideal.main_arg4) from rfl).trans
      (out6 _ _ _ _ _ m c ⟨a0.symm, a1.symm, a2.symm, a3.symm, a4.symm⟩).symm
  · exact (show _ = val_main_v5 (F := Ideal) (arg m' c Reference9Ideal.main_arg1) (arg m' c Reference9Ideal.main_arg3) (arg m' c Reference9Ideal.main_arg4) from rfl).trans
      (out7 _ _ _ _ _ m c ⟨a0.symm, a1.symm, a2.symm, a3.symm, a4.symm⟩).symm
  · exact (show _ = val_main_v11 (F := Ideal) (arg m' c Reference9Ideal.main_arg2) (arg m' c Reference9Ideal.main_arg3) (arg m' c Reference9Ideal.main_arg4) from rfl).trans
      (out8 _ _ _ _ _ m c ⟨a0.symm, a1.symm, a2.symm, a3.symm, a4.symm⟩).symm

end Cert.AdamW
end
-- ==== Proof.Reduce4.lean ====
/- The sum of four devices' parts of a gradient, for two layers: the kernel adds them up one by one, the reference sums an axis. The
   arguments are any extended reals. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Claim
public import Idealize.ShloMosaic.Lib.Pointwise

@[expose] public section

set_option maxRecDepth 16384

noncomputable section

namespace Cert.Reduce4

open Cert.Kernel10Ideal Cert.Kernel10Ideal.Gen Idealize.ShloMosaic Idealize.ShloMosaic.TcCoe Idealize.SL.Sem
open Idealize.ShloMosaic.Pipeline (Dat)

variable (X0 X1 : S4x1024x1408.Idx → EReal)

variable (m : (ℓ : Loc nD τ sig) → Buf (Elt Ideal) ℓ) (c : Dev nD)

/-- The sum of the four parts. -/
def G (X : S4x1024x1408.Idx → EReal) (r : Fin 1024) (k : Fin 1408) : EReal := ∑ d, X (ix3 d r k)

open Reference10Ideal.Read in
theorem ref_g (l : Fin 2) (r k) : val_main_v6 (F := Ideal) X0 X1 (ix3 l r k) = if l.val = 0 then G X0 r k else G X1 r k := by
  have h1 : ∀ r k, val_main_v1 (F := Ideal) X0 (ix2 r k) = G X0 r k := by
    intro r k
    pointwise [val_main_v1, val_main_v0, val_main_cst]
    rfl
  have h3 : ∀ r k, val_main_v3 (F := Ideal) X1 (ix2 r k) = G X1 r k := by
    intro r k
    pointwise [val_main_v3, val_main_v2, val_main_cst_0]
    rfl
  by_cases hl : l.val = 0
  · obtain rfl : l = 0 := Fin.ext hl
    pointwise [val_main_v6, val_main_v4, h1]
  · obtain rfl : l = 1 := Fin.ext (by omega)
    pointwise [val_main_v6, val_main_v5, h3]

/-- Row `a` of block `t`. -/
def row (t : Fin 8) (a : Fin 256) : Fin 1024 := ⟨t.val % 4 * 256 + a.val, by omega⟩

/-- The layer of block `t`. -/
def lay (t : Fin 8) : Fin 2 := ⟨t.val / 4, by omega⟩

/-- The places of the blocks written, and of the blocks read while they are used. -/
theorem idx : ∀ t : Fin grid0.N, (t.val < 4 → win0_0.index t = ![0, t.val % 4, 0]) ∧ (4 ≤ t.val → win0_1.index t = ![0, t.val % 4, 0]) ∧ win0_2.index t = ![t.val / 4, t.val % 4, 0] := by
  decide +kernel

/-- The arguments are `X0` … `X1`. -/
structure Args : Prop where
  h0 : m ((c.tc : Thread nD τ).loc main_arg0) = X0
  h1 : m ((c.tc : Thread nD τ).loc main_arg1) = X1

section
variable (H : Args X0 X1 m c)
include H

/-- The sum of the four parts of a block. -/
theorem sum4 (b : FVec Ideal S4x256x1408 .bf16) (X : S4x1024x1408.Idx → EReal) (t : Fin 8) (h : ∀ d a k, b (ix3 d a k) = X (ix3 d (row t a) k)) (i0 i1 i2 i3) (z a k) :
    k0_pay1 (F := Ideal) (View.ld b (Rect.unit (s := S4x256x1408) ![0, 0, 0] ![1, 256, 1408] i0)) (View.ld b (Rect.unit (s := S4x256x1408) ![1, 0, 0] ![1, 256, 1408] i1))
      (View.ld b (Rect.unit (s := S4x256x1408) ![2, 0, 0] ![1, 256, 1408] i2)) (View.ld b (Rect.unit (s := S4x256x1408) ![3, 0, 0] ![1, 256, 1408] i3)) (ix3 z a k)
    = G X (row t a) k := by
  unfold k0_pay1
  pointwise [h]
  rw [G, Fin.sum_univ_four]

theorem b0 (t : Fin 8) (h : t.val < 4) (d a k) : iblk m c 0 t (ix3 d a k) = X0 (ix3 d (row t a) k) := by
  rw [← H.h0]
  blk_ext [iblk, V, (idx t).1 h, row]

theorem b1 (t : Fin 8) (h : 4 ≤ t.val) (d a k) : iblk m c 1 t (ix3 d a k) = X1 (ix3 d (row t a) k) := by
  rw [← H.h1]
  blk_ext [iblk, V, (idx t).2.1 h, row]

theorem out2 : (dats m 0 c).arrAt 2 (cfgs 0).N = Reference10Ideal.Read.val_main_v6 (F := Ideal) X0 X1 := by
  refine (dats m 0 c).arrAt_eq_of_covers 2 _ (by decide +kernel) fun t hf y => ?_
  have e : (((cfgs 0).win 2).blk t).view.emb y = ix3 (lay t) (row t (y 1)) (y 2) := by blk_ext [(idx t).2.2, lay, row]
  rw [e]
  refine Eq.trans ?_ (ref_g X0 X1 _ _ _).symm
  blk_simp
  rw [after0_2]
  by_cases h : t.val < 4
  · rw [if_pos (show (lay t).val = 0 by show t.val / 4 = 0; omega), outsAt0_A m c t h (by omega)]
    frame_out
    refine Eq.trans (congrArg _ ?_) (sum4 X0 X1 m c H _ X0 t (b0 X0 X1 m c H t h) _ _ _ _ (y 0) (y 1) (y 2))
    blk_ext []
  · rw [if_neg (show ¬(lay t).val = 0 by show ¬t.val / 4 = 0; omega), outsAt0_B m c t h (by omega)]
    frame_out
    refine Eq.trans (congrArg _ ?_) (sum4 X0 X1 m c H _ X1 t (b1 X0 X1 m c H t (by omega)) _ _ _ _ (y 0) (y 1) (y 2))
    blk_ext []

end

/-- An argument of the reference. -/
abbrev arg (m' : (ℓ : Loc Reference10Ideal.nD Reference10Ideal.τ Reference10Ideal.sig) → Buf (Elt Ideal) ℓ) (c : Dev Reference10Ideal.nD) (r : Ref Reference10Ideal.sig .tc) :=
  m' ((c.tc : Thread Reference10Ideal.nD Reference10Ideal.τ).loc r)

open Reference10Ideal Reference10Ideal.Read in
theorem algebraic : Cert.algebraic_Kernel10Ideal_Reference10Ideal := by
  intro m g m' g' _ hagree
  refine ⟨fun c => (dats m 0 c).arrAt 2 (cfgs 0).N,
    Cert.Kernel10Ideal.Value.run_blocks m g,
    (θ_run _ _ _).mono (fun r h c => ?_) (Cert.Reference10Ideal.Value.run m' g')⟩
  obtain ⟨a0, a1⟩ := hagree c
  obtain ⟨r0, k⟩ := h c
  refine ⟨r0.trans ?_, k⟩
  · exact (show _ = val_main_v6 (F := Ideal) (arg m' c Reference10Ideal.main_arg0) (arg m' c Reference10Ideal.main_arg1) from rfl).trans
      (out2 _ _ m c ⟨a0.symm, a1.symm⟩).symm

end Cert.Reduce4
end
-- ==== Proof.lean ====
/- The proof of the claims of the statement: each program's frame, and that each kernel and its reference compute the
   same values: of finite arguments in the first four pairs, of any arguments in the others. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.ResidBwd
public import proofs.«01_k».proof.Proof.Loss
public import proofs.«01_k».proof.Proof.FfnIn
public import proofs.«01_k».proof.Proof.MixB
public import proofs.«01_k».proof.Proof.NormMod
public import proofs.«01_k».proof.Proof.ResidFwd
public import proofs.«01_k».proof.Proof.Wgrad
public import proofs.«01_k».proof.Proof.ModW
public import proofs.«01_k».proof.Proof.AdamW
public import proofs.«01_k».proof.Proof.Reduce4
public import Idealize.ShloMosaic.Adequacy
public import Idealize.ShloMosaic.Init

@[expose] public section

noncomputable section

namespace Cert.Proof

open Idealize.ShloMosaic Idealize.SL.Sem Cert.Kernel

/-- The reference runs and leaves its arguments and every counter as they were. -/
theorem frame_ReferenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

/-- The reference runs and leaves its arguments and every counter as they were. -/
theorem frame_Reference2Ideal : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run m ρ)

/-- The reference runs and leaves its arguments and every counter as they were. -/
theorem frame_Reference3Ideal : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run m ρ)

/-- The reference runs and leaves its arguments and every counter as they were. -/
theorem frame_Reference4Ideal : Cert.quiescent_Reference4Ideal := fun m ρ _ =>
  (θ_run Cert.Reference4Ideal.defs _ _).mono (fun r h => ⟨fun c => (h c).2.2.2.2.2.2.2, sem_eq_zero_of_no_sems (by decide) r.2⟩)
    (Cert.Reference4Ideal.Value.run m ρ)

/-- The reference runs and leaves its arguments and every counter as they were. -/
theorem frame_Reference5Ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

/-- The reference runs and leaves its arguments and every counter as they were. -/
theorem frame_Reference6Ideal : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

/-- The reference runs and leaves its arguments and every counter as they were. -/
theorem frame_Reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- The reference runs and leaves its arguments and every counter as they were. -/
theorem frame_Reference8Ideal : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run m ρ)

/-- The reference runs and leaves its arguments and every counter as they were. -/
theorem frame_Reference9Ideal : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run m ρ)

/-- The reference runs and leaves its arguments and every counter as they were. -/
theorem frame_Reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem claim : Cert.Claim :=
  ⟨Cert.Kernel.Gen.facts, Cert.KernelIdeal.Gen.facts, Cert.ReferenceIdeal.Gen.facts,
    Cert.Kernel2.Gen.facts,
    Cert.Kernel2Ideal.Gen.facts, Cert.Reference2Ideal.Gen.facts,
    Cert.Kernel3.Gen.facts,
    Cert.Kernel3Ideal.Gen.facts, Cert.Reference3Ideal.Gen.facts,
    Cert.Kernel4.Gen.facts,
    Cert.Kernel4Ideal.Gen.facts, Cert.Reference4Ideal.Gen.facts,
    Cert.Kernel5.Gen.facts,
    Cert.Kernel5Ideal.Gen.facts, Cert.Reference5Ideal.Gen.facts,
    Cert.Kernel6.Gen.facts,
    Cert.Kernel6Ideal.Gen.facts, Cert.Reference6Ideal.Gen.facts,
    Cert.Kernel7.Gen.facts,
    Cert.Kernel7Ideal.Gen.facts, Cert.Reference7Ideal.Gen.facts,
    Cert.Kernel8.Gen.facts,
    Cert.Kernel8Ideal.Gen.facts, Cert.Reference8Ideal.Gen.facts,
    Cert.Kernel9.Gen.facts,
    Cert.Kernel9Ideal.Gen.facts, Cert.Reference9Ideal.Gen.facts,
    Cert.Kernel10.Gen.facts,
    Cert.Kernel10Ideal.Gen.facts, Cert.Reference10Ideal.Gen.facts,
    inferInstance, inferInstance, inferInstance, inferInstance,
    fun m ρ _ => Cert.Kernel.Gen.frame m ρ,
    fun m ρ _ => Cert.KernelIdeal.Gen.frame m ρ,
    fun m ρ _ => Cert.KernelIdeal.Gen.frame m ρ,
    frame_ReferenceIdeal, fun m ρ _ => frame_ReferenceIdeal m ρ trivial,
    fun m ρ _ => Cert.Kernel2.Gen.frame m ρ,
    fun m ρ _ => Cert.Kernel2Ideal.Gen.frame m ρ,
    fun m ρ _ => Cert.Kernel2Ideal.Gen.frame m ρ,
    frame_Reference2Ideal, fun m ρ _ => frame_Reference2Ideal m ρ trivial,
    fun m ρ _ => Cert.Kernel3.Gen.frame m ρ,
    fun m ρ _ => Cert.Kernel3Ideal.Gen.frame m ρ,
    fun m ρ _ => Cert.Kernel3Ideal.Gen.frame m ρ,
    frame_Reference3Ideal, fun m ρ _ => frame_Reference3Ideal m ρ trivial,
    fun m ρ _ => Cert.Kernel4.Gen.frame m ρ,
    fun m ρ _ => Cert.Kernel4Ideal.Gen.frame m ρ,
    fun m ρ _ => Cert.Kernel4Ideal.Gen.frame m ρ,
    frame_Reference4Ideal, fun m ρ _ => frame_Reference4Ideal m ρ trivial,
    fun m ρ _ => Cert.Kernel5.Gen.frame m ρ,
    fun m ρ _ => Cert.Kernel5Ideal.Gen.frame m ρ,
    frame_Reference5Ideal,
    fun m ρ _ => Cert.Kernel6.Gen.frame m ρ,
    fun m ρ _ => Cert.Kernel6Ideal.Gen.frame m ρ,
    frame_Reference6Ideal,
    fun m ρ _ => Cert.Kernel7.Gen.frame m ρ,
    fun m ρ _ => Cert.Kernel7Ideal.Gen.frame m ρ,
    frame_Reference7Ideal,
    fun m ρ _ => Cert.Kernel8.Gen.frame m ρ,
    fun m ρ _ => Cert.Kernel8Ideal.Gen.frame m ρ,
    frame_Reference8Ideal,
    fun m ρ _ => Cert.Kernel9.Gen.frame m ρ,
    fun m ρ _ => Cert.Kernel9Ideal.Gen.frame m ρ,
    frame_Reference9Ideal,
    fun m ρ _ => Cert.Kernel10.Gen.frame m ρ,
    fun m ρ _ => Cert.Kernel10Ideal.Gen.frame m ρ,
    frame_Reference10Ideal,
    trivial, Cert.ResidBwd.algebraic,
    trivial, Cert.Loss.algebraic,
    trivial, Cert.FfnIn.algebraic,
    trivial, Cert.MixB.algebraic,
    trivial, Cert.NormMod.algebraic,
    trivial, Cert.ResidFwd.algebraic,
    trivial, Cert.Wgrad.algebraic,
    trivial, Cert.ModW.algebraic,
    trivial, Cert.AdamW.algebraic,
    trivial, Cert.Reduce4.algebraic⟩

end Cert.Proof

end
